-- ==== Defs.lean ====
def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_GateS (m : (ℓ : Loc Cert.GateS.nD Cert.GateS.τ Cert.GateS.sig) → Buf (Elt Bits) ℓ) : Prop :=
  True

def Pre_GateSIdeal (m : (ℓ : Loc Cert.GateSIdeal.nD Cert.GateSIdeal.τ Cert.GateSIdeal.sig) → Buf (Elt Ideal) ℓ) : Prop :=
  True

def Pre_GateSRefIdeal (m : (ℓ : Loc Cert.GateSRefIdeal.nD Cert.GateSRefIdeal.τ Cert.GateSRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Scores [hPre_pages_in_pool : Cert.Pre_pages_in_pool.Facts] (m : (ℓ : Loc Cert.Scores.nD Cert.Scores.τ Cert.Scores.sig) → Buf (Elt Bits) ℓ) : Prop :=
  ∀ c : Dev Cert.Scores.nD,
    (Cert.Pre_pages_in_pool.fn (F := Bits) (m ((c.tc : Thread Cert.Scores.nD Cert.Scores.τ).loc Cert.Scores.main_arg0)) (m ((c.tc : Thread Cert.Scores.nD Cert.Scores.τ).loc Cert.Scores.main_arg1)) (m ((c.tc : Thread Cert.Scores.nD Cert.Scores.τ).loc Cert.Scores.main_arg2)) (m ((c.tc : Thread Cert.Scores.nD Cert.Scores.τ).loc Cert.Scores.main_arg3)) (m ((c.tc : Thread Cert.Scores.nD Cert.Scores.τ).loc Cert.Scores.main_arg4))) = (fun _ => 1#1)

def Pre_ScoresIdeal [hPre_pages_in_pool : Cert.Pre_pages_in_pool.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_pages_in_pool.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))) = (fun _ => 1#1)

def Pre_ScoresRefIdeal [hPre_pages_in_pool : Cert.Pre_pages_in_pool.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_pages_in_pool.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2)) (m ((c.tc : Thread Cert.ScoresRefIdeal.nD Cert.ScoresRefIdeal.τ).loc Cert.ScoresRefIdeal.main_arg3)) (m ((c.tc : Thread Cert.ScoresRefIdeal.nD Cert.ScoresRefIdeal.τ).loc Cert.ScoresRefIdeal.main_arg4))) = (fun _ => 1#1)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_GateS [hGateS : Cert.GateS.Facts] : Prop :=
  ∀ (m : (ℓ : Loc Cert.GateS.nD Cert.GateS.τ Cert.GateS.sig) → Buf (Elt Bits) ℓ) (g : Dev Cert.GateS.nD → PrngReg), Pre_GateS m →
    θ_run (Cert.GateS.defs (F := Bits)) (onTc (τ := Cert.GateS.τ) (Cert.GateS.main (F := Bits))) ⟨m, fun _ => 0, g⟩ (fun r => (∀ c : Dev Cert.GateS.nD,
      r.2.mem ((c.tc : Thread Cert.GateS.nD Cert.GateS.τ).loc Cert.GateS.main_arg0) = m ((c.tc : Thread Cert.GateS.nD Cert.GateS.τ).loc Cert.GateS.main_arg0)
      ∧ r.2.mem ((c.tc : Thread Cert.GateS.nD Cert.GateS.τ).loc Cert.GateS.main_arg1) = m ((c.tc : Thread Cert.GateS.nD Cert.GateS.τ).loc Cert.GateS.main_arg1)
      ∧ r.2.mem ((c.tc : Thread Cert.GateS.nD Cert.GateS.τ).loc Cert.GateS.main_arg2) = m ((c.tc : Thread Cert.GateS.nD Cert.GateS.τ).loc Cert.GateS.main_arg2)
      ∧ r.2.mem ((c.tc : Thread Cert.GateS.nD Cert.GateS.τ).loc Cert.GateS.main_arg3) = m ((c.tc : Thread Cert.GateS.nD Cert.GateS.τ).loc Cert.GateS.main_arg3)
      ∧ r.2.mem ((c.tc : Thread Cert.GateS.nD Cert.GateS.τ).loc Cert.GateS.main_arg4) = m ((c.tc : Thread Cert.GateS.nD Cert.GateS.τ).loc Cert.GateS.main_arg4))
      ∧ r.2.sem = fun _ => 0)

def quiescent_GateSIdeal [hGateSIdeal : Cert.GateSIdeal.Facts] : Prop :=
  ∀ (m : (ℓ : Loc Cert.GateSIdeal.nD Cert.GateSIdeal.τ Cert.GateSIdeal.sig) → Buf (Elt Ideal) ℓ) (g : Dev Cert.GateSIdeal.nD → PrngReg), Pre_GateSIdeal m →
    θ_run (Cert.GateSIdeal.defs (F := Ideal)) (onTc (τ := Cert.GateSIdeal.τ) (Cert.GateSIdeal.main (F := Ideal))) ⟨m, fun _ => 0, g⟩ (fun r => (∀ c : Dev Cert.GateSIdeal.nD,
      r.2.mem ((c.tc : Thread Cert.GateSIdeal.nD Cert.GateSIdeal.τ).loc Cert.GateSIdeal.main_arg0) = m ((c.tc : Thread Cert.GateSIdeal.nD Cert.GateSIdeal.τ).loc Cert.GateSIdeal.main_arg0)
      ∧ r.2.mem ((c.tc : Thread Cert.GateSIdeal.nD Cert.GateSIdeal.τ).loc Cert.GateSIdeal.main_arg1) = m ((c.tc : Thread Cert.GateSIdeal.nD Cert.GateSIdeal.τ).loc Cert.GateSIdeal.main_arg1)
      ∧ r.2.mem ((c.tc : Thread Cert.GateSIdeal.nD Cert.GateSIdeal.τ).loc Cert.GateSIdeal.main_arg2) = m ((c.tc : Thread Cert.GateSIdeal.nD Cert.GateSIdeal.τ).loc Cert.GateSIdeal.main_arg2)
      ∧ r.2.mem ((c.tc : Thread Cert.GateSIdeal.nD Cert.GateSIdeal.τ).loc Cert.GateSIdeal.main_arg3) = m ((c.tc : Thread Cert.GateSIdeal.nD Cert.GateSIdeal.τ).loc Cert.GateSIdeal.main_arg3)
      ∧ r.2.mem ((c.tc : Thread Cert.GateSIdeal.nD Cert.GateSIdeal.τ).loc Cert.GateSIdeal.main_arg4) = m ((c.tc : Thread Cert.GateSIdeal.nD Cert.GateSIdeal.τ).loc Cert.GateSIdeal.main_arg4))
      ∧ r.2.sem = fun _ => 0)

def quiescent_GateSRefIdeal [hGateSRefIdeal : Cert.GateSRefIdeal.Facts] : Prop :=
  ∀ (m : (ℓ : Loc Cert.GateSRefIdeal.nD Cert.GateSRefIdeal.τ Cert.GateSRefIdeal.sig) → Buf (Elt Ideal) ℓ) (g : Dev Cert.GateSRefIdeal.nD → PrngReg), Pre_GateSRefIdeal m →
    θ_run (Cert.GateSRefIdeal.defs (F := Ideal)) (onTc (τ := Cert.GateSRefIdeal.τ) (Cert.GateSRefIdeal.main (F := Ideal))) ⟨m, fun _ => 0, g⟩ (fun r => (∀ c : Dev Cert.GateSRefIdeal.nD,
      r.2.mem ((c.tc : Thread Cert.GateSRefIdeal.nD Cert.GateSRefIdeal.τ).loc Cert.GateSRefIdeal.main_arg0) = m ((c.tc : Thread Cert.GateSRefIdeal.nD Cert.GateSRefIdeal.τ).loc Cert.GateSRefIdeal.main_arg0)
      ∧ r.2.mem ((c.tc : Thread Cert.GateSRefIdeal.nD Cert.GateSRefIdeal.τ).loc Cert.GateSRefIdeal.main_arg1) = m ((c.tc : Thread Cert.GateSRefIdeal.nD Cert.GateSRefIdeal.τ).loc Cert.GateSRefIdeal.main_arg1)
      ∧ r.2.mem ((c.tc : Thread Cert.GateSRefIdeal.nD Cert.GateSRefIdeal.τ).loc Cert.GateSRefIdeal.main_arg2) = m ((c.tc : Thread Cert.GateSRefIdeal.nD Cert.GateSRefIdeal.τ).loc Cert.GateSRefIdeal.main_arg2)
      ∧ r.2.mem ((c.tc : Thread Cert.GateSRefIdeal.nD Cert.GateSRefIdeal.τ).loc Cert.GateSRefIdeal.main_arg3) = m ((c.tc : Thread Cert.GateSRefIdeal.nD Cert.GateSRefIdeal.τ).loc Cert.GateSRefIdeal.main_arg3)
      ∧ r.2.mem ((c.tc : Thread Cert.GateSRefIdeal.nD Cert.GateSRefIdeal.τ).loc Cert.GateSRefIdeal.main_arg4) = m ((c.tc : Thread Cert.GateSRefIdeal.nD Cert.GateSRefIdeal.τ).loc Cert.GateSRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Scores [hScores : Cert.Scores.Facts] [hPre_pages_in_pool : Cert.Pre_pages_in_pool.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] [hPre_pages_in_pool : Cert.Pre_pages_in_pool.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresRefIdeal [hScoresRefIdeal : Cert.ScoresRefIdeal.Facts] [hPre_pages_in_pool : Cert.Pre_pages_in_pool.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3)
      ∧ r.2.mem ((c.tc : Thread Cert.ScoresRefIdeal.nD Cert.ScoresRefIdeal.τ).loc Cert.ScoresRefIdeal.main_arg4) = m ((c.tc : Thread Cert.ScoresRefIdeal.nD Cert.ScoresRefIdeal.τ).loc Cert.ScoresRefIdeal.main_arg4))
      ∧ r.2.sem = fun _ => 0)

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v8_0)) (v1 : (c : Dev Cert.InIdeal.nD) → Buf (Elt Ideal) ((c.tc : Thread Cert.InIdeal.nD Cert.InIdeal.τ).loc Cert.InIdeal.main_v8_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v8_0) = v0 c
          ∧ r.2.mem ((c.tc : Thread Cert.InIdeal.nD Cert.InIdeal.τ).loc Cert.InIdeal.main_v8_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v27) = v0 c
          ∧ r.2.mem ((c.tc : Thread Cert.InRefIdeal.nD Cert.InRefIdeal.τ).loc Cert.InRefIdeal.main_v29) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)) →
    ∃ (v0 : (c : Dev Cert.InSIdeal.nD) → Buf (Elt Ideal) ((c.tc : Thread Cert.InSIdeal.nD Cert.InSIdeal.τ).loc Cert.InSIdeal.main_v8_0)) (v1 : (c : Dev Cert.InSIdeal.nD) → Buf (Elt Ideal) ((c.tc : Thread Cert.InSIdeal.nD Cert.InSIdeal.τ).loc Cert.InSIdeal.main_v8_1)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v8_0) = v0 c
          ∧ r.2.mem ((c.tc : Thread Cert.InSIdeal.nD Cert.InSIdeal.τ).loc Cert.InSIdeal.main_v8_1) = v1 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v27) = v0 c
          ∧ r.2.mem ((c.tc : Thread Cert.InSRefIdeal.nD Cert.InSRefIdeal.τ).loc Cert.InSRefIdeal.main_v29) = v1 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v5)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)
      ∧ m' ((c.tc : Thread Cert.XqRefIdeal.nD Cert.XqRefIdeal.τ).loc Cert.XqRefIdeal.main_arg2) = m ((c.tc : Thread Cert.XqIdeal.nD Cert.XqIdeal.τ).loc Cert.XqIdeal.main_arg2)) →
    ∃ (v0 : (c : Dev Cert.XqIdeal.nD) → Buf (Elt Ideal) ((c.tc : Thread Cert.XqIdeal.nD Cert.XqIdeal.τ).loc Cert.XqIdeal.main_v5)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v5) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v16) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1)
          ∧ r.2.mem ((c.tc : Thread Cert.XqRefIdeal.nD Cert.XqRefIdeal.τ).loc Cert.XqRefIdeal.main_arg2) = m' ((c.tc : Thread Cert.XqRefIdeal.nD Cert.XqRefIdeal.τ).loc Cert.XqRefIdeal.main_arg2))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v5)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v5) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v19) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_GateS_GateSIdeal : Prop :=
  True

def algebraic_GateSIdeal_GateSRefIdeal [hGateSIdeal : Cert.GateSIdeal.Facts] [hGateSRefIdeal : Cert.GateSRefIdeal.Facts] : Prop :=
  ∀ (m : (ℓ : Loc Cert.GateSIdeal.nD Cert.GateSIdeal.τ Cert.GateSIdeal.sig) → Buf (Elt Ideal) ℓ) (g : Dev Cert.GateSIdeal.nD → PrngReg)
    (m' : (ℓ : Loc Cert.GateSRefIdeal.nD Cert.GateSRefIdeal.τ Cert.GateSRefIdeal.sig) → Buf (Elt Ideal) ℓ) (g' : Dev Cert.GateSRefIdeal.nD → PrngReg), Pre_GateSIdeal m →
    (∀ c : Dev Cert.GateSIdeal.nD,
      m' ((c.tc : Thread Cert.GateSRefIdeal.nD Cert.GateSRefIdeal.τ).loc Cert.GateSRefIdeal.main_arg0) = m ((c.tc : Thread Cert.GateSIdeal.nD Cert.GateSIdeal.τ).loc Cert.GateSIdeal.main_arg0)
      ∧ m' ((c.tc : Thread Cert.GateSRefIdeal.nD Cert.GateSRefIdeal.τ).loc Cert.GateSRefIdeal.main_arg1) = m ((c.tc : Thread Cert.GateSIdeal.nD Cert.GateSIdeal.τ).loc Cert.GateSIdeal.main_arg1)
      ∧ m' ((c.tc : Thread Cert.GateSRefIdeal.nD Cert.GateSRefIdeal.τ).loc Cert.GateSRefIdeal.main_arg2) = m ((c.tc : Thread Cert.GateSIdeal.nD Cert.GateSIdeal.τ).loc Cert.GateSIdeal.main_arg2)
      ∧ m' ((c.tc : Thread Cert.GateSRefIdeal.nD Cert.GateSRefIdeal.τ).loc Cert.GateSRefIdeal.main_arg3) = m ((c.tc : Thread Cert.GateSIdeal.nD Cert.GateSIdeal.τ).loc Cert.GateSIdeal.main_arg3)
      ∧ m' ((c.tc : Thread Cert.GateSRefIdeal.nD Cert.GateSRefIdeal.τ).loc Cert.GateSRefIdeal.main_arg4) = m ((c.tc : Thread Cert.GateSIdeal.nD Cert.GateSIdeal.τ).loc Cert.GateSIdeal.main_arg4)) →
    ∃ (v0 : (c : Dev Cert.GateSIdeal.nD) → Buf (Elt Ideal) ((c.tc : Thread Cert.GateSIdeal.nD Cert.GateSIdeal.τ).loc Cert.GateSIdeal.main_v14_0)) (v1 : (c : Dev Cert.GateSIdeal.nD) → Buf (Elt Ideal) ((c.tc : Thread Cert.GateSIdeal.nD Cert.GateSIdeal.τ).loc Cert.GateSIdeal.main_v14_1)),
      θ_run (Cert.GateSIdeal.defs (F := Ideal)) (onTc (τ := Cert.GateSIdeal.τ) (Cert.GateSIdeal.main (F := Ideal))) ⟨m, fun _ => 0, g⟩ (fun r => ∀ c : Dev Cert.GateSIdeal.nD,
          r.2.mem ((c.tc : Thread Cert.GateSIdeal.nD Cert.GateSIdeal.τ).loc Cert.GateSIdeal.main_v14_0) = v0 c
          ∧ r.2.mem ((c.tc : Thread Cert.GateSIdeal.nD Cert.GateSIdeal.τ).loc Cert.GateSIdeal.main_v14_1) = v1 c
          ∧ r.2.mem ((c.tc : Thread Cert.GateSIdeal.nD Cert.GateSIdeal.τ).loc Cert.GateSIdeal.main_arg0) = m ((c.tc : Thread Cert.GateSIdeal.nD Cert.GateSIdeal.τ).loc Cert.GateSIdeal.main_arg0)
          ∧ r.2.mem ((c.tc : Thread Cert.GateSIdeal.nD Cert.GateSIdeal.τ).loc Cert.GateSIdeal.main_arg1) = m ((c.tc : Thread Cert.GateSIdeal.nD Cert.GateSIdeal.τ).loc Cert.GateSIdeal.main_arg1)
          ∧ r.2.mem ((c.tc : Thread Cert.GateSIdeal.nD Cert.GateSIdeal.τ).loc Cert.GateSIdeal.main_arg2) = m ((c.tc : Thread Cert.GateSIdeal.nD Cert.GateSIdeal.τ).loc Cert.GateSIdeal.main_arg2)
          ∧ r.2.mem ((c.tc : Thread Cert.GateSIdeal.nD Cert.GateSIdeal.τ).loc Cert.GateSIdeal.main_arg3) = m ((c.tc : Thread Cert.GateSIdeal.nD Cert.GateSIdeal.τ).loc Cert.GateSIdeal.main_arg3)
          ∧ r.2.mem ((c.tc : Thread Cert.GateSIdeal.nD Cert.GateSIdeal.τ).loc Cert.GateSIdeal.main_arg4) = m ((c.tc : Thread Cert.GateSIdeal.nD Cert.GateSIdeal.τ).loc Cert.GateSIdeal.main_arg4))
      ∧ θ_run (Cert.GateSRefIdeal.defs (F := Ideal)) (onTc (τ := Cert.GateSRefIdeal.τ) (Cert.GateSRefIdeal.main (F := Ideal))) ⟨m', fun _ => 0, g'⟩ (fun r => ∀ c : Dev Cert.GateSRefIdeal.nD,
          r.2.mem ((c.tc : Thread Cert.GateSRefIdeal.nD Cert.GateSRefIdeal.τ).loc Cert.GateSRefIdeal.main_v77) = v0 c
          ∧ r.2.mem ((c.tc : Thread Cert.GateSRefIdeal.nD Cert.GateSRefIdeal.τ).loc Cert.GateSRefIdeal.main_v44) = v1 c
          ∧ r.2.mem ((c.tc : Thread Cert.GateSRefIdeal.nD Cert.GateSRefIdeal.τ).loc Cert.GateSRefIdeal.main_arg0) = m' ((c.tc : Thread Cert.GateSRefIdeal.nD Cert.GateSRefIdeal.τ).loc Cert.GateSRefIdeal.main_arg0)
          ∧ r.2.mem ((c.tc : Thread Cert.GateSRefIdeal.nD Cert.GateSRefIdeal.τ).loc Cert.GateSRefIdeal.main_arg1) = m' ((c.tc : Thread Cert.GateSRefIdeal.nD Cert.GateSRefIdeal.τ).loc Cert.GateSRefIdeal.main_arg1)
          ∧ r.2.mem ((c.tc : Thread Cert.GateSRefIdeal.nD Cert.GateSRefIdeal.τ).loc Cert.GateSRefIdeal.main_arg2) = m' ((c.tc : Thread Cert.GateSRefIdeal.nD Cert.GateSRefIdeal.τ).loc Cert.GateSRefIdeal.main_arg2)
          ∧ r.2.mem ((c.tc : Thread Cert.GateSRefIdeal.nD Cert.GateSRefIdeal.τ).loc Cert.GateSRefIdeal.main_arg3) = m' ((c.tc : Thread Cert.GateSRefIdeal.nD Cert.GateSRefIdeal.τ).loc Cert.GateSRefIdeal.main_arg3)
          ∧ r.2.mem ((c.tc : Thread Cert.GateSRefIdeal.nD Cert.GateSRefIdeal.τ).loc Cert.GateSRefIdeal.main_arg4) = m' ((c.tc : Thread Cert.GateSRefIdeal.nD Cert.GateSRefIdeal.τ).loc Cert.GateSRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v5_0)) (v1 : (c : Dev Cert.GateIdeal.nD) → Buf (Elt Ideal) ((c.tc : Thread Cert.GateIdeal.nD Cert.GateIdeal.τ).loc Cert.GateIdeal.main_v5_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5_0) = v0 c
          ∧ r.2.mem ((c.tc : Thread Cert.GateIdeal.nD Cert.GateIdeal.τ).loc Cert.GateIdeal.main_v5_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v73) = v0 c
          ∧ r.2.mem ((c.tc : Thread Cert.GateRefIdeal.nD Cert.GateRefIdeal.τ).loc Cert.GateRefIdeal.main_v44) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Scores_ScoresIdeal : Prop :=
  True

def algebraic_ScoresIdeal_ScoresRefIdeal [hScoresIdeal : Cert.ScoresIdeal.Facts] [hScoresRefIdeal : Cert.ScoresRefIdeal.Facts] [hPre_pages_in_pool : Cert.Pre_pages_in_pool.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)
      ∧ m' ((c.tc : Thread Cert.ScoresRefIdeal.nD Cert.ScoresRefIdeal.τ).loc Cert.ScoresRefIdeal.main_arg3) = m ((c.tc : Thread Cert.ScoresIdeal.nD Cert.ScoresIdeal.τ).loc Cert.ScoresIdeal.main_arg3)
      ∧ m' ((c.tc : Thread Cert.ScoresRefIdeal.nD Cert.ScoresRefIdeal.τ).loc Cert.ScoresRefIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v5_0)) (v1 : (c : Dev Cert.ScoresIdeal.nD) → Buf (Elt Ideal) ((c.tc : Thread Cert.ScoresIdeal.nD Cert.ScoresIdeal.τ).loc Cert.ScoresIdeal.main_v5_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v5_0) = v0 c
          ∧ r.2.mem ((c.tc : Thread Cert.ScoresIdeal.nD Cert.ScoresIdeal.τ).loc Cert.ScoresIdeal.main_v5_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v17) = v0 c
          ∧ r.2.mem ((c.tc : Thread Cert.ScoresRefIdeal.nD Cert.ScoresRefIdeal.τ).loc Cert.ScoresRefIdeal.main_v19) = v1 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2)
          ∧ r.2.mem ((c.tc : Thread Cert.ScoresRefIdeal.nD Cert.ScoresRefIdeal.τ).loc Cert.ScoresRefIdeal.main_arg3) = m' ((c.tc : Thread Cert.ScoresRefIdeal.nD Cert.ScoresRefIdeal.τ).loc Cert.ScoresRefIdeal.main_arg3)
          ∧ r.2.mem ((c.tc : Thread Cert.ScoresRefIdeal.nD Cert.ScoresRefIdeal.τ).loc Cert.ScoresRefIdeal.main_arg4) = m' ((c.tc : Thread Cert.ScoresRefIdeal.nD Cert.ScoresRefIdeal.τ).loc Cert.ScoresRefIdeal.main_arg4))

def Claim : Prop :=
  ∃ (hIn : Cert.In.Facts) (hInIdeal : Cert.InIdeal.Facts) (hInRefIdeal : Cert.InRefIdeal.Facts) (hInS : Cert.InS.Facts) (hInSIdeal : Cert.InSIdeal.Facts) (hInSRefIdeal : Cert.InSRefIdeal.Facts) (hOut : Cert.Out.Facts) (hOutIdeal : Cert.OutIdeal.Facts) (hOutRefIdeal : Cert.OutRefIdeal.Facts) (hMemKv : Cert.MemKv.Facts) (hMemKvIdeal : Cert.MemKvIdeal.Facts) (hMemKvRefIdeal : Cert.MemKvRefIdeal.Facts) (hXq : Cert.Xq.Facts) (hXqIdeal : Cert.XqIdeal.Facts) (hXqRefIdeal : Cert.XqRefIdeal.Facts) (hCross : Cert.Cross.Facts) (hCrossIdeal : Cert.CrossIdeal.Facts) (hCrossRefIdeal : Cert.CrossRefIdeal.Facts) (hGateS : Cert.GateS.Facts) (hGateSIdeal : Cert.GateSIdeal.Facts) (hGateSRefIdeal : Cert.GateSRefIdeal.Facts) (hGate : Cert.Gate.Facts) (hGateIdeal : Cert.GateIdeal.Facts) (hGateRefIdeal : Cert.GateRefIdeal.Facts) (hScores : Cert.Scores.Facts) (hScoresIdeal : Cert.ScoresIdeal.Facts) (hScoresRefIdeal : Cert.ScoresRefIdeal.Facts) (hPre_pages_in_pool : Cert.Pre_pages_in_pool.Facts),
    quiescent_In (hIn := hIn)
    ∧ quiescent_InIdeal (hInIdeal := hInIdeal)
    ∧ quiescent_InRefIdeal (hInRefIdeal := hInRefIdeal)
    ∧ quiescent_InS (hInS := hInS)
    ∧ quiescent_InSIdeal (hInSIdeal := hInSIdeal)
    ∧ quiescent_InSRefIdeal (hInSRefIdeal := hInSRefIdeal)
    ∧ quiescent_Out (hOut := hOut)
    ∧ quiescent_OutIdeal (hOutIdeal := hOutIdeal)
    ∧ quiescent_OutRefIdeal (hOutRefIdeal := hOutRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Xq (hXq := hXq)
    ∧ quiescent_XqIdeal (hXqIdeal := hXqIdeal)
    ∧ quiescent_XqRefIdeal (hXqRefIdeal := hXqRefIdeal)
    ∧ quiescent_Cross (hCross := hCross)
    ∧ quiescent_CrossIdeal (hCrossIdeal := hCrossIdeal)
    ∧ quiescent_CrossRefIdeal (hCrossRefIdeal := hCrossRefIdeal)
    ∧ quiescent_GateS (hGateS := hGateS)
    ∧ quiescent_GateSIdeal (hGateSIdeal := hGateSIdeal)
    ∧ quiescent_GateSRefIdeal (hGateSRefIdeal := hGateSRefIdeal)
    ∧ quiescent_Gate (hGate := hGate)
    ∧ quiescent_GateIdeal (hGateIdeal := hGateIdeal)
    ∧ quiescent_GateRefIdeal (hGateRefIdeal := hGateRefIdeal)
    ∧ quiescent_Scores (hScores := hScores) (hPre_pages_in_pool := hPre_pages_in_pool)
    ∧ quiescent_ScoresIdeal (hScoresIdeal := hScoresIdeal) (hPre_pages_in_pool := hPre_pages_in_pool)
    ∧ quiescent_ScoresRefIdeal (hScoresRefIdeal := hScoresRefIdeal) (hPre_pages_in_pool := hPre_pages_in_pool)
    ∧ preserves_In_InIdeal
    ∧ algebraic_InIdeal_InRefIdeal (hInIdeal := hInIdeal) (hInRefIdeal := hInRefIdeal)
    ∧ preserves_InS_InSIdeal
    ∧ algebraic_InSIdeal_InSRefIdeal (hInSIdeal := hInSIdeal) (hInSRefIdeal := hInSRefIdeal)
    ∧ preserves_Out_OutIdeal
    ∧ algebraic_OutIdeal_OutRefIdeal (hOutIdeal := hOutIdeal) (hOutRefIdeal := hOutRefIdeal)
    ∧ preserves_MemKv_MemKvIdeal
    ∧ algebraic_MemKvIdeal_MemKvRefIdeal (hMemKvIdeal := hMemKvIdeal) (hMemKvRefIdeal := hMemKvRefIdeal)
    ∧ preserves_Xq_XqIdeal
    ∧ algebraic_XqIdeal_XqRefIdeal (hXqIdeal := hXqIdeal) (hXqRefIdeal := hXqRefIdeal)
    ∧ preserves_Cross_CrossIdeal
    ∧ algebraic_CrossIdeal_CrossRefIdeal (hCrossIdeal := hCrossIdeal) (hCrossRefIdeal := hCrossRefIdeal)
    ∧ preserves_GateS_GateSIdeal
    ∧ algebraic_GateSIdeal_GateSRefIdeal (hGateSIdeal := hGateSIdeal) (hGateSRefIdeal := hGateSRefIdeal)
    ∧ preserves_Gate_GateIdeal
    ∧ algebraic_GateIdeal_GateRefIdeal (hGateIdeal := hGateIdeal) (hGateRefIdeal := hGateRefIdeal)
    ∧ preserves_Scores_ScoresIdeal
    ∧ algebraic_ScoresIdeal_ScoresRefIdeal (hScoresIdeal := hScoresIdeal) (hScoresRefIdeal := hScoresRefIdeal) (hPre_pages_in_pool := hPre_pages_in_pool)
-- ==== Pre_pages_in_pool.lean ====
abbrev S32x64 : Shape := ⟨2, ![32, 64]⟩
abbrev S32x1x16x64 : Shape := ⟨4, ![32, 1, 16, 64]⟩
abbrev S32x1x16 : Shape := ⟨3, ![32, 1, 16]⟩
abbrev S32x1x64 : Shape := ⟨3, ![32, 1, 64]⟩
abbrev S1x2560x128x64 : Shape := ⟨4, ![1, 2560, 128, 64]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel

variable [Facts]

def fn {F : FTy → Type} [FloatOps F] (main_arg0 : IVec S32x64 32) (main_arg1 : FVec F S32x1x16x64 .f32) (main_arg2 : FVec F S32x1x16 .f32) (main_arg3 : FVec F S32x1x64 .f32) (main_arg4 : FVec F S1x2560x128x64 .f32) : IVec S_ 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 2560#32
  let main_v2 : IVec S32x64 32 := broadcastInDim S32x64 ![] bcast_S_S32x64 main_c_0
  let main_v3 : IVec S32x64 1 := cmpi .slt main_arg0 main_v2
  let main_v4 : IVec S32x64 1 := andi main_v1 main_v3
  let main_c_1 : IVec S_ 1 := constantI S_ 1 1#1
  let main_v5 : IVec S_ 1 := (fun x v => Host.reduce IntOp.andi x v reducesTo_S32x64_S_d0_1 h_S_) main_v4 main_c_1
  main_v5
-- ==== In.lean ====
abbrev S4x2048x4096 : Shape := ⟨3, ![4, 2048, 4096]⟩
abbrev S1x4096 : Shape := ⟨2, ![1, 4096]⟩
abbrev S1x4096x12368 : Shape := ⟨3, ![1, 4096, 12368]⟩
abbrev S4096x12368 : Shape := ⟨2, ![4096, 12368]⟩
abbrev S12368x4096 : Shape := ⟨2, ![12368, 4096]⟩
abbrev S80x4096 : Shape := ⟨2, ![80, 4096]⟩
abbrev S_ : Shape := ⟨0, ![]⟩
abbrev S128x4096 : Shape := ⟨2, ![128, 4096]⟩
abbrev S8192x4096 : Shape := ⟨2, ![8192, 4096]⟩
abbrev S4096 : Shape := ⟨1, ![4096]⟩
abbrev S8192x12288 : Shape := ⟨2, ![8192, 12288]⟩
abbrev S8192x128 : Shape := ⟨2, ![8192, 128]⟩
abbrev S512x4096 : Shape := ⟨2, ![512, 4096]⟩
abbrev S512x1024 : Shape := ⟨2, ![512, 1024]⟩
abbrev S512x128 : Shape := ⟨2, ![512, 128]⟩
abbrev S3x1024x4096 : Shape := ⟨3, ![3, 1024, 4096]⟩
abbrev S3 : Shape := ⟨1, ![3]⟩
abbrev S1 : Shape := ⟨1, ![1]⟩
abbrev S1x1024x4096 : Shape := ⟨3, ![1, 1024, 4096]⟩
abbrev S1024x4096 : Shape := ⟨2, ![1024, 4096]⟩
abbrev S512 : Shape := ⟨1, ![512]⟩
abbrev S512x1 : Shape := ⟨2, ![512, 1]⟩

abbrev nBuf : Space → Nat
  | .hbm => 15
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x12368, .f32⟩
  | .hbm, ⟨3, _⟩ => ⟨S4096x12368, .f32⟩
  | .hbm, ⟨4, _⟩ => ⟨S12368x4096, .f32⟩
  | .hbm, ⟨5, _⟩ => ⟨S12368x4096, .bf16⟩
  | .hbm, ⟨6, _⟩ => ⟨S80x4096, .bf16⟩
  | .hbm, ⟨7, _⟩ => ⟨S_, .i32⟩
  | .hbm, ⟨8, _⟩ => ⟨S_, .bf16⟩
  | .hbm, ⟨9, _⟩ => ⟨S128x4096, .bf16⟩
  | .hbm, ⟨10, _⟩ => ⟨S8192x4096, .f32⟩
  | .hbm, ⟨11, _⟩ => ⟨S4096, .f32⟩
  | .hbm, ⟨12, _⟩ => ⟨S1x4096, .f32⟩
  | .hbm, ⟨13, _⟩ => ⟨S8192x12288, .f32⟩
  | .hbm, ⟨14, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S128x4096, .bf16⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S512x4096, .bf16⟩
  | .local _ .vmem, ⟨9, _⟩ => ⟨S3x1024x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_14 : BitVec 32 := 0#32
  let c12_i32_15 : BitVec 32 := 12#32
  let v31 : BitVec 32 := Scalar.remsi c0_i32_14 c12_i32_15
  let c1024_i32_16 : BitVec 32 := 1024#32
  let v32 : BitVec 32 := Scalar.muli v31 c1024_i32_16
  let c4096_i32_17 : BitVec 32 := 4096#32
  let v33 : BitVec 1 := Scalar.cmpi .slt v32 c4096_i32_17
  let c80_i32_18 : BitVec 32 := 80#32
  let v34 : BitVec 32 := Scalar.addi v32 c80_i32_18
  let v35 : BitVec 32 := Scalar.select v33 v32 v34
  v35
def k0_off1 (c0_i32_14 : BitVec 32) : Fin 2 → Nat :=
  let c12_i32_15 : BitVec 32 := 12#32
  let v31 : BitVec 32 := Scalar.remsi c0_i32_14 c12_i32_15
  let c1024_i32_16 : BitVec 32 := 1024#32
  let v32 : BitVec 32 := Scalar.muli v31 c1024_i32_16
  let c4096_i32_17 : BitVec 32 := 4096#32
  let v33 : BitVec 1 := Scalar.cmpi .slt v32 c4096_i32_17
  let c80_i32_18 : BitVec 32 := 80#32
  let v34 : BitVec 32 := Scalar.addi v32 c80_i32_18
  let v35 : BitVec 32 := Scalar.select v33 v32 v34
  let v36 : BitVec 32 := v35
  let c0_i32_23 : BitVec 32 := 0#32
  ![v36.toNat, 0]
def k0_mult2 : BitVec 32 :=
  let c1_i32_24 : BitVec 32 := 1#32
  let c12_i32_25 : BitVec 32 := 12#32
  let v42 : BitVec 32 := Scalar.remsi c1_i32_24 c12_i32_25
  let c1024_i32_26 : BitVec 32 := 1024#32
  let v43 : BitVec 32 := Scalar.muli v42 c1024_i32_26
  let c4096_i32_27 : BitVec 32 := 4096#32
  let v44 : BitVec 1 := Scalar.cmpi .slt v43 c4096_i32_27
  let c80_i32_28 : BitVec 32 := 80#32
  let v45 : BitVec 32 := Scalar.addi v43 c80_i32_28
  let v46 : BitVec 32 := Scalar.select v44 v43 v45
  v46
def k0_cond2 (i : grid0.Coords) : BitVec 1 :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c192_i32 : BitVec 32 := 192#32
  let v7 : BitVec 1 := Scalar.cmpi .slt v6 c192_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c3_i32_14 : BitVec 32 := 3#32
  let v31 : BitVec 32 := Scalar.addi v1 c3_i32_14
  let c1_i32_15 : BitVec 32 := 1#32
  let v32 : BitVec 32 := Scalar.subi v31 c1_i32_15
  let c12_i32_19 : BitVec 32 := 12#32
  let v36 : BitVec 32 := Scalar.remsi v32 c12_i32_19
  let c1024_i32_20 : BitVec 32 := 1024#32
  let v37 : BitVec 32 := Scalar.muli v36 c1024_i32_20
  let c4096_i32_21 : BitVec 32 := 4096#32
  let v38 : BitVec 1 := Scalar.cmpi .slt v37 c4096_i32_21
  let c80_i32_22 : BitVec 32 := 80#32
  let v39 : BitVec 32 := Scalar.addi v37 c80_i32_22
  let v40 : BitVec 32 := Scalar.select v38 v37 v39
  v40
def k0_off2 (i : grid0.Coords) : Fin 1 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c3_i32_16 : BitVec 32 := 3#32
  let v33 : BitVec 32 := Scalar.addi v1 c3_i32_16
  let c1_i32_17 : BitVec 32 := 1#32
  let v34 : BitVec 32 := Scalar.subi v33 c1_i32_17
  let c3_i32_18 : BitVec 32 := 3#32
  let v35 : BitVec 32 := Scalar.remsi v34 c3_i32_18
  ![v35.toNat]
def k0_off3 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c3_i32_16 : BitVec 32 := 3#32
  let v33 : BitVec 32 := Scalar.addi v1 c3_i32_16
  let c1_i32_17 : BitVec 32 := 1#32
  let v34 : BitVec 32 := Scalar.subi v33 c1_i32_17
  let c3_i32_18 : BitVec 32 := 3#32
  let v35 : BitVec 32 := Scalar.remsi v34 c3_i32_18
  let c0_i32_23 : BitVec 32 := 0#32
  let c0_i32_24 : BitVec 32 := 0#32
  ![v35.toNat, 0, 0]
def k0_off4 (i : grid0.Coords) : Fin 2 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c3_i32_14 : BitVec 32 := 3#32
  let v31 : BitVec 32 := Scalar.addi v1 c3_i32_14
  let c1_i32_15 : BitVec 32 := 1#32
  let v32 : BitVec 32 := Scalar.subi v31 c1_i32_15
  let c12_i32_19 : BitVec 32 := 12#32
  let v36 : BitVec 32 := Scalar.remsi v32 c12_i32_19
  let c1024_i32_20 : BitVec 32 := 1024#32
  let v37 : BitVec 32 := Scalar.muli v36 c1024_i32_20
  let c4096_i32_21 : BitVec 32 := 4096#32
  let v38 : BitVec 1 := Scalar.cmpi .slt v37 c4096_i32_21
  let c80_i32_22 : BitVec 32 := 80#32
  let v39 : BitVec 32 := Scalar.addi v37 c80_i32_22
  let v40 : BitVec 32 := Scalar.select v38 v37 v39
  let v41 : BitVec 32 := v40
  let c0_i32_25 : BitVec 32 := 0#32
  ![v41.toNat, 0]
def k0_mult4 (i : grid0.Coords) : BitVec 32 :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c12_i32_5 : BitVec 32 := 12#32
  let v14 : BitVec 32 := Scalar.remsi v1 c12_i32_5
  let c1024_i32 : BitVec 32 := 1024#32
  let v15 : BitVec 32 := Scalar.muli v14 c1024_i32
  let c4096_i32 : BitVec 32 := 4096#32
  let v16 : BitVec 1 := Scalar.cmpi .slt v15 c4096_i32
  let c80_i32 : BitVec 32 := 80#32
  let v17 : BitVec 32 := Scalar.addi v15 c80_i32
  let v18 : BitVec 32 := Scalar.select v16 v15 v17
  v18
def k0_off5 (i : grid0.Coords) : Fin 1 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c3_i32_4 : BitVec 32 := 3#32
  let v13 : BitVec 32 := Scalar.remsi v1 c3_i32_4
  ![v13.toNat]
def k0_off6 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c3_i32_4 : BitVec 32 := 3#32
  let v13 : BitVec 32 := Scalar.remsi v1 c3_i32_4
  let c0_i32_6 : BitVec 32 := 0#32
  let c0_i32_7 : BitVec 32 := 0#32
  ![v13.toNat, 0, 0]
def k0_off7 (i : grid0.Coords) : Fin 2 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c12_i32_5 : BitVec 32 := 12#32
  let v14 : BitVec 32 := Scalar.remsi v1 c12_i32_5
  let c1024_i32 : BitVec 32 := 1024#32
  let v15 : BitVec 32 := Scalar.muli v14 c1024_i32
  let c4096_i32 : BitVec 32 := 4096#32
  let v16 : BitVec 1 := Scalar.cmpi .slt v15 c4096_i32
  let c80_i32 : BitVec 32 := 80#32
  let v17 : BitVec 32 := Scalar.addi v15 c80_i32
  let v18 : BitVec 32 := Scalar.select v16 v15 v17
  let v19 : BitVec 32 := v18
  let c0_i32_8 : BitVec 32 := 0#32
  ![v19.toNat, 0]
def k0_off8 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c3_i32_4 : BitVec 32 := 3#32
  let v13 : BitVec 32 := Scalar.remsi v1 c3_i32_4
  let v26 : Index := Scalar.indexCast v13
  let c0_10 : Index := 0#32
  let c0_11 : Index := 0#32
  ![v26.toNat, 0, 0]
def k0_cond3 (i : grid0.Coords) : BitVec 1 :=
  let arg1 : BitVec 32 := BitVec.ofNat 32 (i 1).val
  let c0_i32_2 : BitVec 32 := 0#32
  let v10 : BitVec 1 := Scalar.cmpi .eq arg1 c0_i32_2
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InRefIdeal.lean ====
abbrev S4x2048x4096 : Shape := ⟨3, ![4, 2048, 4096]⟩
abbrev S1x4096 : Shape := ⟨2, ![1, 4096]⟩
abbrev S1x4096x12368 : Shape := ⟨3, ![1, 4096, 12368]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x12368 : Shape := ⟨2, ![4096, 12368]⟩
abbrev S4x2048x12368 : Shape := ⟨3, ![4, 2048, 12368]⟩
abbrev S8192x12368 : Shape := ⟨2, ![8192, 12368]⟩
abbrev S8192x2048 : Shape := ⟨2, ![8192, 2048]⟩
abbrev S8192x512 : Shape := ⟨2, ![8192, 512]⟩
abbrev S8192x1024 : Shape := ⟨2, ![8192, 1024]⟩
abbrev S8192x64 : Shape := ⟨2, ![8192, 64]⟩
abbrev S8192x16 : Shape := ⟨2, ![8192, 16]⟩
abbrev S8192x12288 : Shape := ⟨2, ![8192, 12288]⟩
abbrev S8192x48 : Shape := ⟨2, ![8192, 48]⟩
abbrev S8192x128 : Shape := ⟨2, ![8192, 128]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x12368, .f32⟩
  | .hbm, ⟨3, _⟩ => ⟨S4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4096x12368, .f32⟩
  | .hbm, ⟨21, _⟩ => ⟨S4x2048x12368, .f32⟩
  | .hbm, ⟨22, _⟩ => ⟨S8192x12368, .f32⟩
  | .hbm, ⟨23, _⟩ => ⟨S8192x2048, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x64, .f32⟩
  | .hbm, ⟨28, _⟩ => ⟨S8192x16, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x12288, .f32⟩
  | .hbm, ⟨34, _⟩ => ⟨S_, .f32⟩
  | .hbm, ⟨35, _⟩ => ⟨S8192x48, .f32⟩
  | .hbm, ⟨36, _⟩ => ⟨S8192x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== InS.lean ====
abbrev S32x1x4096 : Shape := ⟨3, ![32, 1, 4096]⟩
abbrev S1x4096 : Shape := ⟨2, ![1, 4096]⟩
abbrev S1x4096x12368 : Shape := ⟨3, ![1, 4096, 12368]⟩
abbrev S4096x12368 : Shape := ⟨2, ![4096, 12368]⟩
abbrev S12368x4096 : Shape := ⟨2, ![12368, 4096]⟩
abbrev S80x4096 : Shape := ⟨2, ![80, 4096]⟩
abbrev S_ : Shape := ⟨0, ![]⟩
abbrev S128x4096 : Shape := ⟨2, ![128, 4096]⟩
abbrev S32x4096 : Shape := ⟨2, ![32, 4096]⟩
abbrev S4096 : Shape := ⟨1, ![4096]⟩
abbrev S32x12288 : Shape := ⟨2, ![32, 12288]⟩
abbrev S32x128 : Shape := ⟨2, ![32, 128]⟩
abbrev S32x512 : Shape := ⟨2, ![32, 512]⟩
abbrev S3x512x4096 : Shape := ⟨3, ![3, 512, 4096]⟩
abbrev S3 : Shape := ⟨1, ![3]⟩
abbrev S1 : Shape := ⟨1, ![1]⟩
abbrev S1x512x4096 : Shape := ⟨3, ![1, 512, 4096]⟩
abbrev S512x4096 : Shape := ⟨2, ![512, 4096]⟩
abbrev S32 : Shape := ⟨1, ![32]⟩
abbrev S32x1 : Shape := ⟨2, ![32, 1]⟩

abbrev nBuf : Space → Nat
  | .hbm => 15
  | .vmem => 8
  | .smem => 0
  | _ => 0

abbrev bufTy : (tb : Table) → Fin (tcTables nBuf tb) → BufTy
  | .hbm, ⟨0, _⟩ => ⟨S32x1x4096, .f32⟩
  | .hbm, ⟨1, _⟩ => ⟨S1x4096, .f32⟩
  | .hbm, ⟨2, _⟩ => ⟨S1x4096x12368, .f32⟩
  | .hbm, ⟨3, _⟩ => ⟨S4096x12368, .f32⟩
  | .hbm, ⟨4, _⟩ => ⟨S12368x4096, .f32⟩
  | .hbm, ⟨5, _⟩ => ⟨S12368x4096, .bf16⟩
  | .hbm, ⟨6, _⟩ => ⟨S80x4096, .bf16⟩
  | .hbm, ⟨7, _⟩ => ⟨S_, .i32⟩
  | .hbm, ⟨8, _⟩ => ⟨S_, .bf16⟩
  | .hbm, ⟨9, _⟩ => ⟨S128x4096, .bf16⟩
  | .hbm, ⟨10, _⟩ => ⟨S32x4096, .f32⟩
  | .hbm, ⟨11, _⟩ => ⟨S4096, .f32⟩
  | .hbm, ⟨12, _⟩ => ⟨S1x4096, .f32⟩
  | .hbm, ⟨13, _⟩ => ⟨S32x12288, .f32⟩
  | .hbm, ⟨14, _⟩ => ⟨S32x128, .f32⟩
  | .local _ .vmem, ⟨0, _⟩ => ⟨S32x4096, .f32⟩
  | .local _ .vmem, ⟨1, _⟩ => ⟨S1x4096, .f32⟩
  | .local _ .vmem, ⟨2, _⟩ => ⟨S128x4096, .bf16⟩
  | .local _ .vmem, ⟨3, _⟩ => ⟨S32x512, .f32⟩
  | .local _ .vmem, ⟨4, _⟩ => ⟨S32x512, .f32⟩
  | .local _ .vmem, ⟨5, _⟩ => ⟨S32x128, .f32⟩
  | .local _ .vmem, ⟨6, _⟩ => ⟨S32x4096, .bf16⟩
  | .local _ .vmem, ⟨7, _⟩ => ⟨S3x512x4096, .bf16⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨2, ![1, 24], ![false, false]⟩

def k0_cond1 (i : grid0.Coords) : BitVec 1 :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_15 : BitVec 32 := 0#32
  let c24_i32_16 : BitVec 32 := 24#32
  let v31 : BitVec 32 := Scalar.remsi c0_i32_15 c24_i32_16
  let c512_i32_17 : BitVec 32 := 512#32
  let v32 : BitVec 32 := Scalar.muli v31 c512_i32_17
  let c4096_i32_18 : BitVec 32 := 4096#32
  let v33 : BitVec 1 := Scalar.cmpi .slt v32 c4096_i32_18
  let c80_i32_19 : BitVec 32 := 80#32
  let v34 : BitVec 32 := Scalar.addi v32 c80_i32_19
  let v35 : BitVec 32 := Scalar.select v33 v32 v34
  v35
def k0_off1 (c0_i32_15 : BitVec 32) : Fin 2 → Nat :=
  let c24_i32_16 : BitVec 32 := 24#32
  let v31 : BitVec 32 := Scalar.remsi c0_i32_15 c24_i32_16
  let c512_i32_17 : BitVec 32 := 512#32
  let v32 : BitVec 32 := Scalar.muli v31 c512_i32_17
  let c4096_i32_18 : BitVec 32 := 4096#32
  let v33 : BitVec 1 := Scalar.cmpi .slt v32 c4096_i32_18
  let c80_i32_19 : BitVec 32 := 80#32
  let v34 : BitVec 32 := Scalar.addi v32 c80_i32_19
  let v35 : BitVec 32 := Scalar.select v33 v32 v34
  let v36 : BitVec 32 := v35
  let c0_i32_24 : BitVec 32 := 0#32
  ![v36.toNat, 0]
def k0_mult2 : BitVec 32 :=
  let c1_i32_25 : BitVec 32 := 1#32
  let c24_i32_26 : BitVec 32 := 24#32
  let v42 : BitVec 32 := Scalar.remsi c1_i32_25 c24_i32_26
  let c512_i32_27 : BitVec 32 := 512#32
  let v43 : BitVec 32 := Scalar.muli v42 c512_i32_27
  let c4096_i32_28 : BitVec 32 := 4096#32
  let v44 : BitVec 1 := Scalar.cmpi .slt v43 c4096_i32_28
  let c80_i32_29 : BitVec 32 := 80#32
  let v45 : BitVec 32 := Scalar.addi v43 c80_i32_29
  let v46 : BitVec 32 := Scalar.select v44 v43 v45
  v46
def k0_cond2 (i : grid0.Coords) : BitVec 1 :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c24_i32_1 : BitVec 32 := 24#32
  let v7 : BitVec 1 := Scalar.cmpi .slt v6 c24_i32_1
  let v8 : BitVec 32 := Scalar.extui v7
  let c0_i32_2 : BitVec 32 := 0#32
  let v9 : BitVec 1 := Scalar.cmpi .ne v8 c0_i32_2
  v9

def k0_mult3 (i : grid0.Coords) : BitVec 32 :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c3_i32_15 : BitVec 32 := 3#32
  let v31 : BitVec 32 := Scalar.addi v1 c3_i32_15
  let c1_i32_16 : BitVec 32 := 1#32
  let v32 : BitVec 32 := Scalar.subi v31 c1_i32_16
  let c24_i32_20 : BitVec 32 := 24#32
  let v36 : BitVec 32 := Scalar.remsi v32 c24_i32_20
  let c512_i32_21 : BitVec 32 := 512#32
  let v37 : BitVec 32 := Scalar.muli v36 c512_i32_21
  let c4096_i32_22 : BitVec 32 := 4096#32
  let v38 : BitVec 1 := Scalar.cmpi .slt v37 c4096_i32_22
  let c80_i32_23 : BitVec 32 := 80#32
  let v39 : BitVec 32 := Scalar.addi v37 c80_i32_23
  let v40 : BitVec 32 := Scalar.select v38 v37 v39
  v40
def k0_off2 (i : grid0.Coords) : Fin 1 → Nat :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c3_i32_17 : BitVec 32 := 3#32
  let v33 : BitVec 32 := Scalar.addi v1 c3_i32_17
  let c1_i32_18 : BitVec 32 := 1#32
  let v34 : BitVec 32 := Scalar.subi v33 c1_i32_18
  let c3_i32_19 : BitVec 32 := 3#32
  let v35 : BitVec 32 := Scalar.remsi v34 c3_i32_19
  ![v35.toNat]
def k0_off3 (i : grid0.Coords) : Fin 3 → Nat :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c3_i32_17 : BitVec 32 := 3#32
  let v33 : BitVec 32 := Scalar.addi v1 c3_i32_17
  let c1_i32_18 : BitVec 32 := 1#32
  let v34 : BitVec 32 := Scalar.subi v33 c1_i32_18
  let c3_i32_19 : BitVec 32 := 3#32
  let v35 : BitVec 32 := Scalar.remsi v34 c3_i32_19
  let c0_i32_24 : BitVec 32 := 0#32
  let c0_i32_25 : BitVec 32 := 0#32
  ![v35.toNat, 0, 0]
def k0_off4 (i : grid0.Coords) : Fin 2 → Nat :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c3_i32_15 : BitVec 32 := 3#32
  let v31 : BitVec 32 := Scalar.addi v1 c3_i32_15
  let c1_i32_16 : BitVec 32 := 1#32
  let v32 : BitVec 32 := Scalar.subi v31 c1_i32_16
  let c24_i32_20 : BitVec 32 := 24#32
  let v36 : BitVec 32 := Scalar.remsi v32 c24_i32_20
  let c512_i32_21 : BitVec 32 := 512#32
  let v37 : BitVec 32 := Scalar.muli v36 c512_i32_21
  let c4096_i32_22 : BitVec 32 := 4096#32
  let v38 : BitVec 1 := Scalar.cmpi .slt v37 c4096_i32_22
  let c80_i32_23 : BitVec 32 := 80#32
  let v39 : BitVec 32 := Scalar.addi v37 c80_i32_23
  let v40 : BitVec 32 := Scalar.select v38 v37 v39
  let v41 : BitVec 32 := v40
  let c0_i32_26 : BitVec 32 := 0#32
  ![v41.toNat, 0]
def k0_mult4 (i : grid0.Coords) : BitVec 32 :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c24_i32_6 : BitVec 32 := 24#32
  let v14 : BitVec 32 := Scalar.remsi v1 c24_i32_6
  let c512_i32 : BitVec 32 := 512#32
  let v15 : BitVec 32 := Scalar.muli v14 c512_i32
  let c4096_i32 : BitVec 32 := 4096#32
  let v16 : BitVec 1 := Scalar.cmpi .slt v15 c4096_i32
  let c80_i32 : BitVec 32 := 80#32
  let v17 : BitVec 32 := Scalar.addi v15 c80_i32
  let v18 : BitVec 32 := Scalar.select v16 v15 v17
  v18
def k0_off5 (i : grid0.Coords) : Fin 1 → Nat :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c3_i32_5 : BitVec 32 := 3#32
  let v13 : BitVec 32 := Scalar.remsi v1 c3_i32_5
  ![v13.toNat]
def k0_off6 (i : grid0.Coords) : Fin 3 → Nat :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c3_i32_5 : BitVec 32 := 3#32
  let v13 : BitVec 32 := Scalar.remsi v1 c3_i32_5
  let c0_i32_7 : BitVec 32 := 0#32
  let c0_i32_8 : BitVec 32 := 0#32
  ![v13.toNat, 0, 0]
def k0_off7 (i : grid0.Coords) : Fin 2 → Nat :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c24_i32_6 : BitVec 32 := 24#32
  let v14 : BitVec 32 := Scalar.remsi v1 c24_i32_6
  let c512_i32 : BitVec 32 := 512#32
  let v15 : BitVec 32 := Scalar.muli v14 c512_i32
  let c4096_i32 : BitVec 32 := 4096#32
  let v16 : BitVec 1 := Scalar.cmpi .slt v15 c4096_i32
  let c80_i32 : BitVec 32 := 80#32
  let v17 : BitVec 32 := Scalar.addi v15 c80_i32
  let v18 : BitVec 32 := Scalar.select v16 v15 v17
  let v19 : BitVec 32 := v18
  let c0_i32_9 : BitVec 32 := 0#32
  ![v19.toNat, 0]
def k0_off8 (i : grid0.Coords) : Fin 3 → Nat :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c3_i32_5 : BitVec 32 := 3#32
  let v13 : BitVec 32 := Scalar.remsi v1 c3_i32_5
  let v26 : Index := Scalar.indexCast v13
  let c0_11 : Index := 0#32
  let c0_12 : Index := 0#32
  ![v26.toNat, 0, 0]
def k0_cond3 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== InSRefIdeal.lean ====
abbrev S32x1x4096 : Shape := ⟨3, ![32, 1, 4096]⟩
abbrev S1x4096 : Shape := ⟨2, ![1, 4096]⟩
abbrev S1x4096x12368 : Shape := ⟨3, ![1, 4096, 12368]⟩
abbrev S4096 : Shape := ⟨1, ![4096]⟩
abbrev S_ : Shape := ⟨0, ![]⟩
abbrev S32x1 : Shape := ⟨2, ![32, 1]⟩
abbrev S32x1x1 : Shape := ⟨3, ![32, 1, 1]⟩
abbrev S1x1x4096 : Shape := ⟨3, ![1, 1, 4096]⟩
abbrev S4096x12368 : Shape := ⟨2, ![4096, 12368]⟩
abbrev S32x1x12368 : Shape := ⟨3, ![32, 1, 12368]⟩
abbrev S32x12368 : Shape := ⟨2, ![32, 12368]⟩
abbrev S32x2048 : Shape := ⟨2, ![32, 2048]⟩
abbrev S32x512 : Shape := ⟨2, ![32, 512]⟩
abbrev S32x1024 : Shape := ⟨2, ![32, 1024]⟩
abbrev S32x64 : Shape := ⟨2, ![32, 64]⟩
abbrev S32x16 : Shape := ⟨2, ![32, 16]⟩
abbrev S32x12288 : Shape := ⟨2, ![32, 12288]⟩
abbrev S32x48 : Shape := ⟨2, ![32, 48]⟩
abbrev S32x128 : Shape := ⟨2, ![32, 128]⟩

abbrev nBuf : Space → Nat
  | .hbm => 37
  | .vmem => 0
  | .smem => 0
  | _ => 0

abbrev bufTy : (tb : Table) → Fin (tcTables nBuf tb) → BufTy
  | .hbm, ⟨0, _⟩ => ⟨S32x1x4096, .f32⟩
  | .hbm, ⟨1, _⟩ => ⟨S1x4096, .f32⟩
  | .hbm, ⟨2, _⟩ => ⟨S1x4096x12368, .f32⟩
  | .hbm, ⟨3, _⟩ => ⟨S4096, .f32⟩
  | .hbm, ⟨4, _⟩ => ⟨S32x1x4096, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x4096, .f32⟩
  | .hbm, ⟨16, _⟩ => ⟨S32x1x4096, .f32⟩
  | .hbm, ⟨17, _⟩ => ⟨S1x1x4096, .f32⟩
  | .hbm, ⟨18, _⟩ => ⟨S32x1x4096, .f32⟩
  | .hbm, ⟨19, _⟩ => ⟨S32x1x4096, .f32⟩
  | .hbm, ⟨20, _⟩ => ⟨S4096x12368, .f32⟩
  | .hbm, ⟨21, _⟩ => ⟨S32x1x12368, .f32⟩
  | .hbm, ⟨22, _⟩ => ⟨S32x12368, .f32⟩
  | .hbm, ⟨23, _⟩ => ⟨S32x2048, .f32⟩
  | .hbm, ⟨24, _⟩ => ⟨S32x512, .f32⟩
  | .hbm, ⟨25, _⟩ => ⟨S32x512, .f32⟩
  | .hbm, ⟨26, _⟩ => ⟨S32x1024, .f32⟩
  | .hbm, ⟨27, _⟩ => ⟨S32x64, .f32⟩
  | .hbm, ⟨28, _⟩ => ⟨S32x16, .f32⟩
  | .hbm, ⟨29, _⟩ => ⟨S32x2048, .f32⟩
  | .hbm, ⟨30, _⟩ => ⟨S32x2048, .f32⟩
  | .hbm, ⟨31, _⟩ => ⟨S32x2048, .f32⟩
  | .hbm, ⟨32, _⟩ => ⟨S32x2048, .f32⟩
  | .hbm, ⟨33, _⟩ => ⟨S32x12288, .f32⟩
  | .hbm, ⟨34, _⟩ => ⟨S_, .f32⟩
  | .hbm, ⟨35, _⟩ => ⟨S32x48, .f32⟩
  | .hbm, ⟨36, _⟩ => ⟨S32x128, .f32⟩
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Out.lean ====
abbrev S8192x4096 : Shape := ⟨2, ![8192, 4096]⟩
abbrev S1x4096x4096 : Shape := ⟨3, ![1, 4096, 4096]⟩
abbrev S4x2048x4096 : Shape := ⟨3, ![4, 2048, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S4x2048x4096, .f32⟩
  | .hbm, ⟨3, _⟩ => ⟨S4096x4096, .f32⟩
  | .hbm, ⟨4, _⟩ => ⟨S4096x4096, .bf16⟩
  | .hbm, ⟨5, _⟩ => ⟨S8192x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x4096 : Shape := ⟨2, ![8192, 4096]⟩
abbrev S1x4096x4096 : Shape := ⟨3, ![1, 4096, 4096]⟩
abbrev S4x2048x4096 : Shape := ⟨3, ![4, 2048, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S4x2048x4096, .f32⟩
  | .hbm, ⟨3, _⟩ => ⟨S8192x4096, .f32⟩
  | .hbm, ⟨4, _⟩ => ⟨S4x2048x4096, .f32⟩
  | .hbm, ⟨5, _⟩ => ⟨S4096x4096, .f32⟩
  | .hbm, ⟨6, _⟩ => ⟨S4x2048x4096, .f32⟩
  | .hbm, ⟨7, _⟩ => ⟨S4x2048x4096, .f32⟩
  | .hbm, ⟨8, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemKv.lean ====
abbrev S4x256x4096 : Shape := ⟨3, ![4, 256, 4096]⟩
abbrev S1x4096x512 : Shape := ⟨3, ![1, 4096, 512]⟩
abbrev S1024x4096 : Shape := ⟨2, ![1024, 4096]⟩
abbrev S_ : Shape := ⟨0, ![]⟩
abbrev S4096 : Shape := ⟨1, ![4096]⟩
abbrev S4096x512 : Shape := ⟨2, ![4096, 512]⟩
abbrev S1x4096 : Shape := ⟨2, ![1, 4096]⟩
abbrev S1024x512 : Shape := ⟨2, ![1024, 512]⟩
abbrev S256x4096 : Shape := ⟨2, ![256, 4096]⟩
abbrev S256x512 : Shape := ⟨2, ![256, 512]⟩

abbrev nBuf : Space → Nat
  | .hbm => 9
  | .vmem => 7
  | .smem => 0
  | _ => 0

abbrev bufTy : (tb : Table) → Fin (tcTables nBuf tb) → BufTy
  | .hbm, ⟨0, _⟩ => ⟨S4x256x4096, .f32⟩
  | .hbm, ⟨1, _⟩ => ⟨S1x4096x512, .f32⟩
  | .hbm, ⟨2, _⟩ => ⟨S1024x4096, .f32⟩
  | .hbm, ⟨3, _⟩ => ⟨S_, .f32⟩
  | .hbm, ⟨4, _⟩ => ⟨S4096, .f32⟩
  | .hbm, ⟨5, _⟩ => ⟨S4096x512, .f32⟩
  | .hbm, ⟨6, _⟩ => ⟨S4096x512, .bf16⟩
  | .hbm, ⟨7, _⟩ => ⟨S1x4096, .f32⟩
  | .hbm, ⟨8, _⟩ => ⟨S1024x512, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x512, .bf16⟩
  | .local _ .vmem, ⟨4, _⟩ => ⟨S256x512, .f32⟩
  | .local _ .vmem, ⟨5, _⟩ => ⟨S256x512, .f32⟩
  | .local _ .vmem, ⟨6, _⟩ => ⟨S256x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S4x256x4096 : Shape := ⟨3, ![4, 256, 4096]⟩
abbrev S1x4096x512 : Shape := ⟨3, ![1, 4096, 512]⟩
abbrev S4096x512 : Shape := ⟨2, ![4096, 512]⟩
abbrev S4x256x512 : Shape := ⟨3, ![4, 256, 512]⟩
abbrev S1024x512 : Shape := ⟨2, ![1024, 512]⟩

abbrev nBuf : Space → Nat
  | .hbm => 5
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096x512, .f32⟩
  | .hbm, ⟨2, _⟩ => ⟨S4096x512, .f32⟩
  | .hbm, ⟨3, _⟩ => ⟨S4x256x512, .f32⟩
  | .hbm, ⟨4, _⟩ => ⟨S1024x512, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Xq.lean ====
abbrev S4x2048x4096 : Shape := ⟨3, ![4, 2048, 4096]⟩
abbrev S1x4096 : Shape := ⟨2, ![1, 4096]⟩
abbrev S1x4096x512 : Shape := ⟨3, ![1, 4096, 512]⟩
abbrev S8192x4096 : Shape := ⟨2, ![8192, 4096]⟩
abbrev S4096 : Shape := ⟨1, ![4096]⟩
abbrev S4096x512 : Shape := ⟨2, ![4096, 512]⟩
abbrev S8192x512 : Shape := ⟨2, ![8192, 512]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x512, .f32⟩
  | .hbm, ⟨3, _⟩ => ⟨S8192x4096, .f32⟩
  | .hbm, ⟨4, _⟩ => ⟨S4096, .f32⟩
  | .hbm, ⟨5, _⟩ => ⟨S4096x512, .f32⟩
  | .hbm, ⟨6, _⟩ => ⟨S4096x512, .bf16⟩
  | .hbm, ⟨7, _⟩ => ⟨S1x4096, .f32⟩
  | .hbm, ⟨8, _⟩ => ⟨S8192x512, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XqRefIdeal.lean ====
abbrev S4x2048x4096 : Shape := ⟨3, ![4, 2048, 4096]⟩
abbrev S1x4096 : Shape := ⟨2, ![1, 4096]⟩
abbrev S1x4096x512 : Shape := ⟨3, ![1, 4096, 512]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x512 : Shape := ⟨2, ![4096, 512]⟩
abbrev S4x2048x512 : Shape := ⟨3, ![4, 2048, 512]⟩
abbrev S8192x512 : Shape := ⟨2, ![8192, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x512, .f32⟩
  | .hbm, ⟨3, _⟩ => ⟨S4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4096x512, .f32⟩
  | .hbm, ⟨21, _⟩ => ⟨S4x2048x512, .f32⟩
  | .hbm, ⟨22, _⟩ => ⟨S8192x512, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Cross.lean ====
abbrev S4x2048x4x128 : Shape := ⟨4, ![4, 2048, 4, 128]⟩
abbrev S4x256x4x128 : Shape := ⟨4, ![4, 256, 4, 128]⟩
abbrev S4x2048x4096 : Shape := ⟨3, ![4, 2048, 4096]⟩
abbrev S1x512x4096 : Shape := ⟨3, ![1, 512, 4096]⟩
abbrev S4x2048x512 : Shape := ⟨3, ![4, 2048, 512]⟩
abbrev S4x256x512 : Shape := ⟨3, ![4, 256, 512]⟩
abbrev S512x4096 : Shape := ⟨2, ![512, 4096]⟩
abbrev S1x256x512 : Shape := ⟨3, ![1, 256, 512]⟩
abbrev S1x256x4096 : Shape := ⟨3, ![1, 256, 4096]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x4096 : Shape := ⟨2, ![256, 4096]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x4x128, .f32⟩
  | .hbm, ⟨1, _⟩ => ⟨S4x256x4x128, .f32⟩
  | .hbm, ⟨2, _⟩ => ⟨S4x256x4x128, .f32⟩
  | .hbm, ⟨3, _⟩ => ⟨S4x2048x4096, .f32⟩
  | .hbm, ⟨4, _⟩ => ⟨S1x512x4096, .f32⟩
  | .hbm, ⟨5, _⟩ => ⟨S4x2048x512, .f32⟩
  | .hbm, ⟨6, _⟩ => ⟨S4x256x512, .f32⟩
  | .hbm, ⟨7, _⟩ => ⟨S4x256x512, .f32⟩
  | .hbm, ⟨8, _⟩ => ⟨S512x4096, .f32⟩
  | .hbm, ⟨9, _⟩ => ⟨S512x4096, .bf16⟩
  | .hbm, ⟨10, _⟩ => ⟨S4x2048x4096, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x4096, .f32⟩
  | .local _ .vmem, ⟨7, _⟩ => ⟨S1x256x4096, .f32⟩
  | .local _ .vmem, ⟨8, _⟩ => ⟨S512x4096, .bf16⟩
  | .local _ .vmem, ⟨9, _⟩ => ⟨S1x256x4096, .f32⟩
  | .local _ .vmem, ⟨10, _⟩ => ⟨S1x256x4096, .f32⟩
  | _, _ => ⟨S4x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CrossRefIdeal.lean ====
abbrev S4x2048x4x128 : Shape := ⟨4, ![4, 2048, 4, 128]⟩
abbrev S4x256x4x128 : Shape := ⟨4, ![4, 256, 4, 128]⟩
abbrev S4x2048x4096 : Shape := ⟨3, ![4, 2048, 4096]⟩
abbrev S1x512x4096 : Shape := ⟨3, ![1, 512, 4096]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x512 : Shape := ⟨3, ![4, 2048, 512]⟩
abbrev S512x4096 : Shape := ⟨2, ![512, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4x128, .f32⟩
  | .hbm, ⟨1, _⟩ => ⟨S4x256x4x128, .f32⟩
  | .hbm, ⟨2, _⟩ => ⟨S4x256x4x128, .f32⟩
  | .hbm, ⟨3, _⟩ => ⟨S4x2048x4096, .f32⟩
  | .hbm, ⟨4, _⟩ => ⟨S1x512x4096, .f32⟩
  | .hbm, ⟨5, _⟩ => ⟨S4x4x2048x256, .f32⟩
  | .hbm, ⟨6, _⟩ => ⟨S_, .f32⟩
  | .hbm, ⟨7, _⟩ => ⟨S4x4x2048x256, .f32⟩
  | .hbm, ⟨8, _⟩ => ⟨S4x4x2048x256, .f32⟩
  | .hbm, ⟨9, _⟩ => ⟨S_, .f32⟩
  | .hbm, ⟨10, _⟩ => ⟨S4x4x2048, .f32⟩
  | .hbm, ⟨11, _⟩ => ⟨S_, .f32⟩
  | .hbm, ⟨12, _⟩ => ⟨S4x4x2048, .f32⟩
  | .hbm, ⟨13, _⟩ => ⟨S4x4x2048, .f32⟩
  | .hbm, ⟨14, _⟩ => ⟨S4x4x2048x1, .f32⟩
  | .hbm, ⟨15, _⟩ => ⟨S4x4x2048x256, .f32⟩
  | .hbm, ⟨16, _⟩ => ⟨S4x4x2048x256, .f32⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .f32⟩
  | .hbm, ⟨23, _⟩ => ⟨S4x4x128x2048, .f32⟩
  | .hbm, ⟨24, _⟩ => ⟨S4x2048x4x128, .f32⟩
  | .hbm, ⟨25, _⟩ => ⟨S4x2048x512, .f32⟩
  | .hbm, ⟨26, _⟩ => ⟨S512x4096, .f32⟩
  | .hbm, ⟨27, _⟩ => ⟨S4x2048x4096, .f32⟩
  | .hbm, ⟨28, _⟩ => ⟨S4x2048x4096, .f32⟩
  | _, _ => ⟨S4x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== GateS.lean ====
abbrev S32x2048 : Shape := ⟨2, ![32, 2048]⟩
abbrev S32x12288 : Shape := ⟨2, ![32, 12288]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x1x1 : Shape := ⟨3, ![16, 1, 1]⟩
abbrev S16 : Shape := ⟨1, ![16]⟩
abbrev S16x128 : Shape := ⟨2, ![16, 128]⟩
abbrev S16x1 : Shape := ⟨2, ![16, 1]⟩
abbrev S32x4096 : Shape := ⟨2, ![32, 4096]⟩
abbrev S32 : Shape := ⟨1, ![32]⟩
abbrev S32x1 : Shape := ⟨2, ![32, 1]⟩

abbrev nBuf : Space → Nat
  | .hbm => 21
  | .vmem => 10
  | .smem => 0
  | _ => 0

abbrev bufTy : (tb : Table) → Fin (tcTables nBuf tb) → BufTy
  | .hbm, ⟨0, _⟩ => ⟨S32x2048, .f32⟩
  | .hbm, ⟨1, _⟩ => ⟨S32x12288, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S2048, .f32⟩
  | .hbm, ⟨6, _⟩ => ⟨S16x128x128, .f32⟩
  | .hbm, ⟨7, _⟩ => ⟨S16x1x1, .f32⟩
  | .hbm, ⟨8, _⟩ => ⟨S16, .f32⟩
  | .hbm, ⟨9, _⟩ => ⟨S16x128, .f32⟩
  | .hbm, ⟨10, _⟩ => ⟨S2048, .f32⟩
  | .hbm, ⟨11, _⟩ => ⟨S1x2048, .f32⟩
  | .hbm, ⟨12, _⟩ => ⟨S16x128, .f32⟩
  | .hbm, ⟨13, _⟩ => ⟨S16x1, .f32⟩
  | .hbm, ⟨14, _⟩ => ⟨S16, .f32⟩
  | .hbm, ⟨15, _⟩ => ⟨S16x128, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S32x4096, .bf16⟩
  | .hbm, ⟨20, _⟩ => ⟨S32x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S32x4096, .bf16⟩
  | .local _ .vmem, ⟨9, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== GateSRefIdeal.lean ====
abbrev S32x2048 : Shape := ⟨2, ![32, 2048]⟩
abbrev S32x12288 : Shape := ⟨2, ![32, 12288]⟩
abbrev S1x2048 : Shape := ⟨2, ![1, 2048]⟩
abbrev S1x16x128x128 : Shape := ⟨4, ![1, 16, 128, 128]⟩
abbrev S1x16x128 : Shape := ⟨3, ![1, 16, 128]⟩
abbrev S32x8192 : Shape := ⟨2, ![32, 8192]⟩
abbrev S_ : Shape := ⟨0, ![]⟩
abbrev S2048 : Shape := ⟨1, ![2048]⟩
abbrev S32 : Shape := ⟨1, ![32]⟩
abbrev S32x1 : Shape := ⟨2, ![32, 1]⟩
abbrev S32x1x2048 : Shape := ⟨3, ![32, 1, 2048]⟩
abbrev S32x128x2048 : Shape := ⟨3, ![32, 128, 2048]⟩
abbrev S32x1x128x16x128 : Shape := ⟨5, ![32, 1, 128, 16, 128]⟩
abbrev S16x128x128 : Shape := ⟨3, ![16, 128, 128]⟩
abbrev S128x128 : Shape := ⟨2, ![128, 128]⟩
abbrev S16x32x1x128x128 : Shape := ⟨5, ![16, 32, 1, 128, 128]⟩
abbrev S16x128 : Shape := ⟨2, ![16, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S32x4096 : Shape := ⟨2, ![32, 4096]⟩

abbrev nBuf : Space → Nat
  | .hbm => 109
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x12288, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S32x8192, .f32⟩
  | .hbm, ⟨6, _⟩ => ⟨S32x2048, .f32⟩
  | .hbm, ⟨7, _⟩ => ⟨S32x2048, .f32⟩
  | .hbm, ⟨8, _⟩ => ⟨S32x2048, .f32⟩
  | .hbm, ⟨9, _⟩ => ⟨S32x2048, .f32⟩
  | .hbm, ⟨10, _⟩ => ⟨S32x2048, .f32⟩
  | .hbm, ⟨11, _⟩ => ⟨S32x2048, .f32⟩
  | .hbm, ⟨12, _⟩ => ⟨S_, .f32⟩
  | .hbm, ⟨13, _⟩ => ⟨S32x2048, .f32⟩
  | .hbm, ⟨14, _⟩ => ⟨S32x2048, .f32⟩
  | .hbm, ⟨15, _⟩ => ⟨S32x2048, .f32⟩
  | .hbm, ⟨16, _⟩ => ⟨S_, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S_, .f32⟩
  | .hbm, ⟨21, _⟩ => ⟨S32x2048, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S32x2048, .f32⟩
  | .hbm, ⟨27, _⟩ => ⟨S32x2048, .f32⟩
  | .hbm, ⟨28, _⟩ => ⟨S32x2048, .f32⟩
  | .hbm, ⟨29, _⟩ => ⟨S_, .f32⟩
  | .hbm, ⟨30, _⟩ => ⟨S32x2048, .f32⟩
  | .hbm, ⟨31, _⟩ => ⟨S32x2048, .f32⟩
  | .hbm, ⟨32, _⟩ => ⟨S32x2048, .f32⟩
  | .hbm, ⟨33, _⟩ => ⟨S_, .f32⟩
  | .hbm, ⟨34, _⟩ => ⟨S32x2048, .f32⟩
  | .hbm, ⟨35, _⟩ => ⟨S32x2048, .f32⟩
  | .hbm, ⟨36, _⟩ => ⟨S32x2048, .f32⟩
  | .hbm, ⟨37, _⟩ => ⟨S_, .f32⟩
  | .hbm, ⟨38, _⟩ => ⟨S32x2048, .f32⟩
  | .hbm, ⟨39, _⟩ => ⟨S32x2048, .f32⟩
  | .hbm, ⟨40, _⟩ => ⟨S_, .f32⟩
  | .hbm, ⟨41, _⟩ => ⟨S32x2048, .f32⟩
  | .hbm, ⟨42, _⟩ => ⟨S32x2048, .f32⟩
  | .hbm, ⟨43, _⟩ => ⟨S32x2048, .f32⟩
  | .hbm, ⟨44, _⟩ => ⟨S2048, .f32⟩
  | .hbm, ⟨45, _⟩ => ⟨S32x2048, .f32⟩
  | .hbm, ⟨46, _⟩ => ⟨S_, .f32⟩
  | .hbm, ⟨47, _⟩ => ⟨S32, .f32⟩
  | .hbm, ⟨48, _⟩ => ⟨S32x1, .f32⟩
  | .hbm, ⟨49, _⟩ => ⟨S_, .f32⟩
  | .hbm, ⟨50, _⟩ => ⟨S32x1, .f32⟩
  | .hbm, ⟨51, _⟩ => ⟨S32x1, .f32⟩
  | .hbm, ⟨52, _⟩ => ⟨S_, .f32⟩
  | .hbm, ⟨53, _⟩ => ⟨S32x1, .f32⟩
  | .hbm, ⟨54, _⟩ => ⟨S32x1, .f32⟩
  | .hbm, ⟨55, _⟩ => ⟨S32x1, .f32⟩
  | .hbm, ⟨56, _⟩ => ⟨S32x2048, .f32⟩
  | .hbm, ⟨57, _⟩ => ⟨S32x2048, .f32⟩
  | .hbm, ⟨58, _⟩ => ⟨S1x2048, .f32⟩
  | .hbm, ⟨59, _⟩ => ⟨S32x2048, .f32⟩
  | .hbm, ⟨60, _⟩ => ⟨S32x2048, .f32⟩
  | .hbm, ⟨61, _⟩ => ⟨S32x1x2048, .f32⟩
  | .hbm, ⟨62, _⟩ => ⟨S_, .i32⟩
  | .hbm, ⟨63, _⟩ => ⟨S_, .f32⟩
  | .hbm, ⟨64, _⟩ => ⟨S32x128x2048, .f32⟩
  | .hbm, ⟨65, _⟩ => ⟨S32x1x128x16x128, .f32⟩
  | .hbm, ⟨66, _⟩ => ⟨S16x128x128, .f32⟩
  | .hbm, ⟨67, _⟩ => ⟨S128x128, .i32⟩
  | .hbm, ⟨68, _⟩ => ⟨S_, .i32⟩
  | .hbm, ⟨69, _⟩ => ⟨S128x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S16x128x128, .i1⟩
  | .hbm, ⟨74, _⟩ => ⟨S_, .f32⟩
  | .hbm, ⟨75, _⟩ => ⟨S16x128x128, .f32⟩
  | .hbm, ⟨76, _⟩ => ⟨S16x128x128, .f32⟩
  | .hbm, ⟨77, _⟩ => ⟨S16x32x1x128x128, .f32⟩
  | .hbm, ⟨78, _⟩ => ⟨S32x1x128x16x128, .f32⟩
  | .hbm, ⟨79, _⟩ => ⟨S16x128, .f32⟩
  | .hbm, ⟨80, _⟩ => ⟨S128x16, .f32⟩
  | .hbm, ⟨81, _⟩ => ⟨S128x16x1, .f32⟩
  | .hbm, ⟨82, _⟩ => ⟨S1x1x128x16x1, .f32⟩
  | .hbm, ⟨83, _⟩ => ⟨S32x1x128x16x128, .f32⟩
  | .hbm, ⟨84, _⟩ => ⟨S32x1x128x16x128, .f32⟩
  | .hbm, ⟨85, _⟩ => ⟨S32x128x2048, .f32⟩
  | .hbm, ⟨86, _⟩ => ⟨S32x1x2048, .f32⟩
  | .hbm, ⟨87, _⟩ => ⟨S32x2048, .f32⟩
  | .hbm, ⟨88, _⟩ => ⟨S32x2048, .f32⟩
  | .hbm, ⟨89, _⟩ => ⟨S32x2048, .f32⟩
  | .hbm, ⟨90, _⟩ => ⟨S32x2048, .f32⟩
  | .hbm, ⟨91, _⟩ => ⟨S_, .f32⟩
  | .hbm, ⟨92, _⟩ => ⟨S32x2048, .f32⟩
  | .hbm, ⟨93, _⟩ => ⟨S32x2048, .f32⟩
  | .hbm, ⟨94, _⟩ => ⟨S_, .f32⟩
  | .hbm, ⟨95, _⟩ => ⟨S32x2048, .f32⟩
  | .hbm, ⟨96, _⟩ => ⟨S32x2048, .f32⟩
  | .hbm, ⟨97, _⟩ => ⟨S32x2048, .f32⟩
  | .hbm, ⟨98, _⟩ => ⟨S32x2048, .f32⟩
  | .hbm, ⟨99, _⟩ => ⟨S32x2048, .f32⟩
  | .hbm, ⟨100, _⟩ => ⟨S_, .f32⟩
  | .hbm, ⟨101, _⟩ => ⟨S32x2048, .f32⟩
  | .hbm, ⟨102, _⟩ => ⟨S32x2048, .f32⟩
  | .hbm, ⟨103, _⟩ => ⟨S_, .f32⟩
  | .hbm, ⟨104, _⟩ => ⟨S32x2048, .f32⟩
  | .hbm, ⟨105, _⟩ => ⟨S32x2048, .f32⟩
  | .hbm, ⟨106, _⟩ => ⟨S32x2048, .f32⟩
  | .hbm, ⟨107, _⟩ => ⟨S32x4096, .f32⟩
  | .hbm, ⟨108, _⟩ => ⟨S32x4096, .bf16⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_cst : Ref sig .tc := ⟨.hbm, 74, rfl⟩
abbrev main_call1_v6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_cst_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]
-- ==== Gate.lean ====
abbrev S8192x2048 : Shape := ⟨2, ![8192, 2048]⟩
abbrev S8192x12288 : Shape := ⟨2, ![8192, 12288]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S8192x4096 : Shape := ⟨2, ![8192, 4096]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 12
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x12288, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S2048, .f32⟩
  | .hbm, ⟨6, _⟩ => ⟨S16x128x128, .f32⟩
  | .hbm, ⟨7, _⟩ => ⟨S16x128, .f32⟩
  | .hbm, ⟨8, _⟩ => ⟨S128x16, .f32⟩
  | .hbm, ⟨9, _⟩ => ⟨S1x2048, .f32⟩
  | .hbm, ⟨10, _⟩ => ⟨S8192x4096, .bf16⟩
  | .hbm, ⟨11, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S16x128x128, .f32⟩
  | .local _ .vmem, ⟨12, _⟩ => ⟨S128x16, .f32⟩
  | .local _ .vmem, ⟨13, _⟩ => ⟨S256x4096, .bf16⟩
  | .local _ .vmem, ⟨14, _⟩ => ⟨S256x4096, .bf16⟩
  | .local _ .vmem, ⟨15, _⟩ => ⟨S256x2048, .f32⟩
  | .local _ .vmem, ⟨16, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GateRefIdeal.lean ====
abbrev S8192x2048 : Shape := ⟨2, ![8192, 2048]⟩
abbrev S8192x12288 : Shape := ⟨2, ![8192, 12288]⟩
abbrev S1x2048 : Shape := ⟨2, ![1, 2048]⟩
abbrev S1x16x128x128 : Shape := ⟨4, ![1, 16, 128, 128]⟩
abbrev S1x16x128 : Shape := ⟨3, ![1, 16, 128]⟩
abbrev S8192x8192 : Shape := ⟨2, ![8192, 8192]⟩
abbrev S_ : Shape := ⟨0, ![]⟩
abbrev S2048 : Shape := ⟨1, ![2048]⟩
abbrev S8192 : Shape := ⟨1, ![8192]⟩
abbrev S8192x1 : Shape := ⟨2, ![8192, 1]⟩
abbrev S4x16x128x16x128 : Shape := ⟨5, ![4, 16, 128, 16, 128]⟩
abbrev S16x128x128 : Shape := ⟨3, ![16, 128, 128]⟩
abbrev S128x128 : Shape := ⟨2, ![128, 128]⟩
abbrev S16x4x16x128x128 : Shape := ⟨5, ![16, 4, 16, 128, 128]⟩
abbrev S16x128 : Shape := ⟨2, ![16, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S8192x4096 : Shape := ⟨2, ![8192, 4096]⟩

abbrev nBuf : Space → Nat
  | .hbm => 103
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x12288, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S4x16x128x16x128, .f32⟩
  | .hbm, ⟨62, _⟩ => ⟨S16x128x128, .f32⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S16x128x128, .i1⟩
  | .hbm, ⟨70, _⟩ => ⟨S_, .f32⟩
  | .hbm, ⟨71, _⟩ => ⟨S16x128x128, .f32⟩
  | .hbm, ⟨72, _⟩ => ⟨S16x128x128, .f32⟩
  | .hbm, ⟨73, _⟩ => ⟨S16x4x16x128x128, .f32⟩
  | .hbm, ⟨74, _⟩ => ⟨S4x16x128x16x128, .f32⟩
  | .hbm, ⟨75, _⟩ => ⟨S16x128, .f32⟩
  | .hbm, ⟨76, _⟩ => ⟨S128x16, .f32⟩
  | .hbm, ⟨77, _⟩ => ⟨S128x16x1, .f32⟩
  | .hbm, ⟨78, _⟩ => ⟨S1x1x128x16x1, .f32⟩
  | .hbm, ⟨79, _⟩ => ⟨S4x16x128x16x128, .f32⟩
  | .hbm, ⟨80, _⟩ => ⟨S4x16x128x16x128, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S_, .f32⟩
  | .hbm, ⟨86, _⟩ => ⟨S8192x2048, .f32⟩
  | .hbm, ⟨87, _⟩ => ⟨S8192x2048, .f32⟩
  | .hbm, ⟨88, _⟩ => ⟨S_, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S_, .f32⟩
  | .hbm, ⟨95, _⟩ => ⟨S8192x2048, .f32⟩
  | .hbm, ⟨96, _⟩ => ⟨S8192x2048, .f32⟩
  | .hbm, ⟨97, _⟩ => ⟨S_, .f32⟩
  | .hbm, ⟨98, _⟩ => ⟨S8192x2048, .f32⟩
  | .hbm, ⟨99, _⟩ => ⟨S8192x2048, .f32⟩
  | .hbm, ⟨100, _⟩ => ⟨S8192x2048, .f32⟩
  | .hbm, ⟨101, _⟩ => ⟨S8192x4096, .f32⟩
  | .hbm, ⟨102, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_cst : Ref sig .tc := ⟨.hbm, 70, rfl⟩
abbrev main_call0_v6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Scores.lean ====
abbrev S32x64 : Shape := ⟨2, ![32, 64]⟩
abbrev S32x1x16x64 : Shape := ⟨4, ![32, 1, 16, 64]⟩
abbrev S32x1x16 : Shape := ⟨3, ![32, 1, 16]⟩
abbrev S32x1x64 : Shape := ⟨3, ![32, 1, 64]⟩
abbrev S1x2560x128x64 : Shape := ⟨4, ![1, 2560, 128, 64]⟩
abbrev S32x16x64 : Shape := ⟨3, ![32, 16, 64]⟩
abbrev S32x16x1 : Shape := ⟨3, ![32, 16, 1]⟩
abbrev S32x64x1 : Shape := ⟨3, ![32, 64, 1]⟩
abbrev S2560x128x64 : Shape := ⟨3, ![2560, 128, 64]⟩
abbrev S2560x64x128 : Shape := ⟨3, ![2560, 64, 128]⟩
abbrev S32x1x8192 : Shape := ⟨3, ![32, 1, 8192]⟩
abbrev S32x1x128 : Shape := ⟨3, ![32, 1, 128]⟩
abbrev S1x16x64 : Shape := ⟨3, ![1, 16, 64]⟩
abbrev S1x16x1 : Shape := ⟨3, ![1, 16, 1]⟩
abbrev S1x64x1 : Shape := ⟨3, ![1, 64, 1]⟩
abbrev S1x64x128 : Shape := ⟨3, ![1, 64, 128]⟩
abbrev S1x1 : Shape := ⟨2, ![1, 1]⟩
abbrev S1x1x4096 : Shape := ⟨3, ![1, 1, 4096]⟩
abbrev S1x1x128 : Shape := ⟨3, ![1, 1, 128]⟩
abbrev S16x64 : Shape := ⟨2, ![16, 64]⟩
abbrev S16x1 : Shape := ⟨2, ![16, 1]⟩
abbrev S64x128 : Shape := ⟨2, ![64, 128]⟩
abbrev S16x128 : Shape := ⟨2, ![16, 128]⟩
abbrev S128 : Shape := ⟨1, ![128]⟩
abbrev S1x128 : Shape := ⟨2, ![1, 128]⟩
abbrev S1x4096 : Shape := ⟨2, ![1, 4096]⟩
abbrev S64x1 : Shape := ⟨2, ![64, 1]⟩

abbrev nBuf : Space → Nat
  | .hbm => 11
  | .vmem => 74
  | .smem => 1
  | _ => 0

abbrev bufTy : (tb : Table) → Fin (tcTables nBuf tb) → BufTy
  | .hbm, ⟨0, _⟩ => ⟨S32x1x16x64, .f32⟩
  | .hbm, ⟨1, _⟩ => ⟨S32x1x16, .f32⟩
  | .hbm, ⟨2, _⟩ => ⟨S32x1x64, .f32⟩
  | .hbm, ⟨3, _⟩ => ⟨S1x2560x128x64, .f32⟩
  | .hbm, ⟨4, _⟩ => ⟨S32x16x64, .f32⟩
  | .hbm, ⟨5, _⟩ => ⟨S32x16x1, .f32⟩
  | .hbm, ⟨6, _⟩ => ⟨S32x64x1, .f32⟩
  | .hbm, ⟨7, _⟩ => ⟨S2560x128x64, .f32⟩
  | .hbm, ⟨8, _⟩ => ⟨S2560x64x128, .f32⟩
  | .hbm, ⟨9, _⟩ => ⟨S32x1x8192, .f32⟩
  | .hbm, ⟨10, _⟩ => ⟨S32x1x128, .f32⟩
  | .local _ .vmem, ⟨0, _⟩ => ⟨S1x16x64, .f32⟩
  | .local _ .vmem, ⟨1, _⟩ => ⟨S1x16x64, .f32⟩
  | .local _ .vmem, ⟨2, _⟩ => ⟨S1x16x1, .f32⟩
  | .local _ .vmem, ⟨3, _⟩ => ⟨S1x16x1, .f32⟩
  | .local _ .vmem, ⟨4, _⟩ => ⟨S1x64x1, .f32⟩
  | .local _ .vmem, ⟨5, _⟩ => ⟨S1x64x1, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x64x128, .f32⟩
  | .local _ .vmem, ⟨21, _⟩ => ⟨S1x64x128, .f32⟩
  | .local _ .vmem, ⟨22, _⟩ => ⟨S1x64x128, .f32⟩
  | .local _ .vmem, ⟨23, _⟩ => ⟨S1x64x128, .f32⟩
  | .local _ .vmem, ⟨24, _⟩ => ⟨S1x64x128, .f32⟩
  | .local _ .vmem, ⟨25, _⟩ => ⟨S1x64x128, .f32⟩
  | .local _ .vmem, ⟨26, _⟩ => ⟨S1x64x128, .f32⟩
  | .local _ .vmem, ⟨27, _⟩ => ⟨S1x64x128, .f32⟩
  | .local _ .vmem, ⟨28, _⟩ => ⟨S1x64x128, .f32⟩
  | .local _ .vmem, ⟨29, _⟩ => ⟨S1x64x128, .f32⟩
  | .local _ .vmem, ⟨30, _⟩ => ⟨S1x64x128, .f32⟩
  | .local _ .vmem, ⟨31, _⟩ => ⟨S1x64x128, .f32⟩
  | .local _ .vmem, ⟨32, _⟩ => ⟨S1x64x128, .f32⟩
  | .local _ .vmem, ⟨33, _⟩ => ⟨S1x64x128, .f32⟩
  | .local _ .vmem, ⟨34, _⟩ => ⟨S1x64x128, .f32⟩
  | .local _ .vmem, ⟨35, _⟩ => ⟨S1x64x128, .f32⟩
  | .local _ .vmem, ⟨36, _⟩ => ⟨S1x64x128, .f32⟩
  | .local _ .vmem, ⟨37, _⟩ => ⟨S1x64x128, .f32⟩
  | .local _ .vmem, ⟨38, _⟩ => ⟨S1x64x128, .f32⟩
  | .local _ .vmem, ⟨39, _⟩ => ⟨S1x64x128, .f32⟩
  | .local _ .vmem, ⟨40, _⟩ => ⟨S1x64x128, .f32⟩
  | .local _ .vmem, ⟨41, _⟩ => ⟨S1x64x128, .f32⟩
  | .local _ .vmem, ⟨42, _⟩ => ⟨S1x64x128, .f32⟩
  | .local _ .vmem, ⟨43, _⟩ => ⟨S1x64x128, .f32⟩
  | .local _ .vmem, ⟨44, _⟩ => ⟨S1x64x128, .f32⟩
  | .local _ .vmem, ⟨45, _⟩ => ⟨S1x64x128, .f32⟩
  | .local _ .vmem, ⟨46, _⟩ => ⟨S1x64x128, .f32⟩
  | .local _ .vmem, ⟨47, _⟩ => ⟨S1x64x128, .f32⟩
  | .local _ .vmem, ⟨48, _⟩ => ⟨S1x64x128, .f32⟩
  | .local _ .vmem, ⟨49, _⟩ => ⟨S1x64x128, .f32⟩
  | .local _ .vmem, ⟨50, _⟩ => ⟨S1x64x128, .f32⟩
  | .local _ .vmem, ⟨51, _⟩ => ⟨S1x64x128, .f32⟩
  | .local _ .vmem, ⟨52, _⟩ => ⟨S1x64x128, .f32⟩
  | .local _ .vmem, ⟨53, _⟩ => ⟨S1x64x128, .f32⟩
  | .local _ .vmem, ⟨54, _⟩ => ⟨S1x64x128, .f32⟩
  | .local _ .vmem, ⟨55, _⟩ => ⟨S1x64x128, .f32⟩
  | .local _ .vmem, ⟨56, _⟩ => ⟨S1x64x128, .f32⟩
  | .local _ .vmem, ⟨57, _⟩ => ⟨S1x64x128, .f32⟩
  | .local _ .vmem, ⟨58, _⟩ => ⟨S1x64x128, .f32⟩
  | .local _ .vmem, ⟨59, _⟩ => ⟨S1x64x128, .f32⟩
  | .local _ .vmem, ⟨60, _⟩ => ⟨S1x64x128, .f32⟩
  | .local _ .vmem, ⟨61, _⟩ => ⟨S1x64x128, .f32⟩
  | .local _ .vmem, ⟨62, _⟩ => ⟨S1x64x128, .f32⟩
  | .local _ .vmem, ⟨63, _⟩ => ⟨S1x64x128, .f32⟩
  | .local _ .vmem, ⟨64, _⟩ => ⟨S1x64x128, .f32⟩
  | .local _ .vmem, ⟨65, _⟩ => ⟨S1x64x128, .f32⟩
  | .local _ .vmem, ⟨66, _⟩ => ⟨S1x64x128, .f32⟩
  | .local _ .vmem, ⟨67, _⟩ => ⟨S1x64x128, .f32⟩
  | .local _ .vmem, ⟨68, _⟩ => ⟨S1x64x128, .f32⟩
  | .local _ .vmem, ⟨69, _⟩ => ⟨S1x64x128, .f32⟩
  | .local _ .vmem, ⟨70, _⟩ => ⟨S1x1x4096, .f32⟩
  | .local _ .vmem, ⟨71, _⟩ => ⟨S1x1x4096, .f32⟩
  | .local _ .vmem, ⟨72, _⟩ => ⟨S1x1x128, .f32⟩
  | .local _ .vmem, ⟨73, _⟩ => ⟨S1x1x128, .f32⟩
  | .local _ .smem, ⟨0, _⟩ => ⟨S32x64, .i32⟩
  | _, _ => ⟨S32x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c32_i32 : BitVec 32 := 32#32
  let v0 : BitVec 32 := Scalar.muli arg1 c32_i32
  let v1 : BitVec 32 := Scalar.addi v0 c0_i32
  let v3 : Index := Scalar.indexCast v1
  ![v2.toNat, v3.toNat]
def k0_cond1 (i : grid0.Coords) : BitVec 1 :=
  let arg1 : BitVec 32 := BitVec.ofNat 32 (i 1).val
  let c1_i32 : BitVec 32 := 1#32
  let v331 : BitVec 1 := Scalar.cmpi .eq arg1 c1_i32
  let v332 : BitVec 32 := Scalar.extui v331
  let c0_i32 : BitVec 32 := 0#32
  let v333 : BitVec 1 := Scalar.cmpi .ne v332 c0_i32
  v333

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_4 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_5 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_6 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_7 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_8 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_9 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_10 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_11 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S32x64) ![v2.toNat, v3.toNat] S1x1.size (k0_off1_inb i 8)) numel1_S1x1
  let c0_i32 : BitVec 32 := 0#32
  let c0_i32_0 : BitVec 32 := 0#32
  let c0_i32_1 : BitVec 32 := 0#32
  ![v4.toNat, c0_i32.toNat, c0_i32_0.toNat]

def cc0_transform_12 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S32x64) ![v2.toNat, v3.toNat] S1x1.size (k0_off1_inb i 9)) numel1_S1x1
  let c0_i32 : BitVec 32 := 0#32
  let c0_i32_0 : BitVec 32 := 0#32
  let c0_i32_1 : BitVec 32 := 0#32
  ![v4.toNat, c0_i32.toNat, c0_i32_0.toNat]

def cc0_transform_13 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S32x64) ![v2.toNat, v3.toNat] S1x1.size (k0_off1_inb i 10)) numel1_S1x1
  let c0_i32 : BitVec 32 := 0#32
  let c0_i32_0 : BitVec 32 := 0#32
  let c0_i32_1 : BitVec 32 := 0#32
  ![v4.toNat, c0_i32.toNat, c0_i32_0.toNat]

def cc0_transform_14 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S32x64) ![v2.toNat, v3.toNat] S1x1.size (k0_off1_inb i 11)) numel1_S1x1
  let c0_i32 : BitVec 32 := 0#32
  let c0_i32_0 : BitVec 32 := 0#32
  let c0_i32_1 : BitVec 32 := 0#32
  ![v4.toNat, c0_i32.toNat, c0_i32_0.toNat]

def cc0_transform_15 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S32x64) ![v2.toNat, v3.toNat] S1x1.size (k0_off1_inb i 12)) numel1_S1x1
  let c0_i32 : BitVec 32 := 0#32
  let c0_i32_0 : BitVec 32 := 0#32
  let c0_i32_1 : BitVec 32 := 0#32
  ![v4.toNat, c0_i32.toNat, c0_i32_0.toNat]

def cc0_transform_16 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S32x64) ![v2.toNat, v3.toNat] S1x1.size (k0_off1_inb i 13)) numel1_S1x1
  let c0_i32 : BitVec 32 := 0#32
  let c0_i32_0 : BitVec 32 := 0#32
  let c0_i32_1 : BitVec 32 := 0#32
  ![v4.toNat, c0_i32.toNat, c0_i32_0.toNat]

def cc0_transform_17 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S32x64) ![v2.toNat, v3.toNat] S1x1.size (k0_off1_inb i 14)) numel1_S1x1
  let c0_i32 : BitVec 32 := 0#32
  let c0_i32_0 : BitVec 32 := 0#32
  let c0_i32_1 : BitVec 32 := 0#32
  ![v4.toNat, c0_i32.toNat, c0_i32_0.toNat]

def cc0_transform_18 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S32x64) ![v2.toNat, v3.toNat] S1x1.size (k0_off1_inb i 15)) numel1_S1x1
  let c0_i32 : BitVec 32 := 0#32
  let c0_i32_0 : BitVec 32 := 0#32
  let c0_i32_1 : BitVec 32 := 0#32
  ![v4.toNat, c0_i32.toNat, c0_i32_0.toNat]

def cc0_transform_19 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c16_i32 : BitVec 32 := 16#32
  let v1 : BitVec 32 := Scalar.addi v0 c16_i32
  let v2 : Index := Scalar.indexCast arg0
  let v3 : Index := Scalar.indexCast v1
  let v4 : BitVec 32 := pf.at 0 (Rect.unit (s := S32x64) ![v2.toNat, v3.toNat] S1x1.size (k0_off1_inb i 16)) numel1_S1x1
  let c0_i32 : BitVec 32 := 0#32
  let c0_i32_0 : BitVec 32 := 0#32
  let c0_i32_1 : BitVec 32 := 0#32
  ![v4.toNat, c0_i32.toNat, c0_i32_0.toNat]

def cc0_transform_20 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c17_i32 : BitVec 32 := 17#32
  let v1 : BitVec 32 := Scalar.addi v0 c17_i32
  let v2 : Index := Scalar.indexCast arg0
  let v3 : Index := Scalar.indexCast v1
  let v4 : BitVec 32 := pf.at 0 (Rect.unit (s := S32x64) ![v2.toNat, v3.toNat] S1x1.size (k0_off1_inb i 17)) numel1_S1x1
  let c0_i32 : BitVec 32 := 0#32
  let c0_i32_0 : BitVec 32 := 0#32
  let c0_i32_1 : BitVec 32 := 0#32
  ![v4.toNat, c0_i32.toNat, c0_i32_0.toNat]

def cc0_transform_21 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c18_i32 : BitVec 32 := 18#32
  let v1 : BitVec 32 := Scalar.addi v0 c18_i32
  let v2 : Index := Scalar.indexCast arg0
  let v3 : Index := Scalar.indexCast v1
  let v4 : BitVec 32 := pf.at 0 (Rect.unit (s := S32x64) ![v2.toNat, v3.toNat] S1x1.size (k0_off1_inb i 18)) numel1_S1x1
  let c0_i32 : BitVec 32 := 0#32
  let c0_i32_0 : BitVec 32 := 0#32
  let c0_i32_1 : BitVec 32 := 0#32
  ![v4.toNat, c0_i32.toNat, c0_i32_0.toNat]

def cc0_transform_22 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c19_i32 : BitVec 32 := 19#32
  let v1 : BitVec 32 := Scalar.addi v0 c19_i32
  let v2 : Index := Scalar.indexCast arg0
  let v3 : Index := Scalar.indexCast v1
  let v4 : BitVec 32 := pf.at 0 (Rect.unit (s := S32x64) ![v2.toNat, v3.toNat] S1x1.size (k0_off1_inb i 19)) numel1_S1x1
  let c0_i32 : BitVec 32 := 0#32
  let c0_i32_0 : BitVec 32 := 0#32
  let c0_i32_1 : BitVec 32 := 0#32
  ![v4.toNat, c0_i32.toNat, c0_i32_0.toNat]

def cc0_transform_23 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c20_i32 : BitVec 32 := 20#32
  let v1 : BitVec 32 := Scalar.addi v0 c20_i32
  let v2 : Index := Scalar.indexCast arg0
  let v3 : Index := Scalar.indexCast v1
  let v4 : BitVec 32 := pf.at 0 (Rect.unit (s := S32x64) ![v2.toNat, v3.toNat] S1x1.size (k0_off1_inb i 20)) numel1_S1x1
  let c0_i32 : BitVec 32 := 0#32
  let c0_i32_0 : BitVec 32 := 0#32
  let c0_i32_1 : BitVec 32 := 0#32
  ![v4.toNat, c0_i32.toNat, c0_i32_0.toNat]

def cc0_transform_24 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c21_i32 : BitVec 32 := 21#32
  let v1 : BitVec 32 := Scalar.addi v0 c21_i32
  let v2 : Index := Scalar.indexCast arg0
  let v3 : Index := Scalar.indexCast v1
  let v4 : BitVec 32 := pf.at 0 (Rect.unit (s := S32x64) ![v2.toNat, v3.toNat] S1x1.size (k0_off1_inb i 21)) numel1_S1x1
  let c0_i32 : BitVec 32 := 0#32
  let c0_i32_0 : BitVec 32 := 0#32
  let c0_i32_1 : BitVec 32 := 0#32
  ![v4.toNat, c0_i32.toNat, c0_i32_0.toNat]

def cc0_transform_25 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c22_i32 : BitVec 32 := 22#32
  let v1 : BitVec 32 := Scalar.addi v0 c22_i32
  let v2 : Index := Scalar.indexCast arg0
  let v3 : Index := Scalar.indexCast v1
  let v4 : BitVec 32 := pf.at 0 (Rect.unit (s := S32x64) ![v2.toNat, v3.toNat] S1x1.size (k0_off1_inb i 22)) numel1_S1x1
  let c0_i32 : BitVec 32 := 0#32
  let c0_i32_0 : BitVec 32 := 0#32
  let c0_i32_1 : BitVec 32 := 0#32
  ![v4.toNat, c0_i32.toNat, c0_i32_0.toNat]

def cc0_transform_26 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c23_i32 : BitVec 32 := 23#32
  let v1 : BitVec 32 := Scalar.addi v0 c23_i32
  let v2 : Index := Scalar.indexCast arg0
  let v3 : Index := Scalar.indexCast v1
  let v4 : BitVec 32 := pf.at 0 (Rect.unit (s := S32x64) ![v2.toNat, v3.toNat] S1x1.size (k0_off1_inb i 23)) numel1_S1x1
  let c0_i32 : BitVec 32 := 0#32
  let c0_i32_0 : BitVec 32 := 0#32
  let c0_i32_1 : BitVec 32 := 0#32
  ![v4.toNat, c0_i32.toNat, c0_i32_0.toNat]

def cc0_transform_27 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c24_i32 : BitVec 32 := 24#32
  let v1 : BitVec 32 := Scalar.addi v0 c24_i32
  let v2 : Index := Scalar.indexCast arg0
  let v3 : Index := Scalar.indexCast v1
  let v4 : BitVec 32 := pf.at 0 (Rect.unit (s := S32x64) ![v2.toNat, v3.toNat] S1x1.size (k0_off1_inb i 24)) numel1_S1x1
  let c0_i32 : BitVec 32 := 0#32
  let c0_i32_0 : BitVec 32 := 0#32
  let c0_i32_1 : BitVec 32 := 0#32
  ![v4.toNat, c0_i32.toNat, c0_i32_0.toNat]

def cc0_transform_28 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c25_i32 : BitVec 32 := 25#32
  let v1 : BitVec 32 := Scalar.addi v0 c25_i32
  let v2 : Index := Scalar.indexCast arg0
  let v3 : Index := Scalar.indexCast v1
  let v4 : BitVec 32 := pf.at 0 (Rect.unit (s := S32x64) ![v2.toNat, v3.toNat] S1x1.size (k0_off1_inb i 25)) numel1_S1x1
  let c0_i32 : BitVec 32 := 0#32
  let c0_i32_0 : BitVec 32 := 0#32
  let c0_i32_1 : BitVec 32 := 0#32
  ![v4.toNat, c0_i32.toNat, c0_i32_0.toNat]

def cc0_transform_29 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c26_i32 : BitVec 32 := 26#32
  let v1 : BitVec 32 := Scalar.addi v0 c26_i32
  let v2 : Index := Scalar.indexCast arg0
  let v3 : Index := Scalar.indexCast v1
  let v4 : BitVec 32 := pf.at 0 (Rect.unit (s := S32x64) ![v2.toNat, v3.toNat] S1x1.size (k0_off1_inb i 26)) numel1_S1x1
  let c0_i32 : BitVec 32 := 0#32
  let c0_i32_0 : BitVec 32 := 0#32
  let c0_i32_1 : BitVec 32 := 0#32
  ![v4.toNat, c0_i32.toNat, c0_i32_0.toNat]

def cc0_transform_30 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c27_i32 : BitVec 32 := 27#32
  let v1 : BitVec 32 := Scalar.addi v0 c27_i32
  let v2 : Index := Scalar.indexCast arg0
  let v3 : Index := Scalar.indexCast v1
  let v4 : BitVec 32 := pf.at 0 (Rect.unit (s := S32x64) ![v2.toNat, v3.toNat] S1x1.size (k0_off1_inb i 27)) numel1_S1x1
  let c0_i32 : BitVec 32 := 0#32
  let c0_i32_0 : BitVec 32 := 0#32
  let c0_i32_1 : BitVec 32 := 0#32
  ![v4.toNat, c0_i32.toNat, c0_i32_0.toNat]

def cc0_transform_31 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c28_i32 : BitVec 32 := 28#32
  let v1 : BitVec 32 := Scalar.addi v0 c28_i32
  let v2 : Index := Scalar.indexCast arg0
  let v3 : Index := Scalar.indexCast v1
  let v4 : BitVec 32 := pf.at 0 (Rect.unit (s := S32x64) ![v2.toNat, v3.toNat] S1x1.size (k0_off1_inb i 28)) numel1_S1x1
  let c0_i32 : BitVec 32 := 0#32
  let c0_i32_0 : BitVec 32 := 0#32
  let c0_i32_1 : BitVec 32 := 0#32
  ![v4.toNat, c0_i32.toNat, c0_i32_0.toNat]

def cc0_transform_32 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c29_i32 : BitVec 32 := 29#32
  let v1 : BitVec 32 := Scalar.addi v0 c29_i32
  let v2 : Index := Scalar.indexCast arg0
  let v3 : Index := Scalar.indexCast v1
  let v4 : BitVec 32 := pf.at 0 (Rect.unit (s := S32x64) ![v2.toNat, v3.toNat] S1x1.size (k0_off1_inb i 29)) numel1_S1x1
  let c0_i32 : BitVec 32 := 0#32
  let c0_i32_0 : BitVec 32 := 0#32
  let c0_i32_1 : BitVec 32 := 0#32
  ![v4.toNat, c0_i32.toNat, c0_i32_0.toNat]

def cc0_transform_33 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c30_i32 : BitVec 32 := 30#32
  let v1 : BitVec 32 := Scalar.addi v0 c30_i32
  let v2 : Index := Scalar.indexCast arg0
  let v3 : Index := Scalar.indexCast v1
  let v4 : BitVec 32 := pf.at 0 (Rect.unit (s := S32x64) ![v2.toNat, v3.toNat] S1x1.size (k0_off1_inb i 30)) numel1_S1x1
  let c0_i32 : BitVec 32 := 0#32
  let c0_i32_0 : BitVec 32 := 0#32
  let c0_i32_1 : BitVec 32 := 0#32
  ![v4.toNat, c0_i32.toNat, c0_i32_0.toNat]

def cc0_transform_34 (k0_off1_inb : ∀ i : grid0.Coords, ∀ (r : Fin 32), ∀ a, (k0_off1 i (BitVec.ofNat 32 r.val)) a + S1x1.size a ≤ S32x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c31_i32 : BitVec 32 := 31#32
  let v1 : BitVec 32 := Scalar.addi v0 c31_i32
  let v2 : Index := Scalar.indexCast arg0
  let v3 : Index := Scalar.indexCast v1
  let v4 : BitVec 32 := pf.at 0 (Rect.unit (s := S32x64) ![v2.toNat, v3.toNat] S1x1.size (k0_off1_inb i 31)) numel1_S1x1
  let c0_i32 : BitVec 32 := 0#32
  let c0_i32_0 : BitVec 32 := 0#32
  let c0_i32_1 : BitVec 32 := 0#32
  ![v4.toNat, c0_i32.toNat, c0_i32_0.toNat]

def cc0_transform_35 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_36 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x64x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x64x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x64x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x64x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x64x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x64x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x64x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x64x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]

abbrev stage0_35 : Fin 2 → Memref sig .tc .vmem S1x1x4096 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true]

abbrev stage0_36 : Fin 2 → Memref sig .tc .vmem S1x1x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true, false]
-- ==== ScoresRefIdeal.lean ====
abbrev S32x64 : Shape := ⟨2, ![32, 64]⟩
abbrev S32x1x16x64 : Shape := ⟨4, ![32, 1, 16, 64]⟩
abbrev S32x1x16 : Shape := ⟨3, ![32, 1, 16]⟩
abbrev S32x1x64 : Shape := ⟨3, ![32, 1, 64]⟩
abbrev S1x2560x128x64 : Shape := ⟨4, ![1, 2560, 128, 64]⟩
abbrev S2560x128x64 : Shape := ⟨3, ![2560, 128, 64]⟩
abbrev S_ : Shape := ⟨0, ![]⟩
abbrev S32x64x1 : Shape := ⟨3, ![32, 64, 1]⟩
abbrev S32x64x128x64 : Shape := ⟨4, ![32, 64, 128, 64]⟩
abbrev S32x8192x64 : Shape := ⟨3, ![32, 8192, 64]⟩
abbrev S32x8193x64 : Shape := ⟨3, ![32, 8193, 64]⟩
abbrev S32x1x16x8193 : Shape := ⟨4, ![32, 1, 16, 8193]⟩
abbrev S32x1x8193 : Shape := ⟨3, ![32, 1, 8193]⟩
abbrev S32x1x8192 : Shape := ⟨3, ![32, 1, 8192]⟩
abbrev S32x1x1 : Shape := ⟨3, ![32, 1, 1]⟩
abbrev S32x1x128 : Shape := ⟨3, ![32, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S32x64, .i32⟩
  | .hbm, ⟨1, _⟩ => ⟨S32x1x16x64, .f32⟩
  | .hbm, ⟨2, _⟩ => ⟨S32x1x16, .f32⟩
  | .hbm, ⟨3, _⟩ => ⟨S32x1x64, .f32⟩
  | .hbm, ⟨4, _⟩ => ⟨S1x2560x128x64, .f32⟩
  | .hbm, ⟨5, _⟩ => ⟨S2560x128x64, .f32⟩
  | .hbm, ⟨6, _⟩ => ⟨S_, .i32⟩
  | .hbm, ⟨7, _⟩ => ⟨S32x64, .i32⟩
  | .hbm, ⟨8, _⟩ => ⟨S32x64, .i1⟩
  | .hbm, ⟨9, _⟩ => ⟨S_, .i32⟩
  | .hbm, ⟨10, _⟩ => ⟨S32x64, .i32⟩
  | .hbm, ⟨11, _⟩ => ⟨S32x64, .i32⟩
  | .hbm, ⟨12, _⟩ => ⟨S32x64, .i32⟩
  | .hbm, ⟨13, _⟩ => ⟨S32x64x1, .i32⟩
  | .hbm, ⟨14, _⟩ => ⟨S32x64x128x64, .f32⟩
  | .hbm, ⟨15, _⟩ => ⟨S32x8192x64, .f32⟩
  | .hbm, ⟨16, _⟩ => ⟨S32x8193x64, .f32⟩
  | .hbm, ⟨17, _⟩ => ⟨S32x1x16x8193, .f32⟩
  | .hbm, ⟨18, _⟩ => ⟨S_, .f32⟩
  | .hbm, ⟨19, _⟩ => ⟨S32x1x16x8193, .f32⟩
  | .hbm, ⟨20, _⟩ => ⟨S32x1x16x8193, .f32⟩
  | .hbm, ⟨21, _⟩ => ⟨S_, .f32⟩
  | .hbm, ⟨22, _⟩ => ⟨S32x1x16x8193, .f32⟩
  | .hbm, ⟨23, _⟩ => ⟨S32x1x16x8193, .f32⟩
  | .hbm, ⟨24, _⟩ => ⟨S_, .f32⟩
  | .hbm, ⟨25, _⟩ => ⟨S32x1x16, .f32⟩
  | .hbm, ⟨26, _⟩ => ⟨S32x1x16, .f32⟩
  | .hbm, ⟨27, _⟩ => ⟨S32x1x8193, .f32⟩
  | .hbm, ⟨28, _⟩ => ⟨S32x1x8192, .f32⟩
  | .hbm, ⟨29, _⟩ => ⟨S32x1x1, .f32⟩
  | .hbm, ⟨30, _⟩ => ⟨S32x1x128, .f32⟩
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Frames.lean ====
/-
  The frames: of the programs whose frames are generated whole, and of the host references, which have no semaphores.
-/
module

public import proofs.«01_k».proof.Defs
public import proofs.«01_k».proof.Proof.Gen.Out.Frame
public import proofs.«01_k».proof.Proof.Gen.OutIdeal.Frame
public import proofs.«01_k».proof.Proof.Gen.MemKv.Frame
public import proofs.«01_k».proof.Proof.Gen.MemKvIdeal.Frame
public import proofs.«01_k».proof.Proof.Gen.Xq.Frame
public import proofs.«01_k».proof.Proof.Gen.XqIdeal.Frame
public import proofs.«01_k».proof.Proof.Gen.Cross.Frame
public import proofs.«01_k».proof.Proof.Gen.CrossIdeal.Frame
public import proofs.«01_k».proof.Proof.Gen.GateS.Frame
public import proofs.«01_k».proof.Proof.Gen.GateSIdeal.Frame
public import proofs.«01_k».proof.Proof.Gen.Gate.Frame
public import proofs.«01_k».proof.Proof.Gen.GateIdeal.Frame
public import proofs.«01_k».proof.Proof.Gen.InRefIdeal.Run
public import proofs.«01_k».proof.Proof.Gen.InSRefIdeal.Run
public import proofs.«01_k».proof.Proof.Gen.OutRefIdeal.Run
public import proofs.«01_k».proof.Proof.Gen.MemKvRefIdeal.Run
public import proofs.«01_k».proof.Proof.Gen.XqRefIdeal.Run
public import proofs.«01_k».proof.Proof.Gen.CrossRefIdeal.Run
public import proofs.«01_k».proof.Proof.Gen.GateSRefIdeal.Run
public import proofs.«01_k».proof.Proof.Gen.GateRefIdeal.Run
public import Idealize.ShloMosaic.Lib.Claim
public import Idealize.ShloMosaic.Lib.Quiescent

@[expose] public section

noncomputable section

open Idealize.ShloMosaic Idealize.ShloMosaic.TcCoe Idealize.SL.Sem

namespace Cert.Frames

theorem out : Cert.quiescent_Out := fun m ρ _ => Cert.Out.Gen.frame m ρ
theorem outIdeal : Cert.quiescent_OutIdeal := fun m ρ _ => Cert.OutIdeal.Gen.frame m ρ
theorem memKv : Cert.quiescent_MemKv := fun m ρ _ => Cert.MemKv.Gen.frame m ρ
theorem memKvIdeal : Cert.quiescent_MemKvIdeal := fun m ρ _ => Cert.MemKvIdeal.Gen.frame m ρ
theorem xq : Cert.quiescent_Xq := fun m ρ _ => Cert.Xq.Gen.frame m ρ
theorem xqIdeal : Cert.quiescent_XqIdeal := fun m ρ _ => Cert.XqIdeal.Gen.frame m ρ
theorem cross : Cert.quiescent_Cross := fun m ρ _ => Cert.Cross.Gen.frame m ρ
theorem crossIdeal : Cert.quiescent_CrossIdeal := fun m ρ _ => Cert.CrossIdeal.Gen.frame m ρ
theorem gateS : Cert.quiescent_GateS := fun m ρ _ => Cert.GateS.Gen.frame m ρ
theorem gateSIdeal : Cert.quiescent_GateSIdeal := fun m ρ _ => Cert.GateSIdeal.Gen.frame m ρ
theorem gate : Cert.quiescent_Gate := fun m ρ _ => Cert.Gate.Gen.frame m ρ
theorem gateIdeal : Cert.quiescent_GateIdeal := fun m ρ _ => Cert.GateIdeal.Gen.frame m ρ

theorem inRef : Cert.quiescent_InRefIdeal := by
  intro m g _
  run_from Cert.InRefIdeal.Value.run m g
  · exact fun _ => by repeat' constructor
  · exact sem_eq_zero_of_no_sems rfl _

theorem inSRef : Cert.quiescent_InSRefIdeal := by
  intro m g _
  run_from Cert.InSRefIdeal.Value.run m g
  · exact fun _ => by repeat' constructor
  · exact sem_eq_zero_of_no_sems rfl _

theorem outRef : Cert.quiescent_OutRefIdeal := by
  intro m g _
  run_from Cert.OutRefIdeal.Value.run m g
  · exact fun _ => by repeat' constructor
  · exact sem_eq_zero_of_no_sems rfl _

theorem memKvRef : Cert.quiescent_MemKvRefIdeal := by
  intro m g _
  run_from Cert.MemKvRefIdeal.Value.run m g
  · exact fun _ => by repeat' constructor
  · exact sem_eq_zero_of_no_sems rfl _

theorem xqRef : Cert.quiescent_XqRefIdeal := by
  intro m g _
  run_from Cert.XqRefIdeal.Value.run m g
  · exact fun _ => by repeat' constructor
  · exact sem_eq_zero_of_no_sems rfl _

theorem crossRef : Cert.quiescent_CrossRefIdeal := by
  intro m g _
  run_from Cert.CrossRefIdeal.Value.run m g
  · exact fun _ => by repeat' constructor
  · exact sem_eq_zero_of_no_sems rfl _

theorem gateSRef : Cert.quiescent_GateSRefIdeal := by
  intro m g _
  run_from Cert.GateSRefIdeal.Value.run m g
  · exact fun _ => by repeat' constructor
  · exact sem_eq_zero_of_no_sems rfl _

theorem gateRef : Cert.quiescent_GateRefIdeal := by
  intro m g _
  run_from Cert.GateRefIdeal.Value.run m g
  · exact fun _ => by repeat' constructor
  · exact sem_eq_zero_of_no_sems rfl _

end Cert.Frames

end
-- ==== Proof.InRing.lean ====
/- The projection kernel's weight ring: three slots of one scratch buffer, filled by the kernel's own copies two steps ahead of
   the step that reads them. What the ring holds before each step, and the names its slots, blocks and cells go by. -/
module

public import proofs.«01_k».proof.Proof.Gen.InIdeal.Frame
public import proofs.«01_k».proof.Proof.Gen.InIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueLayout

@[expose] public section

set_option maxRecDepth 16384

noncomputable section

namespace Cert.InIdeal.Streamed

open Cert.InIdeal Cert.InIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the pallas call. -/
theorem entry (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! An input window's buffer holds its block at every point. -/

theorem before_in0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := k0_cond1 i = 1#1
theorem hcond0_0 : ∀ t : Fin cfg0.N, cond0_0 (grid0.coords t) ↔ t.val % 192 = 0 :=
  (by decide +kernel : ∀ t : Fin grid0.N, cond0_0 (grid0.coords t) ↔ t.val % 192 = 0)

abbrev cond0_1 (i : grid0.Coords) : Prop := k0_cond2 i = 1#1
theorem hcond0_1 : ∀ t : Fin cfg0.N, cond0_1 (grid0.coords t) ↔ t.val < 190 :=
  (by decide +kernel : ∀ t : Fin grid0.N, cond0_1 (grid0.coords t) ↔ t.val < 190)

abbrev cond0_2 (i : grid0.Coords) : Prop := k0_cond3 i = 1#1
theorem hcond0_2 : ∀ t : Fin cfg0.N, cond0_2 (grid0.coords t) ↔ t.val % 12 = 0 :=
  (fun t => by
    have ht : t.val < 192 := Nat.lt_of_lt_of_eq t.isLt N_0
    have e0 : (grid0.coords t 0).val = t.val / 12 % 16 := Pipeline.Grid.coords_val t 0 (by decide) rfl
    have e1 : (grid0.coords t 1).val = t.val / 1 % 12 := Pipeline.Grid.coords_val t 1 (by decide) rfl
    simp only [cond0_2, k0_cond3, e0, e1]
    word_cmp
   : ∀ t : Fin grid0.N, cond0_2 (grid0.coords t) ↔ t.val % 12 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev scM0_0 : Memref sig .tc .vmem S512x4096 .bf16 := Memref.whole cc0_scratch0
abbrev scM0_1 : Memref sig .tc .vmem S3x1024x4096 .bf16 := Memref.whole cc0_scratch1
abbrev hbM0_0 : Memref sig .tc .hbm S12368x4096 .bf16 := Memref.whole main_v2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 3 → SemLoc sig := fun j => (![SemLoc.dma 8, SemLoc.dma 9, SemLoc.dma 10] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2] (by decide) (by decide)]; rfl
def H0 : Finset (Ref sig .tc) := {main_v2}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0) ∗ iprop(hbPt0 c hbM0_0 (V m c main_v2))) := by
  rw [Pipeline.ΦD_eq, scopedRest0_eq, ownSems00_eq, hbmPts0_eq]; simp only [scM0_0, scM0_1, owns_whole]; try rfl

instance : NeZero grid0.N := ⟨by rw [N_0]; decide⟩
theorem inb_slot0_0 (s : Fin 3) : ∀ a, (![s.val, 0, 0] : Fin 3 → Nat) a + S1x1024x4096.size a ≤ S3x1024x4096.size a := by
  have := s.isLt; intro a; fin_cases a <;> simp <;> omega
/-- Where the weight rows of step `b` begin: the twelve column blocks in turn, those past row 4096 shifted over the 80 rows
    the second operand holds. -/
def rowsAt (b : Fin 192) : Fin 2 → Nat := ![1024 * (b.val % 12) + (if 4 ≤ b.val % 12 then 80 else 0), 0]
theorem inb_src0_0 (b : Fin 192) : ∀ a, (rowsAt b) a + S1024x4096.size a ≤ S12368x4096.size a := by
  have := b.isLt; intro a; fin_cases a
  · simp [rowsAt]; split <;> omega
  · simp [rowsAt]
theorem inb_cell0_0 (s : Fin 3) : ∀ a, (![s.val] : Fin 1 → Nat) a + S1.size a ≤ S3.size a := by
  have := s.isLt; intro a; fin_cases a <;> simp <;> omega
def rslot0_0 (s : Fin 3) : Memref sig .tc .vmem S1024x4096 .bf16 :=
  (scM0_1.slice (Rect.unit (s := S3x1024x4096) ![s.val, 0, 0] S1x1024x4096.size (inb_slot0_0 s)) (fun _ => rfl)).squeeze S1024x4096 squeezes_S1x1024x4096_S1024x4096
def srcB0_0 (b : Fin 192) : Memref sig .tc .hbm S1024x4096 .bf16 :=
  hbM0_0.slice (Rect.unit (s := S12368x4096) (rowsAt b) S1024x4096.size (inb_src0_0 b)) (fun _ => rfl)
def cellA0_0 (s : Fin 3) : DmaSems sig S_ := (cc0_scratch2.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 8 := by decide
theorem cellR0_0_1 : cellR0_0 1 = SemLoc.dma 9 := by decide
theorem cellR0_0_2 : cellR0_0 2 = SemLoc.dma 10 := by decide

section Ring0_0
variable (c : Dev nD) (W : HbBuf0 (F := F) c hbM0_0)
abbrev qs0_0 (s : Fin 3) : PosShare TreeShare := if s.val = 0 then fullShare.left else if s.val = 1 then fullShare.right.left else fullShare.right.right
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 192) : sProp 𝕄 := (srcB0_0 b).view.loc (c : Thread nD τ) ↦[(srcB0_0 b).view.set]{qs0_0 s} W
def restP0_0 (s : Fin 3) (b : Fin 192) : sProp 𝕄 := ((c : Thread nD τ).loc main_v2) ↦[Finset.univ \ (srcB0_0 b).view.set]{qs0_0 s} W
abbrev wholeP0_0 (s : Fin 3) : sProp 𝕄 := ((c : Thread nD τ).loc main_v2) ↦[Finset.univ]{qs0_0 s} W
abbrev landed0_0 (s : Fin 3) (b : Fin 192) (f : HbBuf0 (F := F) c (rslot0_0 s)) : HbBuf0 (F := F) c (rslot0_0 s) :=
  (rslot0_0 s).view.writes (Elt F) f [⟨Rect.whole S1024x4096, ReadAs.same.apply ((srcB0_0 b).view.read (Elt F) W)⟩]
abbrev flightP0_0 (s : Fin 3) (b : Fin 192) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
abbrev slotW0_0 (s : Fin 3) (f : HbBuf0 (F := F) c (rslot0_0 s)) : sProp 𝕄 := iprop(slotP0_0 c s f ∗ wholeP0_0 c W s)
abbrev flightW0_0 (s : Fin 3) (b : Fin 192) (f : HbBuf0 (F := F) c (rslot0_0 s)) : sProp 𝕄 := iprop(flightP0_0 c W s b f ∗ restP0_0 c W s b)
abbrev noHome0_0 (b : Fin 192) : sProp 𝕄 := iprop(emp)
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 8) 0 := congrArg (fun x => (semVal ((c : Thread nD τ), x) 0 : sProp 𝕄)) cellR0_0_0
omit [FloatOps F] in
theorem cellP0_0_1 : cellP0_0 (F := F) c 1 = semVal ((c : Thread nD τ), SemLoc.dma 9) 0 := congrArg (fun x => (semVal ((c : Thread nD τ), x) 0 : sProp 𝕄)) cellR0_0_1
omit [FloatOps F] in
theorem cellP0_0_2 : cellP0_0 (F := F) c 2 = semVal ((c : Thread nD τ), SemLoc.dma 10) 0 := congrArg (fun x => (semVal ((c : Thread nD τ), x) 0 : sProp 𝕄)) cellR0_0_2
end Ring0_0

abbrev slotSet0_0 (s : Fin 3) : Finset S3x1024x4096.Idx := (Rect.unit (s := S3x1024x4096) ![s.val, 0, 0] S1x1024x4096.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x1024x4096) (0 : Fin 3) 1 (fun s : Fin 3 => (![s.val, 0, 0] : Fin 3 → Nat)) S1x1024x4096.size inb_slot0_0 (fun s => by simp) rfl s s' h
theorem slots0_0_cover : Finset.univ.biUnion slotSet0_0 = Finset.univ :=
  Ring.lead_cover (s := S3x1024x4096) (0 : Fin 3) 1 (fun s : Fin 3 => (![s.val, 0, 0] : Fin 3 → Nat)) S1x1024x4096.size inb_slot0_0 (fun s => by simp)
    (fun s a ha => by fin_cases a <;> first | exact absurd rfl ha | rfl) rfl (fun a ha => by fin_cases a <;> first | exact absurd rfl ha | rfl) rfl

section InOut0_0
variable (c : Dev nD) (W : HbBuf0 (F := F) c hbM0_0)
theorem slotP0_0_eq (s : Fin 3) (f) : slotP0_0 (F := F) c s f = (((c : Thread nD τ).loc cc0_scratch1) ↦[slotSet0_0 s]{fullShare} f : sProp 𝕄) := by
  unfold slotP0_0; rw [slotSet0_0_eq]; rfl
theorem src0_0_split (s : Fin 3) (b : Fin 192) : wholeP0_0 (F := F) c W s ⊣⊢ iprop(srcP0_0 c W s b ∗ restP0_0 c W s b) := by
  unfold restP0_0; exact pointsTo_split_subset (Finset.subset_univ _)
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slots0_0_in : iprop(∃ d, owns (c : Thread nD τ) scM0_1 fullShare d) ⊢ (iprop((∃ f, slotP0_0 (F := F) c 0 f) ∗ (∃ f, slotP0_0 (F := F) c 1 f) ∗ ∃ f, slotP0_0 (F := F) c 2 f) : sProp 𝕄) := by
  simp only [scM0_1, owns_whole]
  exact Ring.slots3_split (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
end InOut0_0

theorem ring0_0_in (c : Dev nD) :
    iprop((∃ d, owns (c : Thread nD τ) scM0_1 fullShare d) ∗ (semVal ((c : Thread nD τ), SemLoc.dma 8) 0 ∗ semVal ((c : Thread nD τ), SemLoc.dma 9) 0 ∗ semVal ((c : Thread nD τ), SemLoc.dma 10) 0) ∗ hbPt0 c hbM0_0 (V m c main_v2))
      ⊢ ringAt0_0 c (V m c main_v2) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_v2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ring0_0_out (c : Dev nD) :
    ringAt0_0 c (V m c main_v2) 192
      ⊢ iprop((∃ d, owns (c : Thread nD τ) scM0_1 fullShare d) ∗ (semVal ((c : Thread nD τ), SemLoc.dma 8) 0 ∗ semVal ((c : Thread nD τ), SemLoc.dma 9) 0 ∗ semVal ((c : Thread nD τ), SemLoc.dma 10) 0) ∗ hbPt0 c hbM0_0 (V m c main_v2)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_v2)).2; isplitl [HW0]; · iexact HW0
    isplitl [HW1]; · iexact HW1
    iexact HW2

section Canon0_0
omit [FloatOps F]
theorem rstep0_0_A : ∀ t : Fin grid0.N, cond0_0 (grid0.coords t) → cond0_1 (grid0.coords t) → cond0_2 (grid0.coords t) → t.val = 0 ∧ (t.val + 1) = 1 := by decide +kernel
theorem rstep0_0_B : ∀ t : Fin grid0.N, ¬cond0_0 (grid0.coords t) → cond0_1 (grid0.coords t) → ¬cond0_2 (grid0.coords t) → 1 ≤ t.val ∧ t.val + 2 < 192 ∧ (t.val + 1) = t.val + 1 := by decide +kernel
theorem rstep0_0_C : ∀ t : Fin grid0.N, ¬cond0_0 (grid0.coords t) → cond0_1 (grid0.coords t) → cond0_2 (grid0.coords t) → 1 ≤ t.val ∧ t.val + 2 < 192 ∧ (t.val + 1) = t.val + 1 := by decide +kernel
theorem rstep0_0_D : ∀ t : Fin grid0.N, ¬cond0_0 (grid0.coords t) → ¬cond0_1 (grid0.coords t) → ¬cond0_2 (grid0.coords t) → 1 ≤ t.val ∧ 192 ≤ t.val + 2 ∧ t.val < 192 ∧ (t.val + 1) = t.val + 1 := by decide +kernel
set_option synthInstance.maxSize 4096 in
theorem coff0_0_1 : ∀ t : Fin grid0.N, cond0_0 (grid0.coords t) → cond0_1 (grid0.coords t) → cond0_2 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) (h2 : cond0_2 (grid0.coords t)) :
    (scM0_1.slice (Rect.unit (s := S3x1024x4096) ![0, 0, 0] S1x1024x4096.size inb_S3x1024x4096_S1x1024x4096_0_0_0) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_1 t h0 h1 h2) _ _ (fun _ => rfl) (fun _ => rfl))
set_option synthInstance.maxSize 4096 in
theorem coff0_0_2 : ∀ t : Fin grid0.N, cond0_0 (grid0.coords t) → cond0_1 (grid0.coords t) → cond0_2 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : cond0_2 (grid0.coords t)) :
    (cc0_scratch2.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2) _ _)
set_option synthInstance.maxSize 4096 in
theorem coff0_0_3 : ∀ t : Fin grid0.N, cond0_0 (grid0.coords t) → cond0_1 (grid0.coords t) → cond0_2 (grid0.coords t) → k0_off1 0#32 = rowsAt (Ring.bk 192 t.val) := by decide +kernel
@[sl_canon] theorem canon0_0_3 (t : Fin grid0.N) (h0 : cond0_0 (grid0.coords t)) (h1 : cond0_1 (grid0.coords t)) (h2 : cond0_2 (grid0.coords t)) :
    hbM0_0.slice (Rect.unit (s := S12368x4096) (k0_off1 0#32) S1024x4096.size (k0_off1_inb (grid0.coords t) h0 0)) (fun _ => rfl) = srcB0_0 (Ring.bk 192 t.val) :=
  congrArg (fun M : Memref sig .tc .hbm S1024x4096 .bf16 => M) (Memref.slice_unit_congr _ (coff0_0_3 t h0 h1 h2) _ _ (fun _ => rfl) (fun _ => rfl))
set_option synthInstance.maxSize 4096 in
theorem coff0_0_4 : ∀ t : Fin grid0.N, cond0_0 (grid0.coords t) → cond0_1 (grid0.coords t) → cond0_2 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) (h2 : cond0_2 (grid0.coords t)) :
    (scM0_1.slice (Rect.unit (s := S3x1024x4096) ![1, 0, 0] S1x1024x4096.size inb_S3x1024x4096_S1x1024x4096_1_0_0) (fun _ => rfl)).squeeze S1024x4096 squeezes_S1x1024x4096_S1024x4096 = rslot0_0 (Ring.sl 3 (t.val + 1)) :=
  congrArg (fun M : Memref sig .tc .vmem S1x1024x4096 .bf16 => M.squeeze S1024x4096 squeezes_S1x1024x4096_S1024x4096) (Memref.slice_unit_congr _ (coff0_0_4 t h0 h1 h2) _ _ (fun _ => rfl) (fun _ => rfl))
set_option synthInstance.maxSize 4096 in
theorem coff0_0_5 : ∀ t : Fin grid0.N, cond0_0 (grid0.coords t) → cond0_1 (grid0.coords t) → cond0_2 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : cond0_2 (grid0.coords t)) :
    (cc0_scratch2.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2) _ _)
set_option synthInstance.maxSize 4096 in
theorem coff0_0_6 : ∀ t : Fin grid0.N, cond0_0 (grid0.coords t) → cond0_1 (grid0.coords t) → cond0_2 (grid0.coords t) → k0_off1 1#32 = rowsAt (Ring.bk 192 (t.val + 1)) := by decide +kernel
@[sl_canon] theorem canon0_0_6 (t : Fin grid0.N) (h0 : cond0_0 (grid0.coords t)) (h1 : cond0_1 (grid0.coords t)) (h2 : cond0_2 (grid0.coords t)) :
    hbM0_0.slice (Rect.unit (s := S12368x4096) (k0_off1 1#32) S1024x4096.size (k0_off1_inb (grid0.coords t) h0 1)) (fun _ => rfl) = srcB0_0 (Ring.bk 192 (t.val + 1)) :=
  congrArg (fun M : Memref sig .tc .hbm S1024x4096 .bf16 => M) (Memref.slice_unit_congr _ (coff0_0_6 t h0 h1 h2) _ _ (fun _ => rfl) (fun _ => rfl))
set_option synthInstance.maxSize 4096 in
theorem coff0_0_7 : ∀ t : Fin grid0.N, k0_off3 (grid0.coords t) = ![(Ring.sl 3 (t.val + 2)).val, 0, 0] := by decide +kernel
@[sl_canon] theorem canon0_0_7 (t : Fin grid0.N) (h1 : cond0_1 (grid0.coords t)) :
    (scM0_1.slice (Rect.unit (s := S3x1024x4096) (k0_off3 (grid0.coords t)) S1x1024x4096.size (k0_off3_inb (grid0.coords t) h1)) (fun _ => rfl)).squeeze S1024x4096 squeezes_S1x1024x4096_S1024x4096 = rslot0_0 (Ring.sl 3 (t.val + 2)) :=
  congrArg (fun M : Memref sig .tc .vmem S1x1024x4096 .bf16 => M.squeeze S1024x4096 squeezes_S1x1024x4096_S1024x4096) (Memref.slice_unit_congr _ (coff0_0_7 t ) _ _ (fun _ => rfl) (fun _ => rfl))
set_option synthInstance.maxSize 4096 in
theorem coff0_0_8 : ∀ t : Fin grid0.N, k0_off2 (grid0.coords t) = ![(Ring.sl 3 (t.val + 2)).val] := by decide +kernel
@[sl_canon] theorem canon0_0_8 (t : Fin grid0.N) (h1 : cond0_1 (grid0.coords t)) :
    (cc0_scratch2.slice (Rect.unit (s := S3) (k0_off2 (grid0.coords t)) S1.size (k0_off2_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → cond0_2 (grid0.coords t) → k0_off4 (grid0.coords t) = rowsAt (Ring.bk 192 (t.val + 2)) := by decide +kernel
@[sl_canon] theorem canon0_0_9 (t : Fin grid0.N) (h0 : cond0_0 (grid0.coords t)) (h1 : cond0_1 (grid0.coords t)) (h2 : cond0_2 (grid0.coords t)) :
    hbM0_0.slice (Rect.unit (s := S12368x4096) (k0_off4 (grid0.coords t)) S1024x4096.size (k0_off4_inb (grid0.coords t) h1)) (fun _ => rfl) = srcB0_0 (Ring.bk 192 (t.val + 2)) :=
  congrArg (fun M : Memref sig .tc .hbm S1024x4096 .bf16 => M) (Memref.slice_unit_congr _ (coff0_0_9 t h0 h1 h2) _ _ (fun _ => rfl) (fun _ => rfl))
set_option synthInstance.maxSize 4096 in
theorem coff0_0_10 : ∀ t : Fin grid0.N, k0_off6 (grid0.coords t) = ![(Ring.sl 3 t.val).val, 0, 0] := by decide +kernel
@[sl_canon] theorem canon0_0_10 (t : Fin grid0.N) :
    (scM0_1.slice (Rect.unit (s := S3x1024x4096) (k0_off6 (grid0.coords t)) S1x1024x4096.size (k0_off6_inb (grid0.coords t))) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_10 t ) _ _ (fun _ => rfl) (fun _ => rfl))
set_option synthInstance.maxSize 4096 in
theorem coff0_0_11 : ∀ t : Fin grid0.N, k0_off5 (grid0.coords t) = ![(Ring.sl 3 t.val).val] := by decide +kernel
@[sl_canon] theorem canon0_0_11 (t : Fin grid0.N) :
    (cc0_scratch2.slice (Rect.unit (s := S3) (k0_off5 (grid0.coords t)) S1.size (k0_off5_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → ¬cond0_2 (grid0.coords t) → k0_off4 (grid0.coords t) = rowsAt (Ring.bk 192 (t.val + 2)) := by decide +kernel
@[sl_canon] theorem canon0_0_12 (t : Fin grid0.N) (h0 : ¬cond0_0 (grid0.coords t)) (h1 : cond0_1 (grid0.coords t)) (h2 : ¬cond0_2 (grid0.coords t)) :
    hbM0_0.slice (Rect.unit (s := S12368x4096) (k0_off4 (grid0.coords t)) S1024x4096.size (k0_off4_inb (grid0.coords t) h1)) (fun _ => rfl) = srcB0_0 (Ring.bk 192 (t.val + 2)) :=
  congrArg (fun M : Memref sig .tc .hbm S1024x4096 .bf16 => M) (Memref.slice_unit_congr _ (coff0_0_12 t h0 h1 h2) _ _ (fun _ => rfl) (fun _ => rfl))
set_option synthInstance.maxSize 4096 in
theorem coff0_0_13 : ∀ t : Fin grid0.N, ¬cond0_0 (grid0.coords t) → cond0_1 (grid0.coords t) → cond0_2 (grid0.coords t) → k0_off4 (grid0.coords t) = rowsAt (Ring.bk 192 (t.val + 2)) := by decide +kernel
@[sl_canon] theorem canon0_0_13 (t : Fin grid0.N) (h0 : ¬cond0_0 (grid0.coords t)) (h1 : cond0_1 (grid0.coords t)) (h2 : cond0_2 (grid0.coords t)) :
    hbM0_0.slice (Rect.unit (s := S12368x4096) (k0_off4 (grid0.coords t)) S1024x4096.size (k0_off4_inb (grid0.coords t) h1)) (fun _ => rfl) = srcB0_0 (Ring.bk 192 (t.val + 2)) :=
  congrArg (fun M : Memref sig .tc .hbm S1024x4096 .bf16 => M) (Memref.slice_unit_congr _ (coff0_0_13 t h0 h1 h2) _ _ (fun _ => rfl) (fun _ => rfl))
set_option synthInstance.maxSize 4096 in
theorem coff0_0_14 : ∀ t : Fin grid0.N, k0_off8 (grid0.coords t) = ![(Ring.sl 3 t.val).val, 0, 0] := by decide +kernel
instance (priority := high) closedOff0_0_14 (t : Fin grid0.N) : ClosedOff (k0_off8 (grid0.coords t)) := ⟨![(Ring.sl 3 t.val).val, 0, 0], coff0_0_14 t⟩
end Canon0_0

end Cert.InIdeal.Streamed

end
-- ==== Proof.InRun.lean ====
/- The projection kernel's body, run in its four cases with everything it leaves named: the normalised rows (computed at the first
   column block and kept), the block of the product, and the narrow product beside it. -/
module

public import proofs.«01_k».proof.Proof.InRing
public import Idealize.ShloMosaic.Lib.VecWindow
public import Idealize.ShloMosaic.Lib.ValueLayout

@[expose] public section

set_option maxRecDepth 16384

noncomputable section

namespace Cert.InIdeal.Streamed

open Cert.InIdeal Cert.InIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weight rows of step `b`, in the shape the body loads them. -/
def wblk (c : Dev nD) (W : HbBuf0 (F := F) c hbM0_0) (b : Fin 192) : Vec F S1x1024x4096 .bf16 :=
  fun x => (srcB0_0 b).view.read (Elt F) W (ix2 (x 1) (x 2))

/-- A slot of the ring, filled whole and loaded through the ring's own buffer, reads what it was filled with. -/
theorem load_slot (s : Fin 3) {o : Fin 3 → ℕ} (ho : o = ![s.val, 0, 0]) (inb : ∀ a, o a + S1x1024x4096.size a ≤ S3x1024x4096.size a)
    (f : (rslot0_0 s).view.ty.Contents (Elt F)) (w : S1024x4096.Idx → Elt F .bf16) :
    View.readAt (Elt F) scM0_1.view (Rect.unit (s := S3x1024x4096) o S1x1024x4096.size inb).toLoadRect
        ((rslot0_0 s).view.writes (Elt F) f [⟨Rect.whole S1024x4096, w⟩])
      = fun x => w (ix2 (x 1) (x 2)) := by
  subst ho
  funext x
  have key : (rslot0_0 s).view.read (Elt F) ((rslot0_0 s).view.writes (Elt F) f [⟨Rect.whole S1024x4096, w⟩]) (ix2 (x 1) (x 2)) = w (ix2 (x 1) (x 2)) :=
    congrFun (View.read_writes_full (rslot0_0 s).view f (off := fun _ => 0) (fun a => by simp) w []) _
  refine Eq.trans ?_ key
  refine congrArg (fun i => scM0_1.view.read (Elt F) ((rslot0_0 s).view.writes (Elt F) f [⟨Rect.whole S1024x4096, w⟩]) i)
    (?_ : _ = (Rect.unit (s := S3x1024x4096) ![s.val, 0, 0] S1x1024x4096.size inb).emb (Shape.reshapeEquiv _ (ix2 (x 1) (x 2))))
  refine congrArg _ (Eq.trans ?_ (reshapeEquiv_ix2_1ab (a := 1024) (b := 4096) _ (x 1) (x 2)).symm)
  funext a
  fin_cases a
  · exact Subsingleton.elim (α := Fin 1) _ _
  · rfl
  · rfl

set_option maxHeartbeats 1000000 in
theorem runA (c : Dev nD) (t : Fin cfg0.N) (arg2 : Memref sig .tc .vmem S512x4096 .f32) (harg2 : arg2.IsWhole) (arg3 : Memref sig .tc .vmem S1x4096 .f32) (harg3 : arg3.IsWhole) (arg5 : Memref sig .tc .vmem S128x4096 .bf16) (harg5 : arg5.IsWhole) (arg6 : Memref sig .tc .vmem S512x1024 .f32) (harg6 : arg6.IsWhole) (arg7 : Memref sig .tc .vmem S512x128 .f32) (harg7 : arg7.IsWhole) (arg8 : Memref sig .tc .vmem S512x4096 .bf16) (harg8 : arg8.IsWhole) (hc0 : cond0_0 (grid0.coords t)) (hc1 : cond0_1 (grid0.coords t)) (hc2 : cond0_2 (grid0.coords t))
    (x0 : Vec F S512x4096 .f32) (x1 : Vec F S1x4096 .f32) (x2 : Vec F S128x4096 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare (k0_pay3 (k0_pay1 x0 x1) (wblk c fh0 (Ring.bk 192 t.val))) ∗ owns (c : Thread nD τ) arg7 fullShare (k0_pay2 (k0_pay1 x0 x1) x2) ∗ owns (c : Thread nD τ) arg8 fullShare (k0_pay1 x0 x1) ∗ Ring.inflight (flightW0_0 c fh0) (Ring.sl 3 (t.val + 1)) (Ring.bk 192 (t.val + 1)) ∗ Ring.inflight (flightW0_0 c fh0) (Ring.sl 3 (t.val + 2)) (Ring.bk 192 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_in_proj_prompt (grid0.coords t) arg2 harg2 arg3 harg3 (Memref.whole main_v2) (Memref.isWhole_whole _) arg5 harg5 arg6 harg6 arg7 harg7 arg8 harg8 scM0_1 (Memref.isWhole_whole _) cc0_scratch2) K := by
    intro W K
    haveI : Fact (cond0_0 (grid0.coords t)) := ⟨hc0⟩
    haveI : Fact (cond0_1 (grid0.coords t)) := ⟨hc1⟩
    haveI : Fact (cond0_2 (grid0.coords t)) := ⟨hc2⟩
    simp only [cc0_in_proj_prompt_eq_skeleton]; unfold cc0_in_proj_prompt_skel
    simp only [k0_part1_eq_skeleton]
    have hcanon0 := canon0_0_1 t hc0 hc1 hc2
    have hcanon1 := canon0_0_2 t hc0 hc1 hc2
    have hcanon2 := canon0_0_4 t hc0 hc1 hc2
    have hcanon3 := canon0_0_5 t hc0 hc1 hc2
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
    ihave Hsp0_0_0 := (src0_0_split c fh0 (Ring.sl 3 t.val) (Ring.bk 192 t.val)).1 $$ Hw0_0_0
    icases Hsp0_0_0 with ⟨Hh0_0_0, Hr0_0_0⟩
    ihave Hsp0_0_1 := (src0_0_split c fh0 (Ring.sl 3 (t.val + 1)) (Ring.bk 192 (t.val + 1))).1 $$ Hw0_0_1
    icases Hsp0_0_1 with ⟨Hh0_0_1, Hr0_0_1⟩
    ihave Hsp0_0_2 := (src0_0_split c fh0 (Ring.sl 3 (t.val + 2)) (Ring.bk 192 (t.val + 2))).1 $$ Hw0_0_2
    icases Hsp0_0_2 with ⟨Hh0_0_2, Hr0_0_2⟩
    obtain rfl := harg2.eq_unread hf0; obtain rfl := harg3.eq_unread hf1; obtain rfl := harg5.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro; refine (View.read_writes_full _ _ _ _ _).trans ?_; unfold runA.sl.r runA.sl.v51 runA.sl.HS0_1 runA.sl.v27; rw [View.readCov_full, View.readAt_full, View.readAt_full, hf0, hf1]; exact congrArg _ (load_slot _ (coff0_0_14 t) _ _ _)
    isplitl [H4]
    · iexists _; isplitr; swap; · iexact H4
      ipureintro; refine (View.read_writes_full _ _ _ _ _).trans ?_; unfold runA.sl.v51 runA.sl.HS0_1; rw [View.readCov_full, View.readAt_full, View.readAt_full, View.readAt_full, hf0, hf1, hf2]
    isplitl [HS0]
    · iexists _; isplitr; swap; · iexact HS0
      ipureintro; unfold runA.sl.HS0_1; refine (View.read_writes_full _ _ _ _ _).trans ?_; rw [View.readAt_full, View.readAt_full, hf0, hf1]
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 192 t.val)).2; isplitl [Hh0_0_0]; · iexact Hh0_0_0
      iexact Hr0_0_0
    iexists _; iexact HW

set_option maxHeartbeats 1000000 in
theorem runB (c : Dev nD) (t : Fin cfg0.N) (arg2 : Memref sig .tc .vmem S512x4096 .f32) (harg2 : arg2.IsWhole) (arg3 : Memref sig .tc .vmem S1x4096 .f32) (harg3 : arg3.IsWhole) (arg5 : Memref sig .tc .vmem S128x4096 .bf16) (harg5 : arg5.IsWhole) (arg6 : Memref sig .tc .vmem S512x1024 .f32) (harg6 : arg6.IsWhole) (arg7 : Memref sig .tc .vmem S512x128 .f32) (harg7 : arg7.IsWhole) (arg8 : Memref sig .tc .vmem S512x4096 .bf16) (harg8 : arg8.IsWhole) (hc0 : ¬cond0_0 (grid0.coords t)) (hc1 : cond0_1 (grid0.coords t)) (hc2 : ¬cond0_2 (grid0.coords t))
    (x0 : Vec F S512x4096 .f32) (x1 : Vec F S1x4096 .f32) (x2 : Vec F S128x4096 .bf16) (y : Vec F S512x128 .f32) (n : Vec F S512x4096 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ owns (c : Thread nD τ) arg7 fullShare y ∗ owns (c : Thread nD τ) arg8 fullShare n ∗ Ring.inflight (flightW0_0 c fh0) (Ring.sl 3 t.val) (Ring.bk 192 t.val) ∗ Ring.inflight (flightW0_0 c fh0) (Ring.sl 3 (t.val + 1)) (Ring.bk 192 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare (k0_pay3 n (wblk c fh0 (Ring.bk 192 t.val))) ∗ owns (c : Thread nD τ) arg7 fullShare y ∗ owns (c : Thread nD τ) arg8 fullShare n ∗ Ring.inflight (flightW0_0 c fh0) (Ring.sl 3 (t.val + 1)) (Ring.bk 192 (t.val + 1)) ∗ Ring.inflight (flightW0_0 c fh0) (Ring.sl 3 (t.val + 2)) (Ring.bk 192 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_in_proj_prompt (grid0.coords t) arg2 harg2 arg3 harg3 (Memref.whole main_v2) (Memref.isWhole_whole _) arg5 harg5 arg6 harg6 arg7 harg7 arg8 harg8 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    simp only [cc0_in_proj_prompt_eq_skeleton]; unfold cc0_in_proj_prompt_skel
    simp only [k0_part1_eq_skeleton]
    unfold owns Ring.free Ring.inflight
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh0 (Ring.sl 3 (t.val + 2)) (Ring.bk 192 (t.val + 2))).1 $$ Hw0_0_2
    icases Hsp0_0_2 with ⟨Hh0_0_2, Hr0_0_2⟩
    obtain rfl := harg2.eq_unread hf0; obtain rfl := harg3.eq_unread hf1; obtain rfl := harg5.eq_unread hf2; obtain rfl := harg7.eq_unread hf4; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro; refine (View.read_writes_full _ _ _ _ _).trans ?_; unfold runB.sl.r runB.sl.v27; rw [View.readAt_full, hfs0]; exact congrArg _ (load_slot _ (coff0_0_14 t) _ _ _)
    isplitl [H4]
    · iexists _; isplitr; swap; · iexact H4
      ipureintro; exact harg7.read_unread _
    isplitl [HS0]
    · iexists _; isplitr; swap; · iexact HS0
      ipureintro; exact harg8.read_unread _
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 192 t.val)).2; isplitl [Hf0_0_0_src]; · iexact Hf0_0_0_src
      iexact Hrf0_0_0
    iexists _; iexact HW

set_option maxHeartbeats 1000000 in
theorem runC (c : Dev nD) (t : Fin cfg0.N) (arg2 : Memref sig .tc .vmem S512x4096 .f32) (harg2 : arg2.IsWhole) (arg3 : Memref sig .tc .vmem S1x4096 .f32) (harg3 : arg3.IsWhole) (arg5 : Memref sig .tc .vmem S128x4096 .bf16) (harg5 : arg5.IsWhole) (arg6 : Memref sig .tc .vmem S512x1024 .f32) (harg6 : arg6.IsWhole) (arg7 : Memref sig .tc .vmem S512x128 .f32) (harg7 : arg7.IsWhole) (arg8 : Memref sig .tc .vmem S512x4096 .bf16) (harg8 : arg8.IsWhole) (hc0 : ¬cond0_0 (grid0.coords t)) (hc1 : cond0_1 (grid0.coords t)) (hc2 : cond0_2 (grid0.coords t))
    (x0 : Vec F S512x4096 .f32) (x1 : Vec F S1x4096 .f32) (x2 : Vec F S128x4096 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 3 t.val) (Ring.bk 192 t.val) ∗ Ring.inflight (flightW0_0 c fh0) (Ring.sl 3 (t.val + 1)) (Ring.bk 192 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare (k0_pay3 (k0_pay1 x0 x1) (wblk c fh0 (Ring.bk 192 t.val))) ∗ owns (c : Thread nD τ) arg7 fullShare (k0_pay2 (k0_pay1 x0 x1) x2) ∗ owns (c : Thread nD τ) arg8 fullShare (k0_pay1 x0 x1) ∗ Ring.inflight (flightW0_0 c fh0) (Ring.sl 3 (t.val + 1)) (Ring.bk 192 (t.val + 1)) ∗ Ring.inflight (flightW0_0 c fh0) (Ring.sl 3 (t.val + 2)) (Ring.bk 192 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_in_proj_prompt (grid0.coords t) arg2 harg2 arg3 harg3 (Memref.whole main_v2) (Memref.isWhole_whole _) arg5 harg5 arg6 harg6 arg7 harg7 arg8 harg8 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (cond0_2 (grid0.coords t)) := ⟨hc2⟩
    simp only [cc0_in_proj_prompt_eq_skeleton]; unfold cc0_in_proj_prompt_skel
    simp only [k0_part1_eq_skeleton]
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh0 (Ring.sl 3 (t.val + 2)) (Ring.bk 192 (t.val + 2))).1 $$ Hw0_0_2
    icases Hsp0_0_2 with ⟨Hh0_0_2, Hr0_0_2⟩
    obtain rfl := harg2.eq_unread hf0; obtain rfl := harg3.eq_unread hf1; obtain rfl := harg5.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro; refine (View.read_writes_full _ _ _ _ _).trans ?_; unfold runC.sl.r runC.sl.v51 runC.sl.HS0_1 runC.sl.v27; rw [View.readCov_full, View.readAt_full, View.readAt_full, hf0, hf1]; exact congrArg _ (load_slot _ (coff0_0_14 t) _ _ _)
    isplitl [H4]
    · iexists _; isplitr; swap; · iexact H4
      ipureintro; refine (View.read_writes_full _ _ _ _ _).trans ?_; unfold runC.sl.v51 runC.sl.HS0_1; rw [View.readCov_full, View.readAt_full, View.readAt_full, View.readAt_full, hf0, hf1, hf2]
    isplitl [HS0]
    · iexists _; isplitr; swap; · iexact HS0
      ipureintro; unfold runC.sl.HS0_1; refine (View.read_writes_full _ _ _ _ _).trans ?_; rw [View.readAt_full, View.readAt_full, hf0, hf1]
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 192 t.val)).2; isplitl [Hf0_0_0_src]; · iexact Hf0_0_0_src
      iexact Hrf0_0_0
    iexists _; iexact HW

set_option maxHeartbeats 1000000 in
theorem runD (c : Dev nD) (t : Fin cfg0.N) (arg2 : Memref sig .tc .vmem S512x4096 .f32) (harg2 : arg2.IsWhole) (arg3 : Memref sig .tc .vmem S1x4096 .f32) (harg3 : arg3.IsWhole) (arg5 : Memref sig .tc .vmem S128x4096 .bf16) (harg5 : arg5.IsWhole) (arg6 : Memref sig .tc .vmem S512x1024 .f32) (harg6 : arg6.IsWhole) (arg7 : Memref sig .tc .vmem S512x128 .f32) (harg7 : arg7.IsWhole) (arg8 : Memref sig .tc .vmem S512x4096 .bf16) (harg8 : arg8.IsWhole) (hc0 : ¬cond0_0 (grid0.coords t)) (hc1 : ¬cond0_1 (grid0.coords t)) (hc2 : ¬cond0_2 (grid0.coords t))
    (x0 : Vec F S512x4096 .f32) (x1 : Vec F S1x4096 .f32) (x2 : Vec F S128x4096 .bf16) (y : Vec F S512x128 .f32) (n : Vec F S512x4096 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ owns (c : Thread nD τ) arg7 fullShare y ∗ owns (c : Thread nD τ) arg8 fullShare n ∗ Ring.inflight (flightW0_0 c fh0) (Ring.sl 3 t.val) (Ring.bk 192 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare (k0_pay3 n (wblk c fh0 (Ring.bk 192 t.val))) ∗ owns (c : Thread nD τ) arg7 fullShare y ∗ owns (c : Thread nD τ) arg8 fullShare n ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_in_proj_prompt (grid0.coords t) arg2 harg2 arg3 harg3 (Memref.whole main_v2) (Memref.isWhole_whole _) arg5 harg5 arg6 harg6 arg7 harg7 arg8 harg8 scM0_1 (Memref.isWhole_whole _) cc0_scratch2) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_in_proj_prompt_eq_skeleton]; unfold cc0_in_proj_prompt_skel
    simp only [k0_part1_eq_skeleton]
    unfold owns Ring.free Ring.inflight
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%ff0_0_0, Hf0_0_0, Hrf0_0_0⟩, Hro0_0_1, ⟨Hc0_0_2, ⟨%fs0_0_2, Hs0_0_2, Hw0_0_2⟩⟩, HW, Hk⟩
    obtain rfl := harg2.eq_unread hf0; obtain rfl := harg3.eq_unread hf1; obtain rfl := harg5.eq_unread hf2; obtain rfl := harg7.eq_unread hf4; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro; refine (View.read_writes_full _ _ _ _ _).trans ?_; unfold runD.sl.r runD.sl.v27; rw [View.readAt_full, hfs0]; exact congrArg _ (load_slot _ (coff0_0_14 t) _ _ _)
    isplitl [H4]
    · iexists _; isplitr; swap; · iexact H4
      ipureintro; exact harg7.read_unread _
    isplitl [HS0]
    · iexists _; isplitr; swap; · iexact HS0
      ipureintro; exact harg8.read_unread _
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 192 t.val)).2; isplitl [Hf0_0_0_src]; · iexact Hf0_0_0_src
      iexact Hrf0_0_0
    iexists _; iexact HW

end Cert.InIdeal.Streamed

end
-- ==== Proof.InWhole.lean ====
/- The projection kernel run from launch to end: what every window's buffer holds at every grid point, the body's obligation, and the
   run, from which the frame and the two result arrays are read. -/
module

public import proofs.«01_k».proof.Proof.InRun
public import Idealize.ShloMosaic.Lib.Claim

@[expose] public section

set_option maxRecDepth 16384

noncomputable section

namespace Cert.InIdeal.Streamed

open Cert.InIdeal Cert.InIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body leaves, by grid point -/

/-- The first grid point of the row block that point `t` works on. -/
def rowPt (t : Fin cfg0.N) : Fin cfg0.N := ⟨12 * (t.val / 12), lt_of_le_of_lt (Nat.mul_div_le _ _) t.isLt⟩

theorem rowPt_first (t : Fin cfg0.N) (h : t.val % 12 = 0) : rowPt t = t := Fin.ext (by unfold rowPt; show 12 * (t.val / 12) = t.val; omega)

/-- The normalised rows the scratch holds from point `t` on. -/
def xnOf (c : Dev nD) (t : Fin cfg0.N) : Vec F S512x4096 .bf16 := k0_pay1 (iblk m c 0 (rowPt t)) (iblk m c 1 (rowPt t))
/-- The block of the product point `t` leaves. -/
def mainOf (c : Dev nD) (t : Fin cfg0.N) : Vec F S512x1024 .f32 := k0_pay3 (xnOf m c t) (wblk c (V m c main_v2) (Ring.bk 192 t.val))
/-- The narrow product of point `t`'s rows. -/
def sideOf (c : Dev nD) (t : Fin cfg0.N) : Vec F S512x128 .f32 := k0_pay2 (xnOf m c t) (iblk m c 2 (rowPt t))

theorem rowPt_pred (t : Fin cfg0.N) (h : t.val % 12 ≠ 0) (h' : t.val - 1 < cfg0.N) : rowPt ⟨t.val - 1, h'⟩ = rowPt t :=
  Fin.ext (by unfold rowPt; show 12 * ((t.val - 1) / 12) = 12 * (t.val / 12); omega)

/-- The invariant before point `k`: the scratch at the normalised rows of the point before (at anything before the first), the
    generator register, the ring before its step `k`. -/
def Inv (c : Dev nD) (k : ℕ) : sProp 𝕄 :=
  iprop((∃ d, ⌜∀ h : k - 1 < cfg0.N, k ≠ 0 → d = xnOf m c ⟨k - 1, h⟩⌝ ∗ owns (c : Thread nD τ) scM0_0 fullShare d) ∗ (∃ r, prngReg c r) ∗ ringAt0_0 c (V m c main_v2) k)

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => mainOf m c t
    | ⟨4, _⟩ => sideOf m c t
  Φ t := Inv m c t.val
  q _ := fullShare
  owed _ := 0

theorem A_eq (c : Dev nD) (w : Fin cfg0.W) : (dats m 0 c).A w = V m c (Pipeline.arrRef spec0 w) := by dsimp only [dats]
theorem inv_start (c : Dev nD) (t : Fin cfg0.N) : (dats m 0 c).Φ t.castSucc = Inv m c t.val := by
  dsimp only [dats]; simp only [Fin.coe_castSucc]
theorem inv_end (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = mainOf m c t := by dsimp only [dats]
theorem after_4 (c : Dev nD) (t : Fin cfg0.N) : (dats m 0 c).after 4 t = sideOf m c t := by dsimp only [dats]
theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The narrow product's window, stored at each row block's first point and kept to its last -/

theorem side_idle (t : Fin cfg0.N) (h : t.val % 12 ≠ 0) : cfg0.idle 4 (grid0.coords t) = true := by
  have hc : ¬ k0_cond3 (grid0.coords t) = 1#1 := fun hc => h ((hcond0_2 t).mp hc)
  show (!(k0_cond3 (grid0.coords t) == 1#1)) = true
  rw [beq_eq_false_iff_ne.mpr hc]; rfl
theorem side_live (t : Fin cfg0.N) (h : t.val % 12 = 0) : cfg0.idle 4 (grid0.coords t) = false := by
  have hc : k0_cond3 (grid0.coords t) = 1#1 := (hcond0_2 t).mpr h
  show (!(k0_cond3 (grid0.coords t) == 1#1)) = false
  rw [hc]; rfl

theorem sideOf_pred (c : Dev nD) (t : Fin cfg0.N) (h : t.val % 12 ≠ 0) (h' : t.val - 1 < cfg0.N) : sideOf m c ⟨t.val - 1, h'⟩ = sideOf m c t := by
  unfold sideOf xnOf; rw [rowPt_pred t h h']

/-- Past a row block's first point the window holds what that point stored. -/
theorem side_kept (c : Dev nD) : ∀ (n : ℕ) (t : Fin cfg0.N), t.val = n → t.val % 12 ≠ 0 → ∀ d, (dats m 0 c).before 4 t d = sideOf m c t := by
  intro n
  induction n with
  | zero => intro t h0 h; omega
  | succ n ih =>
    intro t ht h d
    have hlt : t.val - 1 < cfg0.N := Nat.lt_of_le_of_lt (Nat.sub_le _ _) t.isLt
    have hfl : (cfg0.win 4).flush ⟨t.val - 1, hlt⟩ = false := by
      rw [Bool.eq_false_iff]; intro hf; have := (flush0_4 ⟨t.val - 1, hlt⟩).mp hf
      have : (t.val - 1) % 12 = 11 := this
      omega
    rw [(dats m 0 c).before_of_pos 4 t (by omega) ((cfg0.win 4).fetch_out rfl t), hfl, if_neg Bool.false_ne_true, ← sideOf_pred m c t h hlt]
    unfold Dat.left
    by_cases h1 : (t.val - 1) % 12 = 0
    · rw [side_live ⟨t.val - 1, hlt⟩ h1]
      show (dats m 0 c).kept 4 ⟨t.val - 1, hlt⟩ d = _
      unfold Dat.kept
      rw [Pipeline.fill_of_clip_none 4 _ (fun _ => rfl) d ((dats m 0 c).after 4 _), Window.fill_cut, after_4]
    · rw [side_idle ⟨t.val - 1, hlt⟩ h1]
      exact ih ⟨t.val - 1, hlt⟩ (by show t.val - 1 = n; omega) h1 d

theorem leaves_0 (c : Dev nD) (t : Fin cfg0.N) : (dats m 0 c).leavesExact 0 t = owns (c : Thread nD τ) (ms0_0 t) fullShare (iblk m c 0 t) := by
  rw [← after_0]
theorem leaves_1 (c : Dev nD) (t : Fin cfg0.N) : (dats m 0 c).leavesExact 1 t = owns (c : Thread nD τ) (ms0_1 t) fullShare (iblk m c 1 t) := by
  rw [← after_1]
theorem leaves_2 (c : Dev nD) (t : Fin cfg0.N) : (dats m 0 c).leavesExact 2 t = owns (c : Thread nD τ) (ms0_2 t) fullShare (iblk m c 2 t) := by
  rw [← after_2]
theorem leaves_3 (c : Dev nD) (t : Fin cfg0.N) : (dats m 0 c).leavesExact 3 t = owns (c : Thread nD τ) (ms0_3 t) fullShare (mainOf m c t) := by
  rw [← after_3]
theorem leaves_4_first (c : Dev nD) (t : Fin cfg0.N) (h : t.val % 12 = 0) :
    (dats m 0 c).leavesExact 4 t = owns (c : Thread nD τ) (ms0_4 t) fullShare (sideOf m c t) := by
  unfold Dat.leavesExact; rw [side_live t h, after_4]
theorem leaves_4_later (c : Dev nD) (t : Fin cfg0.N) (h : t.val % 12 ≠ 0) (d) :
    owns (c : Thread nD τ) (ms0_4 t) fullShare ((dats m 0 c).before 4 t d) ⊢ (dats m 0 c).leavesExact 4 t := by
  unfold Dat.leavesExact; rw [side_idle t h]
  cases hf : (cfg0.win 4).flush t with
  | false => show _ ⊢ iprop(∃ d, _); iintro H; iexists d; iexact H
  | true => show _ ⊢ owns (c : Thread nD τ) (ms0_4 t) fullShare ((dats m 0 c).after 4 t); rw [side_kept m c _ t rfl h d, after_4]

theorem xnOf_first (c : Dev nD) (t : Fin cfg0.N) (h : t.val % 12 = 0) : xnOf m c t = k0_pay1 (iblk m c 0 t) (iblk m c 1 t) := by
  unfold xnOf; rw [rowPt_first t h]
theorem xnOf_pred (c : Dev nD) (t : Fin cfg0.N) (h : t.val % 12 ≠ 0) (h' : t.val - 1 < cfg0.N) : xnOf m c ⟨t.val - 1, h'⟩ = xnOf m c t := by
  unfold xnOf; rw [rowPt_pred t h h']
theorem mainOf_first (c : Dev nD) (t : Fin cfg0.N) (h : t.val % 12 = 0) :
    mainOf m c t = k0_pay3 (k0_pay1 (iblk m c 0 t) (iblk m c 1 t)) (wblk c (V m c main_v2) (Ring.bk 192 t.val)) := by
  unfold mainOf; rw [xnOf_first m c t h]
theorem sideOf_first (c : Dev nD) (t : Fin cfg0.N) (h : t.val % 12 = 0) :
    sideOf m c t = k0_pay2 (k0_pay1 (iblk m c 0 t) (iblk m c 1 t)) (iblk m c 2 t) := by
  unfold sideOf; rw [xnOf_first m c t h, rowPt_first t h]

/-! ## The body at a grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
theorem bodyA (c : Dev nD) (t : Fin cfg0.N) (h0 : t.val % 192 = 0) (h1 : t.val < 190) (h2 : t.val % 12 = 0) :
    bodyPre m c t ⊢ wp frame (wpE (defs₀ (F := F)) Variants.none c none) Set.univ (bodyAt0 t) (fun _ => bodyPost m c t) := by
  have hN : t.val < 192 := lt_of_lt_of_eq t.isLt (show cfg0.N = 192 from N_0)
  have hpred : t.val - 1 < cfg0.N := Nat.lt_of_le_of_lt (Nat.sub_le _ _) t.isLt
  unfold bodyPre bodyPost bodyAt0
  simp only [before_0, before_1, before_2]
  rw [inv_start m c t, inv_end m c t, leaves_0, leaves_1, leaves_2, leaves_3]
  rw [leaves_4_first m c t h2, mainOf_first m c t h2, sideOf_first m c t h2]
  unfold Dat.owesAt Pipeline.owesWithin
  rw [show (dats m 0 c).owed t.castSucc = 0 from rfl, show (dats m 0 c).owed t.succ = 0 from rfl]
  unfold Inv ringAt0_0
  obtain ⟨hK, -⟩ := rstep0_0_A t ((hcond0_0 t).mpr h0) ((hcond0_1 t).mpr h1) ((hcond0_2 t).mpr h2)
  rw [if_pos hK, if_neg (show ¬t.val + 1 = 0 by omega)]
  rw [Ring.At₀_eq3' _ _ _ t.val hK (by decide : 3 ≤ 192), Ring.At3_one' _ _ _ _ t.val hK (by decide : 3 ≤ 192)]
  iintro ⟨⟨⟨%n, %hn, HS⟩, Hg, ⟨-, Ha, Hb, Hc⟩⟩, ⟨%W, -, HW⟩, ⟨%d0, H0⟩, ⟨%d1, H1⟩, ⟨%d2, H2⟩, ⟨%d3, H3⟩, ⟨%d4, H4⟩⟩
  iapply ((runA c t _ _ _ _ _ _ _ _ _ _ _ _ ((hcond0_0 t).mpr h0) ((hcond0_1 t).mpr h1) ((hcond0_2 t).mpr h2) (iblk m c 0 t) (iblk m c 1 t) (iblk m c 2 t) (V m c main_v2)) W _)
  isplitl [H0]; · iexact H0
  isplitl [H1]; · iexact H1
  isplitl [H2]; · iexact H2
  isplitl [H3]; · iexists _; iexact H3
  isplitl [H4]; · iexists _; iexact H4
  isplitl [HS]; · iexists _; iexact HS
  isplitl [Ha]; · iexact Ha
  isplitl [Hb]; · iexact Hb
  isplitl [Hc]; · iexact Hc
  isplitl [HW]; · iexact HW
  iintro ⟨H0, H1, H2, H3, H4, HS, Ha, Hb, Hc, ⟨%W', HW⟩⟩
  isplitl [HS Hg Ha Hb Hc]
  · isplitl [HS]
    · iexists _; isplitr; swap; · iexact HS
      ipureintro; exact fun _ _ => (xnOf_first m c t h2).symm
    isplitl [Hg]; · iexact Hg
    iapply (Ring.with_homes (Idealize.SL.BI.Entails.refl _))
    isplitl [Ha]; · iexact Ha
    isplitl [Hb]; · iexact Hb
    iexact Hc
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

set_option maxHeartbeats 1600000 in
theorem bodyB (c : Dev nD) (t : Fin cfg0.N) (h0 : ¬t.val % 192 = 0) (h1 : t.val < 190) (h2 : ¬t.val % 12 = 0) :
    bodyPre m c t ⊢ wp frame (wpE (defs₀ (F := F)) Variants.none c none) Set.univ (bodyAt0 t) (fun _ => bodyPost m c t) := by
  have hN : t.val < 192 := lt_of_lt_of_eq t.isLt (show cfg0.N = 192 from N_0)
  have hpred : t.val - 1 < cfg0.N := Nat.lt_of_le_of_lt (Nat.sub_le _ _) t.isLt
  unfold bodyPre bodyPost bodyAt0
  simp only [before_0, before_1, before_2]
  rw [inv_start m c t, inv_end m c t, leaves_0, leaves_1, leaves_2, leaves_3]
  unfold Dat.owesAt Pipeline.owesWithin
  rw [show (dats m 0 c).owed t.castSucc = 0 from rfl, show (dats m 0 c).owed t.succ = 0 from rfl]
  unfold Inv ringAt0_0
  obtain ⟨hK, hB, -⟩ := rstep0_0_B t (fun h => h0 ((hcond0_0 t).mp h)) ((hcond0_1 t).mpr h1) (fun h => h2 ((hcond0_2 t).mp h))
  rw [if_neg (show ¬t.val = 0 by omega), if_neg (show ¬t.val + 1 = 0 by omega)]
  rw [Ring.At3_here _ _ _ _ t.val hB, Ring.At3_next _ _ _ _ t.val hB, Ring.slotAt3_next0 _ _ _ t.val (by omega), Ring.slotAt3_next1 _ _ _ t.val hB]
  iintro ⟨⟨⟨%n, %hn, HS⟩, Hg, ⟨-, Ha, Hb, Hc⟩⟩, ⟨%W, -, HW⟩, ⟨%d0, H0⟩, ⟨%d1, H1⟩, ⟨%d2, H2⟩, ⟨%d3, H3⟩, ⟨%d4, H4⟩⟩
  obtain rfl : n = xnOf m c t := (hn hpred (by omega)).trans (xnOf_pred m c t h2 hpred)
  iapply ((runB c t _ _ _ _ _ _ _ _ _ _ _ _ (fun h => h0 ((hcond0_0 t).mp h)) ((hcond0_1 t).mpr h1) (fun h => h2 ((hcond0_2 t).mp h)) (iblk m c 0 t) (iblk m c 1 t) (iblk m c 2 t) ((dats m 0 c).before 4 t d4) (xnOf m c t) (V m c main_v2)) W _)
  isplitl [H0]; · iexact H0
  isplitl [H1]; · iexact H1
  isplitl [H2]; · iexact H2
  isplitl [H3]; · iexists _; iexact H3
  isplitl [H4]; · iexact H4
  isplitl [HS]; · iexact HS
  isplitl [Ha]; · iexact Ha
  isplitl [Hb]; · iexact Hb
  isplitl [Hc]; · iexact Hc
  isplitl [HW]; · iexact HW
  iintro ⟨H0, H1, H2, H3, H4, HS, Ha, Hb, Hc, ⟨%W', HW⟩⟩
  isplitl [HS Hg Ha Hb Hc]
  · isplitl [HS]
    · iexists _; isplitr; swap; · iexact HS
      ipureintro; exact fun _ _ => rfl
    isplitl [Hg]; · iexact Hg
    iapply (Ring.with_homes (Idealize.SL.BI.Entails.refl _))
    isplitl [Ha]; · iexact Ha
    isplitl [Hb]; · iexact Hb
    iexact Hc
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iapply (leaves_4_later m c t h2 d4); iexact H4

set_option maxHeartbeats 1600000 in
theorem bodyC (c : Dev nD) (t : Fin cfg0.N) (h0 : ¬t.val % 192 = 0) (h1 : t.val < 190) (h2 : t.val % 12 = 0) :
    bodyPre m c t ⊢ wp frame (wpE (defs₀ (F := F)) Variants.none c none) Set.univ (bodyAt0 t) (fun _ => bodyPost m c t) := by
  have hN : t.val < 192 := lt_of_lt_of_eq t.isLt (show cfg0.N = 192 from N_0)
  have hpred : t.val - 1 < cfg0.N := Nat.lt_of_le_of_lt (Nat.sub_le _ _) t.isLt
  unfold bodyPre bodyPost bodyAt0
  simp only [before_0, before_1, before_2]
  rw [inv_start m c t, inv_end m c t, leaves_0, leaves_1, leaves_2, leaves_3]
  rw [leaves_4_first m c t h2, mainOf_first m c t h2, sideOf_first m c t h2]
  unfold Dat.owesAt Pipeline.owesWithin
  rw [show (dats m 0 c).owed t.castSucc = 0 from rfl, show (dats m 0 c).owed t.succ = 0 from rfl]
  unfold Inv ringAt0_0
  obtain ⟨hK, hB, -⟩ := rstep0_0_C t (fun h => h0 ((hcond0_0 t).mp h)) ((hcond0_1 t).mpr h1) ((hcond0_2 t).mpr h2)
  rw [if_neg (show ¬t.val = 0 by omega), if_neg (show ¬t.val + 1 = 0 by omega)]
  rw [Ring.At3_here _ _ _ _ t.val hB, Ring.At3_next _ _ _ _ t.val hB, Ring.slotAt3_next0 _ _ _ t.val (by omega), Ring.slotAt3_next1 _ _ _ t.val hB]
  iintro ⟨⟨⟨%n, %hn, HS⟩, Hg, ⟨-, Ha, Hb, Hc⟩⟩, ⟨%W, -, HW⟩, ⟨%d0, H0⟩, ⟨%d1, H1⟩, ⟨%d2, H2⟩, ⟨%d3, H3⟩, ⟨%d4, H4⟩⟩
  iapply ((runC c t _ _ _ _ _ _ _ _ _ _ _ _ (fun h => h0 ((hcond0_0 t).mp h)) ((hcond0_1 t).mpr h1) ((hcond0_2 t).mpr h2) (iblk m c 0 t) (iblk m c 1 t) (iblk m c 2 t) (V m c main_v2)) W _)
  isplitl [H0]; · iexact H0
  isplitl [H1]; · iexact H1
  isplitl [H2]; · iexact H2
  isplitl [H3]; · iexists _; iexact H3
  isplitl [H4]; · iexists _; iexact H4
  isplitl [HS]; · iexists _; iexact HS
  isplitl [Ha]; · iexact Ha
  isplitl [Hb]; · iexact Hb
  isplitl [Hc]; · iexact Hc
  isplitl [HW]; · iexact HW
  iintro ⟨H0, H1, H2, H3, H4, HS, Ha, Hb, Hc, ⟨%W', HW⟩⟩
  isplitl [HS Hg Ha Hb Hc]
  · isplitl [HS]
    · iexists _; isplitr; swap; · iexact HS
      ipureintro; exact fun _ _ => (xnOf_first m c t h2).symm
    isplitl [Hg]; · iexact Hg
    iapply (Ring.with_homes (Idealize.SL.BI.Entails.refl _))
    isplitl [Ha]; · iexact Ha
    isplitl [Hb]; · iexact Hb
    iexact Hc
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

set_option maxHeartbeats 1600000 in
theorem bodyD (c : Dev nD) (t : Fin cfg0.N) (h0 : ¬t.val % 192 = 0) (h1 : ¬t.val < 190) (h2 : ¬t.val % 12 = 0) :
    bodyPre m c t ⊢ wp frame (wpE (defs₀ (F := F)) Variants.none c none) Set.univ (bodyAt0 t) (fun _ => bodyPost m c t) := by
  have hN : t.val < 192 := lt_of_lt_of_eq t.isLt (show cfg0.N = 192 from N_0)
  have hpred : t.val - 1 < cfg0.N := Nat.lt_of_le_of_lt (Nat.sub_le _ _) t.isLt
  unfold bodyPre bodyPost bodyAt0
  simp only [before_0, before_1, before_2]
  rw [inv_start m c t, inv_end m c t, leaves_0, leaves_1, leaves_2, leaves_3]
  unfold Dat.owesAt Pipeline.owesWithin
  rw [show (dats m 0 c).owed t.castSucc = 0 from rfl, show (dats m 0 c).owed t.succ = 0 from rfl]
  unfold Inv ringAt0_0
  obtain ⟨hK, hB, hlt, -⟩ := rstep0_0_D t (fun h => h0 ((hcond0_0 t).mp h)) (fun h => h1 ((hcond0_1 t).mp h)) (fun h => h2 ((hcond0_2 t).mp h))
  rw [if_neg (show ¬t.val = 0 by omega), if_neg (show ¬t.val + 1 = 0 by omega)]
  rw [Ring.At3_here_tail _ _ _ _ t.val hlt, Ring.At3_next_tail _ _ _ _ t.val hB hlt, Ring.slotAt3_tail_role _ _ _ t.val]
  iintro ⟨⟨⟨%n, %hn, HS⟩, Hg, ⟨-, Ha, Hb, Hc⟩⟩, ⟨%W, -, HW⟩, ⟨%d0, H0⟩, ⟨%d1, H1⟩, ⟨%d2, H2⟩, ⟨%d3, H3⟩, ⟨%d4, H4⟩⟩
  obtain rfl : n = xnOf m c t := (hn hpred (by omega)).trans (xnOf_pred m c t h2 hpred)
  iapply ((runD c t _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) ((dats m 0 c).before 4 t d4) (xnOf m c t) (V m c main_v2)) W _)
  isplitl [H0]; · iexact H0
  isplitl [H1]; · iexact H1
  isplitl [H2]; · iexact H2
  isplitl [H3]; · iexists _; iexact H3
  isplitl [H4]; · iexact H4
  isplitl [HS]; · iexact HS
  isplitl [Ha]; · iexact Ha
  isplitl [Hb]; · iexact Hb
  isplitl [Hc]; · iexact Hc
  isplitl [HW]; · iexact HW
  iintro ⟨H0, H1, H2, H3, H4, HS, Ha, Hb, Hc, ⟨%W', HW⟩⟩
  isplitl [HS Hg Ha Hb Hc]
  · isplitl [HS]
    · iexists _; isplitr; swap; · iexact HS
      ipureintro; exact fun _ _ => rfl
    isplitl [Hg]; · iexact Hg
    iapply (Ring.with_homes (Idealize.SL.BI.Entails.refl _))
    isplitl [Ha]; · iexact Ha
    isplitl [Hb]; · iexact Hb
    iexact Hc
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iapply (leaves_4_later m c t h2 d4); iexact H4

theorem body_at (c : Dev nD) (t : Fin cfg0.N) :
    bodyPre m c t ⊢ wp frame (wpE (defs₀ (F := F)) Variants.none c none) Set.univ (bodyAt0 t) (fun _ => bodyPost m c t) := by
  have hN : t.val < 192 := lt_of_lt_of_eq t.isLt (show cfg0.N = 192 from N_0)
  by_cases h0 : t.val % 192 = 0
  · exact bodyA m c t h0 (by omega) (by omega)
  · by_cases h1 : t.val < 190
    · by_cases h2 : t.val % 12 = 0
      · exact bodyC m c t h0 h1 h2
      · exact bodyB m c t h0 h1 h2
    · exact bodyD m c t h0 h1 (by omega)

theorem defs₀_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-- The launch's pieces are the invariant before the first point, -/
theorem inv_in (c : Dev nD) : Pipeline.ΦD osem0 spec0 H0 (V m) c ⊢ (dats m 0 c).Φ 0 := by
  rw [PhiD0_eq, show (dats m 0 c).Φ 0 = Inv m c 0 from rfl]
  unfold Inv
  iintro ⟨⟨⟨%d, HS⟩, HR⟩, Hg, Hq, Hh⟩
  isplitl [HS]
  · iexists d; isplitr; · ipureintro; exact fun _ h => absurd rfl h
    iexact HS
  isplitl [Hg]; · iexact Hg
  iapply (ring0_0_in (F := F) m c)
  isplitl [HR]; · iexact HR
  isplitl [Hq]; · iexact Hq
  iexact Hh
/-- and the invariant after the last gives them back. -/
theorem inv_out (c : Dev nD) : (dats m 0 c).Φ (Fin.last cfg0.N) ⊢ Pipeline.ΦD osem0 spec0 H0 (V m) c := by
  rw [PhiD0_eq, show (dats m 0 c).Φ (Fin.last cfg0.N) = Inv m c grid0.N from rfl]
  unfold Inv
  rw [show grid0.N = 192 by rw [N_0]]
  iintro ⟨⟨%d, -, HS⟩, Hg, HR⟩
  ihave HX := (ring0_0_out (F := F) m c) $$ HR
  icases HX with ⟨HR, Hq, Hh⟩
  isplitl [HS HR]
  · isplitl [HS]; · iexists d; iexact HS
    iexact HR
  isplitl [Hg]; · iexact Hg
  isplitl [Hq]; · iexact Hq
  iexact Hh

/-! ## The run -/

set_option backward.isDefEq.respectTransparency.types false in
/-- Every run ends with the two result arrays at what the points left, every other array as the program found it, and every
    semaphore counter at zero. -/
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := entry m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiet m ρ)

/-- The frame. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_quiet m ρ)

end Cert.InIdeal.Streamed

end
-- ==== Proof.InValue.lean ====
/- The projection kernel's two result arrays, and that they are the reference's. -/
module

public import proofs.«01_k».proof.Defs
public import proofs.«01_k».proof.Proof.InWhole
public import proofs.«01_k».proof.Proof.Gen.In
public import proofs.«01_k».proof.Proof.Gen.InRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InRefIdeal.Spec

open Cert.InRefIdeal Cert.InRefIdeal.Gen

/-- The rows of `x` over their root mean square, scaled by `g`. -/
def nrm (x : FVec Ideal S4x2048x4096 .f32) (g : FVec Ideal S1x4096 .f32) : FVec Ideal S4x2048x4096 .f32 :=
  mulf (mulf x (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf x x) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast _ g shapeCasts_S1x4096_S4096)))
/-- The normalised rows times the weight, flattened. -/
def prod (x : FVec Ideal S4x2048x4096 .f32) (g : FVec Ideal S1x4096 .f32) (w : FVec Ideal S1x4096x12368 .f32) : FVec Ideal S8192x12368 .f32 :=
  shapeCast _ (Host.dotGeneral dot_S4x2048x4096_S4096x12368_S4x2048x12368_2_0_01_1_n_n none (nrm x g) (shapeCast _ w shapeCasts_S1x4096x12368_S4096x12368)) shapeCasts_S4x2048x12368_S8192x12368
/-- The wide result: the columns of the product without its columns 4096 to 4175. -/
def wide (x : FVec Ideal S4x2048x4096 .f32) (g : FVec Ideal S1x4096 .f32) (w : FVec Ideal S1x4096x12368 .f32) : FVec Ideal S8192x12288 .f32 :=
  fun i => prod x g w (ix2 (i 0) ⟨(i 1).val + (if (i 1).val < 4096 then 0 else 80), by have := (i 1).isLt; have h : S8192x12288.size 1 = 12288 := rfl; split <;> omega⟩)
/-- The narrow result: columns 4096 to 4175 of the product, then zeros. -/
def narrow (x : FVec Ideal S4x2048x4096 .f32) (g : FVec Ideal S1x4096 .f32) (w : FVec Ideal S1x4096x12368 .f32) : FVec Ideal S8192x128 .f32 :=
  fun i => if h : (i 1).val < 80 then prod x g w (ix2 (i 0) ⟨4096 + (i 1).val, by omega⟩) else 0

theorem prod_at (x : FVec Ideal S4x2048x4096 .f32) (g : FVec Ideal S1x4096 .f32) (w : FVec Ideal S1x4096x12368 .f32) (r : Fin 8192) (k : Fin 12368) :
    prod x g w (ix2 r k) = ∑ e : Fin 4096, nrm x g (ix3 ⟨r.val / 2048, by omega⟩ ⟨r.val % 2048, by omega⟩ e) * w (ix3 0 e k) := by
  pointwise [prod]

/-- What the reference's wide concatenation of column ranges of `z` holds. -/
theorem wide_cat (z : FVec Ideal S8192x12368 .f32) (r : Fin 8192) (k : Fin 12288) :
    (concatenate S8192x12288 1 [⟨S8192x2048, (extractStridedSlice S8192x2048 ![0, 0] z slices_S8192x12368_S8192x2048_0_0 : FVec Ideal S8192x2048 .f32)⟩, ⟨S8192x512, (extractStridedSlice S8192x512 ![0, 2048] z slices_S8192x12368_S8192x512_0_2048 : FVec Ideal S8192x512 .f32)⟩, ⟨S8192x512, (extractStridedSlice S8192x512 ![0, 2560] z slices_S8192x12368_S8192x512_0_2560 : FVec Ideal S8192x512 .f32)⟩, ⟨S8192x1024, (extractStridedSlice S8192x1024 ![0, 3072] z slices_S8192x12368_S8192x1024_0_3072 : FVec Ideal S8192x1024 .f32)⟩, ⟨S8192x2048, (extractStridedSlice S8192x2048 ![0, 4176] z slices_S8192x12368_S8192x2048_0_4176 : FVec Ideal S8192x2048 .f32)⟩, ⟨S8192x2048, (extractStridedSlice S8192x2048 ![0, 6224] z slices_S8192x12368_S8192x2048_0_6224 : FVec Ideal S8192x2048 .f32)⟩, ⟨S8192x2048, (extractStridedSlice S8192x2048 ![0, 8272] z slices_S8192x12368_S8192x2048_0_8272 : FVec Ideal S8192x2048 .f32)⟩, ⟨S8192x2048, (extractStridedSlice S8192x2048 ![0, 10320] z slices_S8192x12368_S8192x2048_0_10320 : FVec Ideal S8192x2048 .f32)⟩] concatenates_S8192x2048_S8192x512_S8192x512_S8192x1024_S8192x2048_S8192x2048_S8192x2048_S8192x2048_S8192x12288_d1 : FVec Ideal S8192x12288 .f32) (ix2 r k)
      = z (ix2 r ⟨k.val + (if k.val < 4096 then 0 else 80), by split <;> omega⟩) := by
  pointwise []
  split_ifs <;> first | omega | exact congrArg z ((ix2_inj ..).2 ⟨rfl, Fin.ext (by dsimp only; split_ifs <;> omega)⟩)

theorem narrow_cat (z : FVec Ideal S8192x12368 .f32) (r : Fin 8192) (k : Fin 128) :
    (concatenate S8192x128 1 [⟨S8192x64, (extractStridedSlice S8192x64 ![0, 4096] z slices_S8192x12368_S8192x64_0_4096 : FVec Ideal S8192x64 .f32)⟩, ⟨S8192x16, (extractStridedSlice S8192x16 ![0, 4160] z slices_S8192x12368_S8192x16_0_4160 : FVec Ideal S8192x16 .f32)⟩, ⟨S8192x48, (broadcastInDim S8192x48 ![] bcast_S_S8192x48 (constant S_ .f32 0x00000000#32) : FVec Ideal S8192x48 .f32)⟩] concatenates_S8192x64_S8192x16_S8192x48_S8192x128_d1 : FVec Ideal S8192x128 .f32) (ix2 r k)
      = if h : k.val < 80 then z (ix2 r ⟨4096 + k.val, by omega⟩) else 0 := by
  pointwise []
  by_cases h : k.val < 80
  · rw [dif_pos h]
    split_ifs <;> first | omega | rfl | exact congrArg z ((ix2_inj ..).2 ⟨rfl, Fin.ext (by first | rfl | (dsimp only; omega))⟩)
  · rw [dif_neg h]
    split_ifs <;> first | omega | rfl

theorem wide_of (x : FVec Ideal S4x2048x4096 .f32) (g : FVec Ideal S1x4096 .f32) (w : FVec Ideal S1x4096x12368 .f32) (z : FVec Ideal S8192x12368 .f32) (hz : z = prod x g w) :
    (concatenate S8192x12288 1 [⟨S8192x2048, (extractStridedSlice S8192x2048 ![0, 0] z slices_S8192x12368_S8192x2048_0_0 : FVec Ideal S8192x2048 .f32)⟩, ⟨S8192x512, (extractStridedSlice S8192x512 ![0, 2048] z slices_S8192x12368_S8192x512_0_2048 : FVec Ideal S8192x512 .f32)⟩, ⟨S8192x512, (extractStridedSlice S8192x512 ![0, 2560] z slices_S8192x12368_S8192x512_0_2560 : FVec Ideal S8192x512 .f32)⟩, ⟨S8192x1024, (extractStridedSlice S8192x1024 ![0, 3072] z slices_S8192x12368_S8192x1024_0_3072 : FVec Ideal S8192x1024 .f32)⟩, ⟨S8192x2048, (extractStridedSlice S8192x2048 ![0, 4176] z slices_S8192x12368_S8192x2048_0_4176 : FVec Ideal S8192x2048 .f32)⟩, ⟨S8192x2048, (extractStridedSlice S8192x2048 ![0, 6224] z slices_S8192x12368_S8192x2048_0_6224 : FVec Ideal S8192x2048 .f32)⟩, ⟨S8192x2048, (extractStridedSlice S8192x2048 ![0, 8272] z slices_S8192x12368_S8192x2048_0_8272 : FVec Ideal S8192x2048 .f32)⟩, ⟨S8192x2048, (extractStridedSlice S8192x2048 ![0, 10320] z slices_S8192x12368_S8192x2048_0_10320 : FVec Ideal S8192x2048 .f32)⟩] concatenates_S8192x2048_S8192x512_S8192x512_S8192x1024_S8192x2048_S8192x2048_S8192x2048_S8192x2048_S8192x12288_d1 : FVec Ideal S8192x12288 .f32)
      = wide x g w := by
  subst hz
  funext i
  idx_vars i
  exact wide_cat (prod x g w) i0 i1

theorem narrow_of (x : FVec Ideal S4x2048x4096 .f32) (g : FVec Ideal S1x4096 .f32) (w : FVec Ideal S1x4096x12368 .f32) (z : FVec Ideal S8192x12368 .f32) (hz : z = prod x g w) :
    (concatenate S8192x128 1 [⟨S8192x64, (extractStridedSlice S8192x64 ![0, 4096] z slices_S8192x12368_S8192x64_0_4096 : FVec Ideal S8192x64 .f32)⟩, ⟨S8192x16, (extractStridedSlice S8192x16 ![0, 4160] z slices_S8192x12368_S8192x16_0_4160 : FVec Ideal S8192x16 .f32)⟩, ⟨S8192x48, (broadcastInDim S8192x48 ![] bcast_S_S8192x48 (constant S_ .f32 0x00000000#32) : FVec Ideal S8192x48 .f32)⟩] concatenates_S8192x64_S8192x16_S8192x48_S8192x128_d1 : FVec Ideal S8192x128 .f32)
      = narrow x g w := by
  subst hz
  funext i
  idx_vars i
  exact narrow_cat (prod x g w) i0 i1

end Cert.InRefIdeal.Spec

namespace Cert.InIdeal.Streamed

open Cert.InIdeal Cert.InIdeal.Gen
open Cert.InRefIdeal.Spec (nrm prod wide narrow)

variable (m : (ℓ : Loc nD τ sig) → Buf (Elt Ideal) ℓ)

/-! ## The payloads at an index -/

theorem norm_at (X : FVec Ideal S512x4096 .f32) (G : FVec Ideal S1x4096 .f32) (x : FVec Ideal S4x2048x4096 .f32) (g : FVec Ideal S1x4096 .f32)
    (a : Fin 512) (b : Fin 4) (s : Fin 2048) (hX : ∀ e : Fin 4096, X (ix2 a e) = x (ix3 b s e)) (hG : ∀ e : Fin 4096, G (ix2 0 e) = g (ix2 0 e)) (e : Fin 4096) :
    @Eq EReal (k0_pay1 (F := Ideal) X G (ix2 a e)) (nrm x g (ix3 b s e)) := by
  pointwise [k0_pay1, Cert.InRefIdeal.Spec.nrm, hX, hG]

theorem wideDot_at (n : FVec Ideal S512x4096 .bf16) (W : FVec Ideal S1x1024x4096 .bf16) (a : Fin 512) (k : Fin 1024) :
    @Eq EReal (k0_pay3 (F := Ideal) n W (ix2 a k)) (∑ e : Fin 4096, n (ix2 a e) * W (ix3 0 k e)) := by
  pointwise [k0_pay3]

theorem narrowDot_at (n : FVec Ideal S512x4096 .bf16) (W : FVec Ideal S128x4096 .bf16) (a : Fin 512) (k : Fin 128) :
    @Eq EReal (k0_pay2 (F := Ideal) n W (ix2 a k)) (∑ e : Fin 4096, n (ix2 a e) * W (ix2 k e)) := by
  pointwise [k0_pay2]

/-! ## The operands at an index -/

variable (c : Dev nD)

/-- The three arguments. -/
abbrev argX : FVec Ideal S4x2048x4096 .f32 := m ((c : Thread nD τ).loc main_arg0)
abbrev argG : FVec Ideal S1x4096 .f32 := m ((c : Thread nD τ).loc main_arg1)
abbrev argW : FVec Ideal S1x4096x12368 .f32 := m ((c : Thread nD τ).loc main_arg2)

theorem weight_at (k : Fin 12368) (e : Fin 4096) : (V m c main_v2 : FVec Ideal S12368x4096 .bf16) (ix2 k e) = argW m c (ix3 0 e k) := by
  unfold V
  simp only [List.flatten_cons, List.flatten_nil, hostOps0, hostOps0_1, hostOps0_2, List.cons_append, List.nil_append]
  after_results
  pointwise []

theorem side_at (k : Fin 128) (e : Fin 4096) :
    (V m c main_v4 : FVec Ideal S128x4096 .bf16) (ix2 k e) = if h : k.val < 80 then argW m c (ix3 0 e ⟨4096 + k.val, by omega⟩) else 0 := by
  unfold V
  simp only [List.flatten_cons, List.flatten_nil, hostOps0, hostOps0_1, hostOps0_2, List.cons_append, List.nil_append]
  after_results
  change (pad S128x4096 ![0, 0] ![48, 0] ![0, 0]
    (extractStridedSlice S80x4096 ![4096, 0] (truncf FTy.bf16 (transpose S12368x4096 [1, 0] (shapeCast S4096x12368 (argW m c) shapeCasts_S1x4096x12368_S4096x12368) transposes_S4096x12368_S12368x4096_1_0) bitsLt_bf16_f32) slices_S12368x4096_S80x4096_4096_0)
    (sitofp FTy.bf16 (constantI S_ 32 0#32)) pads_S80x4096_S128x4096_0480_000 h_S_ : FVec Ideal S128x4096 .bf16) (ix2 k e) = _
  pointwise []
  have h0 : (FloatOps.sitofp FTy.bf16 0#32 : Ideal .bf16) = (0 : EReal) := by
    show (((0#32 : BitVec 32).toInt : ℝ) : EReal) = 0
    simp
  rw [h0]

theorem rows_at (r : Fin 8192) (e : Fin 4096) :
    (V m c main_v5 : FVec Ideal S8192x4096 .f32) (ix2 r e) = argX m c (ix3 ⟨r.val / 2048, by omega⟩ ⟨r.val % 2048, by omega⟩ e) := by
  unfold V
  simp only [List.flatten_cons, List.flatten_nil, hostOps0, hostOps0_1, hostOps0_2, List.cons_append, List.nil_append]
  after_results
  pointwise []

theorem scale_at (e : Fin 4096) : (V m c main_v7 : FVec Ideal S1x4096 .f32) (ix2 0 e) = argG m c (ix2 0 e) := by
  unfold V
  simp only [List.flatten_cons, List.flatten_nil, hostOps0, hostOps0_1, hostOps0_2, List.cons_append, List.nil_append]
  after_results
  pointwise []

theorem where_at : ∀ t : Fin cfg0.N, win0_0.index (rowPt t) = ![t.val / 12, 0] ∧ win0_1.index (rowPt t) = ![0, 0] ∧ win0_2.index (rowPt t) = ![0, 0]
    ∧ win0_3.index t = ![t.val / 12, t.val % 12] ∧ win0_4.index t = ![t.val / 12, 0] :=
  (by decide +kernel : ∀ t : Fin grid0.N, _)

theorem wblk_at (W : HbBuf0 (F := Ideal) c hbM0_0) (b : Fin 192) (k : Fin 1024) (e : Fin 4096) :
    wblk c W b (ix3 0 k e) = (W : FVec Ideal S12368x4096 .bf16) (ix2 ⟨rowsAt b 0 + k.val, Nat.lt_of_lt_of_le (Nat.add_lt_add_left k.isLt _) (inb_src0_0 b 0)⟩ e) := by
  unfold wblk
  refine congrArg (W : FVec Ideal S12368x4096 .bf16) (funext fun a => Fin.ext ?_)
  match a, a.isLt with
  | ⟨0, _⟩, _ => show rowsAt b 0 + 1 * k.val = rowsAt b 0 + k.val; omega
  | ⟨1, _⟩, _ => show 0 + 1 * e.val = e.val; omega

/-! ## What the points leave, at an index -/

theorem t_lt (t : Fin cfg0.N) : t.val < 192 := by have h : t.val < grid0.N := t.isLt; rw [N_0] at h; exact h

theorem xnOf_at (t : Fin cfg0.N) (a : Fin 512) (e : Fin 4096) :
    @Eq EReal (xnOf m c t (ix2 a e)) (nrm (argX m c) (argG m c)
      (ix3 ⟨(t.val / 12 * 512 + a.val) / 2048, by have := t_lt t; omega⟩ ⟨(t.val / 12 * 512 + a.val) % 2048, by omega⟩ e)) := by
  have ht := t_lt t
  refine norm_at _ _ _ _ a _ _ (fun e => ?_) (fun e => ?_) e
  · refine Eq.trans ?_ (rows_at m c ⟨t.val / 12 * 512 + a.val, by omega⟩ e)
    blk_ext [iblk, where_at t]
  · refine Eq.trans ?_ (scale_at m c e)
    blk_ext [iblk, where_at t]

theorem rows_wblk (t : Fin cfg0.N) : rowsAt (Ring.bk 192 t.val) 0 = t.val % 12 * 1024 + (if t.val % 12 * 1024 < 4096 then 0 else 80) := by
  have hb : (Ring.bk 192 t.val).val = t.val := Ring.bk_val (t_lt t)
  show 1024 * ((Ring.bk 192 t.val).val % 12) + (if 4 ≤ (Ring.bk 192 t.val).val % 12 then 80 else 0) = _
  rw [hb]
  split_ifs <;> omega

theorem mainOf_at (t : Fin cfg0.N) (a : Fin 512) (k : Fin 1024) :
    mainOf m c t (ix2 a k) = wide (argX m c) (argG m c) (argW m c)
      (ix2 ⟨t.val / 12 * 512 + a.val, by have := t_lt t; omega⟩ ⟨t.val % 12 * 1024 + k.val, by omega⟩) := by
  have hr := rows_wblk t
  refine (wideDot_at _ _ a k).trans ?_
  unfold Cert.InRefIdeal.Spec.wide
  refine Eq.trans ?_ (Cert.InRefIdeal.Spec.prod_at ..).symm
  refine Finset.sum_congr rfl fun e _ => Ideal.mul_congr (xnOf_at m c t a e) ?_
  refine (wblk_at c _ _ k e).trans ((weight_at m c _ e).trans (congrArg (argW m c) ((ix3_inj ..).2 ⟨rfl, rfl, Fin.ext ?_⟩)))
  dsimp only
  rw [hr]
  show _ = t.val % 12 * 1024 + k.val + (if t.val % 12 * 1024 + k.val < 4096 then 0 else 80)
  split_ifs <;> omega

theorem sideOf_at (t : Fin cfg0.N) (a : Fin 512) (k : Fin 128) :
    sideOf m c t (ix2 a k) = narrow (argX m c) (argG m c) (argW m c) (ix2 ⟨t.val / 12 * 512 + a.val, by have := t_lt t; omega⟩ k) := by
  refine (narrowDot_at _ _ a k).trans ?_
  have hs : ∀ e : Fin 4096, (iblk m c 2 (rowPt t) : FVec Ideal S128x4096 .bf16) (ix2 k e) = if h : k.val < 80 then argW m c (ix3 0 e ⟨4096 + k.val, by omega⟩) else 0 := fun e => by
    refine Eq.trans ?_ (side_at m c k e)
    blk_ext [iblk, where_at t]
  unfold Cert.InRefIdeal.Spec.narrow
  by_cases h : k.val < 80
  · refine Eq.trans ?_ (dif_pos h).symm
    refine Eq.trans ?_ (Cert.InRefIdeal.Spec.prod_at ..).symm
    exact Finset.sum_congr rfl fun e _ => Ideal.mul_congr (xnOf_at m c t a e) ((hs e).trans (dif_pos h))
  · refine Eq.trans ?_ (dif_neg h).symm
    refine Finset.sum_eq_zero fun e _ => ?_
    refine Eq.trans (Ideal.mul_congr rfl ((hs e).trans (dif_neg h))) ?_
    exact mul_zero (M₀ := EReal) _

/-! ## The result arrays -/

theorem written_wide : (dats m 0 c).arrAt 3 (cfgs 0).N = wide (argX m c) (argG m c) (argW m c) := by
  refine (dats m 0 c).arrAt_eq_of_covers 3 _ (by decide +kernel) fun t _ y => ?_
  blk_simp
  rw [after_3]
  idx_vars y
  refine (mainOf_at m c t y0 y1).trans ?_
  blk_ext [where_at t]

theorem written_narrow : (dats m 0 c).arrAt 4 (cfgs 0).N = narrow (argX m c) (argG m c) (argW m c) := by
  refine (dats m 0 c).arrAt_eq_of_covers 4 _ (by decide +kernel) fun t _ y => ?_
  blk_simp
  rw [after_4]
  idx_vars y
  refine (sideOf_at m c t y0 y1).trans ?_
  blk_ext [where_at t]

end Cert.InIdeal.Streamed

namespace Cert.InClaims

theorem ideal : Cert.quiescent_InIdeal := fun m ρ _ => Cert.InIdeal.Streamed.whole m ρ

/-- The two programs' body tables are one text. -/
theorem bodies : (Cert.In.defs₀ (F := Bits)) = Cert.InIdeal.defs₀ (F := Bits) := by
  unfold Cert.In.defs₀ Cert.InIdeal.defs₀
  congr 1
  funext x y
  match x, y with
  | 0, (t, s) => rfl
  | ⟨_ + 1, h⟩, _ => exact absurd h (Nat.not_lt.2 (Nat.le_add_left _ _))
theorem tables : (Cert.In.defs (F := Bits)) = Cert.InIdeal.defs (F := Bits) := by
  unfold Cert.In.defs Cert.InIdeal.defs
  exact congrArg (Pipeline.defs _) bodies

theorem kernel : Cert.quiescent_In := fun m ρ _ => by
  rw [tables]
  exact Cert.InIdeal.Streamed.whole (F := Bits) m ρ

theorem algebraic : Cert.algebraic_InIdeal_InRefIdeal := by
  pair_intro
  · run_from Cert.InIdeal.Streamed.run_main m g
    · exact Cert.InIdeal.Gen.V_main_arg0 m c
    · exact Cert.InIdeal.Gen.V_main_arg1 m c
    · exact Cert.InIdeal.Gen.V_main_arg2 m c
  · run_from Cert.InRefIdeal.Value.run m' g'
    all_goals obtain ⟨e0, e1, e2⟩ := hagree c
    · refine Eq.trans (Cert.InRefIdeal.Spec.wide_of _ _ _ _ rfl) (Eq.trans ?_ (Cert.InIdeal.Streamed.written_wide m c).symm)
      rw [e0, e1, e2]
    · refine Eq.trans (Cert.InRefIdeal.Spec.narrow_of _ _ _ _ rfl) (Eq.trans ?_ (Cert.InIdeal.Streamed.written_narrow m c).symm)
      rw [e2]

end Cert.InClaims
-- ==== Proof.InSRing.lean ====
/- The projection kernel's weight ring: three slots of one scratch buffer, filled by the kernel's own copies two steps ahead of
   the step that reads them. What the ring holds before each step, and the names its slots, blocks and cells go by. -/
module

public import proofs.«01_k».proof.Proof.Gen.InSIdeal.Frame
public import proofs.«01_k».proof.Proof.Gen.InSIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueLayout

@[expose] public section

set_option maxRecDepth 16384

noncomputable section

namespace Cert.InSIdeal.Streamed

open Cert.InSIdeal Cert.InSIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the pallas call. -/
theorem entry (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! An input window's buffer holds its block at every point. -/

theorem before_in0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := k0_cond1 i = 1#1
theorem hcond0_0 : ∀ t : Fin cfg0.N, cond0_0 (grid0.coords t) ↔ t.val % 24 = 0 :=
  (by decide +kernel : ∀ t : Fin grid0.N, cond0_0 (grid0.coords t) ↔ t.val % 24 = 0)

abbrev cond0_1 (i : grid0.Coords) : Prop := k0_cond2 i = 1#1
theorem hcond0_1 : ∀ t : Fin cfg0.N, cond0_1 (grid0.coords t) ↔ t.val < 22 :=
  (by decide +kernel : ∀ t : Fin grid0.N, cond0_1 (grid0.coords t) ↔ t.val < 22)

abbrev cond0_2 (i : grid0.Coords) : Prop := k0_cond3 i = 1#1
theorem hcond0_2 : ∀ t : Fin cfg0.N, cond0_2 (grid0.coords t) ↔ t.val % 24 = 0 :=
  (fun t => by
    have ht : t.val < 24 := Nat.lt_of_lt_of_eq t.isLt N_0
    have e0 : (grid0.coords t 0).val = t.val / 24 % 1 := Pipeline.Grid.coords_val t 0 (by decide) rfl
    have e1 : (grid0.coords t 1).val = t.val / 1 % 24 := Pipeline.Grid.coords_val t 1 (by decide) rfl
    simp only [cond0_2, k0_cond3, e0, e1]
    word_cmp
   : ∀ t : Fin grid0.N, cond0_2 (grid0.coords t) ↔ t.val % 24 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

abbrev ms0_0 (t : Fin cfg0.N) : Memref sig .tc .vmem S32x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x128 .f32 := win0_4.stage (cfg0.slots t 4)
abbrev hs0_4 (t : Fin cfg0.N) : (ms0_4 t).IsWhole := hstage0_4 ((cfg0.slots t 4).cast nbuf0_4)
abbrev scM0_0 : Memref sig .tc .vmem S32x4096 .bf16 := Memref.whole cc0_scratch0
abbrev scM0_1 : Memref sig .tc .vmem S3x512x4096 .bf16 := Memref.whole cc0_scratch1
abbrev hbM0_0 : Memref sig .tc .hbm S12368x4096 .bf16 := Memref.whole main_v2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 3 → SemLoc sig := fun j => (![SemLoc.dma 6, SemLoc.dma 7, SemLoc.dma 8] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2] (by decide) (by decide)]; rfl
def H0 : Finset (Ref sig .tc) := {main_v2}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0) ∗ iprop(hbPt0 c hbM0_0 (V m c main_v2))) := by
  rw [Pipeline.ΦD_eq, scopedRest0_eq, ownSems00_eq, hbmPts0_eq]; simp only [scM0_0, scM0_1, owns_whole]; try rfl

instance : NeZero grid0.N := ⟨by rw [N_0]; decide⟩
theorem inb_slot0_0 (s : Fin 3) : ∀ a, (![s.val, 0, 0] : Fin 3 → Nat) a + S1x512x4096.size a ≤ S3x512x4096.size a := by
  have := s.isLt; intro a; fin_cases a <;> simp <;> omega
/-- Where the weight rows of step `b` begin: the twelve column blocks in turn, those past row 4096 shifted over the 80 rows
    the second operand holds. -/
def rowsAt (b : Fin 24) : Fin 2 → Nat := ![512 * (b.val % 24) + (if 8 ≤ b.val % 24 then 80 else 0), 0]
theorem inb_src0_0 (b : Fin 24) : ∀ a, (rowsAt b) a + S512x4096.size a ≤ S12368x4096.size a := by
  have := b.isLt; intro a; fin_cases a
  · simp [rowsAt]; split <;> omega
  · simp [rowsAt]
theorem inb_cell0_0 (s : Fin 3) : ∀ a, (![s.val] : Fin 1 → Nat) a + S1.size a ≤ S3.size a := by
  have := s.isLt; intro a; fin_cases a <;> simp <;> omega
def rslot0_0 (s : Fin 3) : Memref sig .tc .vmem S512x4096 .bf16 :=
  (scM0_1.slice (Rect.unit (s := S3x512x4096) ![s.val, 0, 0] S1x512x4096.size (inb_slot0_0 s)) (fun _ => rfl)).squeeze S512x4096 squeezes_S1x512x4096_S512x4096
def srcB0_0 (b : Fin 24) : Memref sig .tc .hbm S512x4096 .bf16 :=
  hbM0_0.slice (Rect.unit (s := S12368x4096) (rowsAt b) S512x4096.size (inb_src0_0 b)) (fun _ => rfl)
def cellA0_0 (s : Fin 3) : DmaSems sig S_ := (cc0_scratch2.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 6 := by decide
theorem cellR0_0_1 : cellR0_0 1 = SemLoc.dma 7 := by decide
theorem cellR0_0_2 : cellR0_0 2 = SemLoc.dma 8 := by decide

section Ring0_0
variable (c : Dev nD) (W : HbBuf0 (F := F) c hbM0_0)
abbrev qs0_0 (s : Fin 3) : PosShare TreeShare := if s.val = 0 then fullShare.left else if s.val = 1 then fullShare.right.left else fullShare.right.right
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 24) : sProp 𝕄 := (srcB0_0 b).view.loc (c : Thread nD τ) ↦[(srcB0_0 b).view.set]{qs0_0 s} W
def restP0_0 (s : Fin 3) (b : Fin 24) : sProp 𝕄 := ((c : Thread nD τ).loc main_v2) ↦[Finset.univ \ (srcB0_0 b).view.set]{qs0_0 s} W
abbrev wholeP0_0 (s : Fin 3) : sProp 𝕄 := ((c : Thread nD τ).loc main_v2) ↦[Finset.univ]{qs0_0 s} W
abbrev landed0_0 (s : Fin 3) (b : Fin 24) (f : HbBuf0 (F := F) c (rslot0_0 s)) : HbBuf0 (F := F) c (rslot0_0 s) :=
  (rslot0_0 s).view.writes (Elt F) f [⟨Rect.whole S512x4096, ReadAs.same.apply ((srcB0_0 b).view.read (Elt F) W)⟩]
abbrev flightP0_0 (s : Fin 3) (b : Fin 24) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
abbrev slotW0_0 (s : Fin 3) (f : HbBuf0 (F := F) c (rslot0_0 s)) : sProp 𝕄 := iprop(slotP0_0 c s f ∗ wholeP0_0 c W s)
abbrev flightW0_0 (s : Fin 3) (b : Fin 24) (f : HbBuf0 (F := F) c (rslot0_0 s)) : sProp 𝕄 := iprop(flightP0_0 c W s b f ∗ restP0_0 c W s b)
abbrev noHome0_0 (b : Fin 24) : sProp 𝕄 := iprop(emp)
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 6) 0 := congrArg (fun x => (semVal ((c : Thread nD τ), x) 0 : sProp 𝕄)) cellR0_0_0
omit [FloatOps F] in
theorem cellP0_0_1 : cellP0_0 (F := F) c 1 = semVal ((c : Thread nD τ), SemLoc.dma 7) 0 := congrArg (fun x => (semVal ((c : Thread nD τ), x) 0 : sProp 𝕄)) cellR0_0_1
omit [FloatOps F] in
theorem cellP0_0_2 : cellP0_0 (F := F) c 2 = semVal ((c : Thread nD τ), SemLoc.dma 8) 0 := congrArg (fun x => (semVal ((c : Thread nD τ), x) 0 : sProp 𝕄)) cellR0_0_2
end Ring0_0

abbrev slotSet0_0 (s : Fin 3) : Finset S3x512x4096.Idx := (Rect.unit (s := S3x512x4096) ![s.val, 0, 0] S1x512x4096.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x512x4096) (0 : Fin 3) 1 (fun s : Fin 3 => (![s.val, 0, 0] : Fin 3 → Nat)) S1x512x4096.size inb_slot0_0 (fun s => by simp) rfl s s' h
theorem slots0_0_cover : Finset.univ.biUnion slotSet0_0 = Finset.univ :=
  Ring.lead_cover (s := S3x512x4096) (0 : Fin 3) 1 (fun s : Fin 3 => (![s.val, 0, 0] : Fin 3 → Nat)) S1x512x4096.size inb_slot0_0 (fun s => by simp)
    (fun s a ha => by fin_cases a <;> first | exact absurd rfl ha | rfl) rfl (fun a ha => by fin_cases a <;> first | exact absurd rfl ha | rfl) rfl

section InOut0_0
variable (c : Dev nD) (W : HbBuf0 (F := F) c hbM0_0)
theorem slotP0_0_eq (s : Fin 3) (f) : slotP0_0 (F := F) c s f = (((c : Thread nD τ).loc cc0_scratch1) ↦[slotSet0_0 s]{fullShare} f : sProp 𝕄) := by
  unfold slotP0_0; rw [slotSet0_0_eq]; rfl
theorem src0_0_split (s : Fin 3) (b : Fin 24) : wholeP0_0 (F := F) c W s ⊣⊢ iprop(srcP0_0 c W s b ∗ restP0_0 c W s b) := by
  unfold restP0_0; exact pointsTo_split_subset (Finset.subset_univ _)
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slots0_0_in : iprop(∃ d, owns (c : Thread nD τ) scM0_1 fullShare d) ⊢ (iprop((∃ f, slotP0_0 (F := F) c 0 f) ∗ (∃ f, slotP0_0 (F := F) c 1 f) ∗ ∃ f, slotP0_0 (F := F) c 2 f) : sProp 𝕄) := by
  simp only [scM0_1, owns_whole]
  exact Ring.slots3_split (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
end InOut0_0

theorem ring0_0_in (c : Dev nD) :
    iprop((∃ d, owns (c : Thread nD τ) scM0_1 fullShare d) ∗ (semVal ((c : Thread nD τ), SemLoc.dma 6) 0 ∗ semVal ((c : Thread nD τ), SemLoc.dma 7) 0 ∗ semVal ((c : Thread nD τ), SemLoc.dma 8) 0) ∗ hbPt0 c hbM0_0 (V m c main_v2))
      ⊢ ringAt0_0 c (V m c main_v2) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_v2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ring0_0_out (c : Dev nD) :
    ringAt0_0 c (V m c main_v2) 24
      ⊢ iprop((∃ d, owns (c : Thread nD τ) scM0_1 fullShare d) ∗ (semVal ((c : Thread nD τ), SemLoc.dma 6) 0 ∗ semVal ((c : Thread nD τ), SemLoc.dma 7) 0 ∗ semVal ((c : Thread nD τ), SemLoc.dma 8) 0) ∗ hbPt0 c hbM0_0 (V m c main_v2)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_v2)).2; isplitl [HW0]; · iexact HW0
    isplitl [HW1]; · iexact HW1
    iexact HW2

section Canon0_0
omit [FloatOps F]
theorem rstep0_0_A : ∀ t : Fin grid0.N, cond0_0 (grid0.coords t) → cond0_1 (grid0.coords t) → cond0_2 (grid0.coords t) → t.val = 0 ∧ (t.val + 1) = 1 := by decide +kernel
theorem rstep0_0_B : ∀ t : Fin grid0.N, ¬cond0_0 (grid0.coords t) → cond0_1 (grid0.coords t) → ¬cond0_2 (grid0.coords t) → 1 ≤ t.val ∧ t.val + 2 < 24 ∧ (t.val + 1) = t.val + 1 := by decide +kernel
theorem rstep0_0_C : ∀ t : Fin grid0.N, ¬cond0_0 (grid0.coords t) → cond0_1 (grid0.coords t) → cond0_2 (grid0.coords t) → 1 ≤ t.val ∧ t.val + 2 < 24 ∧ (t.val + 1) = t.val + 1 := by decide +kernel
theorem rstep0_0_D : ∀ t : Fin grid0.N, ¬cond0_0 (grid0.coords t) → ¬cond0_1 (grid0.coords t) → ¬cond0_2 (grid0.coords t) → 1 ≤ t.val ∧ 24 ≤ t.val + 2 ∧ t.val < 24 ∧ (t.val + 1) = t.val + 1 := by decide +kernel
set_option synthInstance.maxSize 4096 in
theorem coff0_0_1 : ∀ t : Fin grid0.N, cond0_0 (grid0.coords t) → cond0_1 (grid0.coords t) → cond0_2 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) (h2 : cond0_2 (grid0.coords t)) :
    (scM0_1.slice (Rect.unit (s := S3x512x4096) ![0, 0, 0] S1x512x4096.size inb_S3x512x4096_S1x512x4096_0_0_0) (fun _ => rfl)).squeeze S512x4096 squeezes_S1x512x4096_S512x4096 = rslot0_0 (Ring.sl 3 t.val) :=
  congrArg (fun M : Memref sig .tc .vmem S1x512x4096 .bf16 => M.squeeze S512x4096 squeezes_S1x512x4096_S512x4096) (Memref.slice_unit_congr _ (coff0_0_1 t h0 h1 h2) _ _ (fun _ => rfl) (fun _ => rfl))
set_option synthInstance.maxSize 4096 in
theorem coff0_0_2 : ∀ t : Fin grid0.N, cond0_0 (grid0.coords t) → cond0_1 (grid0.coords t) → cond0_2 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : cond0_2 (grid0.coords t)) :
    (cc0_scratch2.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2) _ _)
set_option synthInstance.maxSize 4096 in
theorem coff0_0_3 : ∀ t : Fin grid0.N, cond0_0 (grid0.coords t) → cond0_1 (grid0.coords t) → cond0_2 (grid0.coords t) → k0_off1 0#32 = rowsAt (Ring.bk 24 t.val) := by decide +kernel
@[sl_canon] theorem canon0_0_3 (t : Fin grid0.N) (h0 : cond0_0 (grid0.coords t)) (h1 : cond0_1 (grid0.coords t)) (h2 : cond0_2 (grid0.coords t)) :
    hbM0_0.slice (Rect.unit (s := S12368x4096) (k0_off1 0#32) S512x4096.size (k0_off1_inb (grid0.coords t) h0 0)) (fun _ => rfl) = srcB0_0 (Ring.bk 24 t.val) :=
  congrArg (fun M : Memref sig .tc .hbm S512x4096 .bf16 => M) (Memref.slice_unit_congr _ (coff0_0_3 t h0 h1 h2) _ _ (fun _ => rfl) (fun _ => rfl))
set_option synthInstance.maxSize 4096 in
theorem coff0_0_4 : ∀ t : Fin grid0.N, cond0_0 (grid0.coords t) → cond0_1 (grid0.coords t) → cond0_2 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) (h2 : cond0_2 (grid0.coords t)) :
    (scM0_1.slice (Rect.unit (s := S3x512x4096) ![1, 0, 0] S1x512x4096.size inb_S3x512x4096_S1x512x4096_1_0_0) (fun _ => rfl)).squeeze S512x4096 squeezes_S1x512x4096_S512x4096 = rslot0_0 (Ring.sl 3 (t.val + 1)) :=
  congrArg (fun M : Memref sig .tc .vmem S1x512x4096 .bf16 => M.squeeze S512x4096 squeezes_S1x512x4096_S512x4096) (Memref.slice_unit_congr _ (coff0_0_4 t h0 h1 h2) _ _ (fun _ => rfl) (fun _ => rfl))
set_option synthInstance.maxSize 4096 in
theorem coff0_0_5 : ∀ t : Fin grid0.N, cond0_0 (grid0.coords t) → cond0_1 (grid0.coords t) → cond0_2 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : cond0_2 (grid0.coords t)) :
    (cc0_scratch2.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2) _ _)
set_option synthInstance.maxSize 4096 in
theorem coff0_0_6 : ∀ t : Fin grid0.N, cond0_0 (grid0.coords t) → cond0_1 (grid0.coords t) → cond0_2 (grid0.coords t) → k0_off1 1#32 = rowsAt (Ring.bk 24 (t.val + 1)) := by decide +kernel
@[sl_canon] theorem canon0_0_6 (t : Fin grid0.N) (h0 : cond0_0 (grid0.coords t)) (h1 : cond0_1 (grid0.coords t)) (h2 : cond0_2 (grid0.coords t)) :
    hbM0_0.slice (Rect.unit (s := S12368x4096) (k0_off1 1#32) S512x4096.size (k0_off1_inb (grid0.coords t) h0 1)) (fun _ => rfl) = srcB0_0 (Ring.bk 24 (t.val + 1)) :=
  congrArg (fun M : Memref sig .tc .hbm S512x4096 .bf16 => M) (Memref.slice_unit_congr _ (coff0_0_6 t h0 h1 h2) _ _ (fun _ => rfl) (fun _ => rfl))
set_option synthInstance.maxSize 4096 in
theorem coff0_0_7 : ∀ t : Fin grid0.N, k0_off3 (grid0.coords t) = ![(Ring.sl 3 (t.val + 2)).val, 0, 0] := by decide +kernel
@[sl_canon] theorem canon0_0_7 (t : Fin grid0.N) (h1 : cond0_1 (grid0.coords t)) :
    (scM0_1.slice (Rect.unit (s := S3x512x4096) (k0_off3 (grid0.coords t)) S1x512x4096.size (k0_off3_inb (grid0.coords t) h1)) (fun _ => rfl)).squeeze S512x4096 squeezes_S1x512x4096_S512x4096 = rslot0_0 (Ring.sl 3 (t.val + 2)) :=
  congrArg (fun M : Memref sig .tc .vmem S1x512x4096 .bf16 => M.squeeze S512x4096 squeezes_S1x512x4096_S512x4096) (Memref.slice_unit_congr _ (coff0_0_7 t ) _ _ (fun _ => rfl) (fun _ => rfl))
set_option synthInstance.maxSize 4096 in
theorem coff0_0_8 : ∀ t : Fin grid0.N, k0_off2 (grid0.coords t) = ![(Ring.sl 3 (t.val + 2)).val] := by decide +kernel
@[sl_canon] theorem canon0_0_8 (t : Fin grid0.N) (h1 : cond0_1 (grid0.coords t)) :
    (cc0_scratch2.slice (Rect.unit (s := S3) (k0_off2 (grid0.coords t)) S1.size (k0_off2_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → cond0_2 (grid0.coords t) → k0_off4 (grid0.coords t) = rowsAt (Ring.bk 24 (t.val + 2)) := by decide +kernel
@[sl_canon] theorem canon0_0_9 (t : Fin grid0.N) (h0 : cond0_0 (grid0.coords t)) (h1 : cond0_1 (grid0.coords t)) (h2 : cond0_2 (grid0.coords t)) :
    hbM0_0.slice (Rect.unit (s := S12368x4096) (k0_off4 (grid0.coords t)) S512x4096.size (k0_off4_inb (grid0.coords t) h1)) (fun _ => rfl) = srcB0_0 (Ring.bk 24 (t.val + 2)) :=
  congrArg (fun M : Memref sig .tc .hbm S512x4096 .bf16 => M) (Memref.slice_unit_congr _ (coff0_0_9 t h0 h1 h2) _ _ (fun _ => rfl) (fun _ => rfl))
set_option synthInstance.maxSize 4096 in
theorem coff0_0_10 : ∀ t : Fin grid0.N, k0_off6 (grid0.coords t) = ![(Ring.sl 3 t.val).val, 0, 0] := by decide +kernel
@[sl_canon] theorem canon0_0_10 (t : Fin grid0.N) :
    (scM0_1.slice (Rect.unit (s := S3x512x4096) (k0_off6 (grid0.coords t)) S1x512x4096.size (k0_off6_inb (grid0.coords t))) (fun _ => rfl)).squeeze S512x4096 squeezes_S1x512x4096_S512x4096 = rslot0_0 (Ring.sl 3 t.val) :=
  congrArg (fun M : Memref sig .tc .vmem S1x512x4096 .bf16 => M.squeeze S512x4096 squeezes_S1x512x4096_S512x4096) (Memref.slice_unit_congr _ (coff0_0_10 t ) _ _ (fun _ => rfl) (fun _ => rfl))
set_option synthInstance.maxSize 4096 in
theorem coff0_0_11 : ∀ t : Fin grid0.N, k0_off5 (grid0.coords t) = ![(Ring.sl 3 t.val).val] := by decide +kernel
@[sl_canon] theorem canon0_0_11 (t : Fin grid0.N) :
    (cc0_scratch2.slice (Rect.unit (s := S3) (k0_off5 (grid0.coords t)) S1.size (k0_off5_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → ¬cond0_2 (grid0.coords t) → k0_off4 (grid0.coords t) = rowsAt (Ring.bk 24 (t.val + 2)) := by decide +kernel
@[sl_canon] theorem canon0_0_12 (t : Fin grid0.N) (h0 : ¬cond0_0 (grid0.coords t)) (h1 : cond0_1 (grid0.coords t)) (h2 : ¬cond0_2 (grid0.coords t)) :
    hbM0_0.slice (Rect.unit (s := S12368x4096) (k0_off4 (grid0.coords t)) S512x4096.size (k0_off4_inb (grid0.coords t) h1)) (fun _ => rfl) = srcB0_0 (Ring.bk 24 (t.val + 2)) :=
  congrArg (fun M : Memref sig .tc .hbm S512x4096 .bf16 => M) (Memref.slice_unit_congr _ (coff0_0_12 t h0 h1 h2) _ _ (fun _ => rfl) (fun _ => rfl))
set_option synthInstance.maxSize 4096 in
theorem coff0_0_13 : ∀ t : Fin grid0.N, ¬cond0_0 (grid0.coords t) → cond0_1 (grid0.coords t) → cond0_2 (grid0.coords t) → k0_off4 (grid0.coords t) = rowsAt (Ring.bk 24 (t.val + 2)) := by decide +kernel
@[sl_canon] theorem canon0_0_13 (t : Fin grid0.N) (h0 : ¬cond0_0 (grid0.coords t)) (h1 : cond0_1 (grid0.coords t)) (h2 : cond0_2 (grid0.coords t)) :
    hbM0_0.slice (Rect.unit (s := S12368x4096) (k0_off4 (grid0.coords t)) S512x4096.size (k0_off4_inb (grid0.coords t) h1)) (fun _ => rfl) = srcB0_0 (Ring.bk 24 (t.val + 2)) :=
  congrArg (fun M : Memref sig .tc .hbm S512x4096 .bf16 => M) (Memref.slice_unit_congr _ (coff0_0_13 t h0 h1 h2) _ _ (fun _ => rfl) (fun _ => rfl))
set_option synthInstance.maxSize 4096 in
theorem coff0_0_14 : ∀ t : Fin grid0.N, k0_off8 (grid0.coords t) = ![(Ring.sl 3 t.val).val, 0, 0] := by decide +kernel
instance (priority := high) closedOff0_0_14 (t : Fin grid0.N) : ClosedOff (k0_off8 (grid0.coords t)) := ⟨![(Ring.sl 3 t.val).val, 0, 0], coff0_0_14 t⟩
end Canon0_0

end Cert.InSIdeal.Streamed

end
-- ==== Proof.InSRun.lean ====
/- The projection kernel's body, run in its four cases with everything it leaves named: the normalised rows (computed at the first
   column block and kept), the block of the product, and the narrow product beside it. -/
module

public import proofs.«01_k».proof.Proof.InSRing
public import Idealize.ShloMosaic.Lib.VecWindow
public import Idealize.ShloMosaic.Lib.ValueLayout

@[expose] public section

set_option maxRecDepth 16384

noncomputable section

namespace Cert.InSIdeal.Streamed

open Cert.InSIdeal Cert.InSIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weight rows of step `b`, in the shape the body loads them. -/
def wblk (c : Dev nD) (W : HbBuf0 (F := F) c hbM0_0) (b : Fin 24) : Vec F S1x512x4096 .bf16 :=
  fun x => (srcB0_0 b).view.read (Elt F) W (ix2 (x 1) (x 2))

/-- A slot of the ring, filled whole and loaded through the ring's own buffer, reads what it was filled with. -/
theorem load_slot (s : Fin 3) {o : Fin 3 → ℕ} (ho : o = ![s.val, 0, 0]) (inb : ∀ a, o a + S1x512x4096.size a ≤ S3x512x4096.size a)
    (f : (rslot0_0 s).view.ty.Contents (Elt F)) (w : S512x4096.Idx → Elt F .bf16) :
    View.readAt (Elt F) scM0_1.view (Rect.unit (s := S3x512x4096) o S1x512x4096.size inb).toLoadRect
        ((rslot0_0 s).view.writes (Elt F) f [⟨Rect.whole S512x4096, w⟩])
      = fun x => w (ix2 (x 1) (x 2)) := by
  subst ho
  funext x
  have key : (rslot0_0 s).view.read (Elt F) ((rslot0_0 s).view.writes (Elt F) f [⟨Rect.whole S512x4096, w⟩]) (ix2 (x 1) (x 2)) = w (ix2 (x 1) (x 2)) :=
    congrFun (View.read_writes_full (rslot0_0 s).view f (off := fun _ => 0) (fun a => by simp) w []) _
  refine Eq.trans ?_ key
  refine congrArg (fun i => scM0_1.view.read (Elt F) ((rslot0_0 s).view.writes (Elt F) f [⟨Rect.whole S512x4096, w⟩]) i)
    (?_ : _ = (Rect.unit (s := S3x512x4096) ![s.val, 0, 0] S1x512x4096.size inb).emb (Shape.reshapeEquiv _ (ix2 (x 1) (x 2))))
  refine congrArg _ (Eq.trans ?_ (reshapeEquiv_ix2_1ab (a := 512) (b := 4096) _ (x 1) (x 2)).symm)
  funext a
  fin_cases a
  · exact Subsingleton.elim (α := Fin 1) _ _
  · rfl
  · rfl

set_option maxHeartbeats 1000000 in
theorem runA (c : Dev nD) (t : Fin cfg0.N) (arg2 : Memref sig .tc .vmem S32x4096 .f32) (harg2 : arg2.IsWhole) (arg3 : Memref sig .tc .vmem S1x4096 .f32) (harg3 : arg3.IsWhole) (arg5 : Memref sig .tc .vmem S128x4096 .bf16) (harg5 : arg5.IsWhole) (arg6 : Memref sig .tc .vmem S32x512 .f32) (harg6 : arg6.IsWhole) (arg7 : Memref sig .tc .vmem S32x128 .f32) (harg7 : arg7.IsWhole) (arg8 : Memref sig .tc .vmem S32x4096 .bf16) (harg8 : arg8.IsWhole) (hc0 : cond0_0 (grid0.coords t)) (hc1 : cond0_1 (grid0.coords t)) (hc2 : cond0_2 (grid0.coords t))
    (x0 : Vec F S32x4096 .f32) (x1 : Vec F S1x4096 .f32) (x2 : Vec F S128x4096 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare (k0_pay3 (k0_pay1 x0 x1) (wblk c fh0 (Ring.bk 24 t.val))) ∗ owns (c : Thread nD τ) arg7 fullShare (k0_pay2 (k0_pay1 x0 x1) x2) ∗ owns (c : Thread nD τ) arg8 fullShare (k0_pay1 x0 x1) ∗ Ring.inflight (flightW0_0 c fh0) (Ring.sl 3 (t.val + 1)) (Ring.bk 24 (t.val + 1)) ∗ Ring.inflight (flightW0_0 c fh0) (Ring.sl 3 (t.val + 2)) (Ring.bk 24 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_in_proj_sample (grid0.coords t) arg2 harg2 arg3 harg3 (Memref.whole main_v2) (Memref.isWhole_whole _) arg5 harg5 arg6 harg6 arg7 harg7 arg8 harg8 scM0_1 (Memref.isWhole_whole _) cc0_scratch2) K := by
    intro W K
    haveI : Fact (cond0_0 (grid0.coords t)) := ⟨hc0⟩
    haveI : Fact (cond0_1 (grid0.coords t)) := ⟨hc1⟩
    haveI : Fact (cond0_2 (grid0.coords t)) := ⟨hc2⟩
    simp only [cc0_in_proj_sample_eq_skeleton]; unfold cc0_in_proj_sample_skel
    simp only [k0_part1_eq_skeleton]
    have hcanon0 := canon0_0_1 t hc0 hc1 hc2
    have hcanon1 := canon0_0_2 t hc0 hc1 hc2
    have hcanon2 := canon0_0_4 t hc0 hc1 hc2
    have hcanon3 := canon0_0_5 t hc0 hc1 hc2
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
    ihave Hsp0_0_0 := (src0_0_split c fh0 (Ring.sl 3 t.val) (Ring.bk 24 t.val)).1 $$ Hw0_0_0
    icases Hsp0_0_0 with ⟨Hh0_0_0, Hr0_0_0⟩
    ihave Hsp0_0_1 := (src0_0_split c fh0 (Ring.sl 3 (t.val + 1)) (Ring.bk 24 (t.val + 1))).1 $$ Hw0_0_1
    icases Hsp0_0_1 with ⟨Hh0_0_1, Hr0_0_1⟩
    ihave Hsp0_0_2 := (src0_0_split c fh0 (Ring.sl 3 (t.val + 2)) (Ring.bk 24 (t.val + 2))).1 $$ Hw0_0_2
    icases Hsp0_0_2 with ⟨Hh0_0_2, Hr0_0_2⟩
    obtain rfl := harg2.eq_unread hf0; obtain rfl := harg3.eq_unread hf1; obtain rfl := harg5.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro; refine (View.read_writes_full _ _ _ _ _).trans ?_; unfold runA.sl.r runA.sl.v51 runA.sl.HS0_1 runA.sl.v27; rw [View.readCov_full, View.readAt_full, View.readAt_full, hf0, hf1]; exact congrArg _ (load_slot _ (coff0_0_14 t) _ _ _)
    isplitl [H4]
    · iexists _; isplitr; swap; · iexact H4
      ipureintro; refine (View.read_writes_full _ _ _ _ _).trans ?_; unfold runA.sl.v51 runA.sl.HS0_1; rw [View.readCov_full, View.readAt_full, View.readAt_full, View.readAt_full, hf0, hf1, hf2]
    isplitl [HS0]
    · iexists _; isplitr; swap; · iexact HS0
      ipureintro; unfold runA.sl.HS0_1; refine (View.read_writes_full _ _ _ _ _).trans ?_; rw [View.readAt_full, View.readAt_full, hf0, hf1]
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 24 t.val)).2; isplitl [Hh0_0_0]; · iexact Hh0_0_0
      iexact Hr0_0_0
    iexists _; iexact HW

set_option maxHeartbeats 1000000 in
theorem runB (c : Dev nD) (t : Fin cfg0.N) (arg2 : Memref sig .tc .vmem S32x4096 .f32) (harg2 : arg2.IsWhole) (arg3 : Memref sig .tc .vmem S1x4096 .f32) (harg3 : arg3.IsWhole) (arg5 : Memref sig .tc .vmem S128x4096 .bf16) (harg5 : arg5.IsWhole) (arg6 : Memref sig .tc .vmem S32x512 .f32) (harg6 : arg6.IsWhole) (arg7 : Memref sig .tc .vmem S32x128 .f32) (harg7 : arg7.IsWhole) (arg8 : Memref sig .tc .vmem S32x4096 .bf16) (harg8 : arg8.IsWhole) (hc0 : ¬cond0_0 (grid0.coords t)) (hc1 : cond0_1 (grid0.coords t)) (hc2 : ¬cond0_2 (grid0.coords t))
    (x0 : Vec F S32x4096 .f32) (x1 : Vec F S1x4096 .f32) (x2 : Vec F S128x4096 .bf16) (y : Vec F S32x128 .f32) (n : Vec F S32x4096 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ owns (c : Thread nD τ) arg7 fullShare y ∗ owns (c : Thread nD τ) arg8 fullShare n ∗ Ring.inflight (flightW0_0 c fh0) (Ring.sl 3 t.val) (Ring.bk 24 t.val) ∗ Ring.inflight (flightW0_0 c fh0) (Ring.sl 3 (t.val + 1)) (Ring.bk 24 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare (k0_pay3 n (wblk c fh0 (Ring.bk 24 t.val))) ∗ owns (c : Thread nD τ) arg7 fullShare y ∗ owns (c : Thread nD τ) arg8 fullShare n ∗ Ring.inflight (flightW0_0 c fh0) (Ring.sl 3 (t.val + 1)) (Ring.bk 24 (t.val + 1)) ∗ Ring.inflight (flightW0_0 c fh0) (Ring.sl 3 (t.val + 2)) (Ring.bk 24 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_in_proj_sample (grid0.coords t) arg2 harg2 arg3 harg3 (Memref.whole main_v2) (Memref.isWhole_whole _) arg5 harg5 arg6 harg6 arg7 harg7 arg8 harg8 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    simp only [cc0_in_proj_sample_eq_skeleton]; unfold cc0_in_proj_sample_skel
    simp only [k0_part1_eq_skeleton]
    unfold owns Ring.free Ring.inflight
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh0 (Ring.sl 3 (t.val + 2)) (Ring.bk 24 (t.val + 2))).1 $$ Hw0_0_2
    icases Hsp0_0_2 with ⟨Hh0_0_2, Hr0_0_2⟩
    obtain rfl := harg2.eq_unread hf0; obtain rfl := harg3.eq_unread hf1; obtain rfl := harg5.eq_unread hf2; obtain rfl := harg7.eq_unread hf4; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro; refine (View.read_writes_full _ _ _ _ _).trans ?_; unfold runB.sl.r runB.sl.v27; rw [View.readAt_full, hfs0]; exact congrArg _ (load_slot _ (coff0_0_14 t) _ _ _)
    isplitl [H4]
    · iexists _; isplitr; swap; · iexact H4
      ipureintro; exact harg7.read_unread _
    isplitl [HS0]
    · iexists _; isplitr; swap; · iexact HS0
      ipureintro; exact harg8.read_unread _
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 24 t.val)).2; isplitl [Hf0_0_0_src]; · iexact Hf0_0_0_src
      iexact Hrf0_0_0
    iexists _; iexact HW

set_option maxHeartbeats 1000000 in
theorem runC (c : Dev nD) (t : Fin cfg0.N) (arg2 : Memref sig .tc .vmem S32x4096 .f32) (harg2 : arg2.IsWhole) (arg3 : Memref sig .tc .vmem S1x4096 .f32) (harg3 : arg3.IsWhole) (arg5 : Memref sig .tc .vmem S128x4096 .bf16) (harg5 : arg5.IsWhole) (arg6 : Memref sig .tc .vmem S32x512 .f32) (harg6 : arg6.IsWhole) (arg7 : Memref sig .tc .vmem S32x128 .f32) (harg7 : arg7.IsWhole) (arg8 : Memref sig .tc .vmem S32x4096 .bf16) (harg8 : arg8.IsWhole) (hc0 : ¬cond0_0 (grid0.coords t)) (hc1 : cond0_1 (grid0.coords t)) (hc2 : cond0_2 (grid0.coords t))
    (x0 : Vec F S32x4096 .f32) (x1 : Vec F S1x4096 .f32) (x2 : Vec F S128x4096 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 3 t.val) (Ring.bk 24 t.val) ∗ Ring.inflight (flightW0_0 c fh0) (Ring.sl 3 (t.val + 1)) (Ring.bk 24 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare (k0_pay3 (k0_pay1 x0 x1) (wblk c fh0 (Ring.bk 24 t.val))) ∗ owns (c : Thread nD τ) arg7 fullShare (k0_pay2 (k0_pay1 x0 x1) x2) ∗ owns (c : Thread nD τ) arg8 fullShare (k0_pay1 x0 x1) ∗ Ring.inflight (flightW0_0 c fh0) (Ring.sl 3 (t.val + 1)) (Ring.bk 24 (t.val + 1)) ∗ Ring.inflight (flightW0_0 c fh0) (Ring.sl 3 (t.val + 2)) (Ring.bk 24 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_in_proj_sample (grid0.coords t) arg2 harg2 arg3 harg3 (Memref.whole main_v2) (Memref.isWhole_whole _) arg5 harg5 arg6 harg6 arg7 harg7 arg8 harg8 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (cond0_2 (grid0.coords t)) := ⟨hc2⟩
    simp only [cc0_in_proj_sample_eq_skeleton]; unfold cc0_in_proj_sample_skel
    simp only [k0_part1_eq_skeleton]
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh0 (Ring.sl 3 (t.val + 2)) (Ring.bk 24 (t.val + 2))).1 $$ Hw0_0_2
    icases Hsp0_0_2 with ⟨Hh0_0_2, Hr0_0_2⟩
    obtain rfl := harg2.eq_unread hf0; obtain rfl := harg3.eq_unread hf1; obtain rfl := harg5.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro; refine (View.read_writes_full _ _ _ _ _).trans ?_; unfold runC.sl.r runC.sl.v51 runC.sl.HS0_1 runC.sl.v27; rw [View.readCov_full, View.readAt_full, View.readAt_full, hf0, hf1]; exact congrArg _ (load_slot _ (coff0_0_14 t) _ _ _)
    isplitl [H4]
    · iexists _; isplitr; swap; · iexact H4
      ipureintro; refine (View.read_writes_full _ _ _ _ _).trans ?_; unfold runC.sl.v51 runC.sl.HS0_1; rw [View.readCov_full, View.readAt_full, View.readAt_full, View.readAt_full, hf0, hf1, hf2]
    isplitl [HS0]
    · iexists _; isplitr; swap; · iexact HS0
      ipureintro; unfold runC.sl.HS0_1; refine (View.read_writes_full _ _ _ _ _).trans ?_; rw [View.readAt_full, View.readAt_full, hf0, hf1]
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 24 t.val)).2; isplitl [Hf0_0_0_src]; · iexact Hf0_0_0_src
      iexact Hrf0_0_0
    iexists _; iexact HW

set_option maxHeartbeats 1000000 in
theorem runD (c : Dev nD) (t : Fin cfg0.N) (arg2 : Memref sig .tc .vmem S32x4096 .f32) (harg2 : arg2.IsWhole) (arg3 : Memref sig .tc .vmem S1x4096 .f32) (harg3 : arg3.IsWhole) (arg5 : Memref sig .tc .vmem S128x4096 .bf16) (harg5 : arg5.IsWhole) (arg6 : Memref sig .tc .vmem S32x512 .f32) (harg6 : arg6.IsWhole) (arg7 : Memref sig .tc .vmem S32x128 .f32) (harg7 : arg7.IsWhole) (arg8 : Memref sig .tc .vmem S32x4096 .bf16) (harg8 : arg8.IsWhole) (hc0 : ¬cond0_0 (grid0.coords t)) (hc1 : ¬cond0_1 (grid0.coords t)) (hc2 : ¬cond0_2 (grid0.coords t))
    (x0 : Vec F S32x4096 .f32) (x1 : Vec F S1x4096 .f32) (x2 : Vec F S128x4096 .bf16) (y : Vec F S32x128 .f32) (n : Vec F S32x4096 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg6 fullShare d) ∗ owns (c : Thread nD τ) arg7 fullShare y ∗ owns (c : Thread nD τ) arg8 fullShare n ∗ Ring.inflight (flightW0_0 c fh0) (Ring.sl 3 t.val) (Ring.bk 24 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare (k0_pay3 n (wblk c fh0 (Ring.bk 24 t.val))) ∗ owns (c : Thread nD τ) arg7 fullShare y ∗ owns (c : Thread nD τ) arg8 fullShare n ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_in_proj_sample (grid0.coords t) arg2 harg2 arg3 harg3 (Memref.whole main_v2) (Memref.isWhole_whole _) arg5 harg5 arg6 harg6 arg7 harg7 arg8 harg8 scM0_1 (Memref.isWhole_whole _) cc0_scratch2) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_in_proj_sample_eq_skeleton]; unfold cc0_in_proj_sample_skel
    simp only [k0_part1_eq_skeleton]
    unfold owns Ring.free Ring.inflight
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%ff0_0_0, Hf0_0_0, Hrf0_0_0⟩, Hro0_0_1, ⟨Hc0_0_2, ⟨%fs0_0_2, Hs0_0_2, Hw0_0_2⟩⟩, HW, Hk⟩
    obtain rfl := harg2.eq_unread hf0; obtain rfl := harg3.eq_unread hf1; obtain rfl := harg5.eq_unread hf2; obtain rfl := harg7.eq_unread hf4; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro; refine (View.read_writes_full _ _ _ _ _).trans ?_; unfold runD.sl.r runD.sl.v27; rw [View.readAt_full, hfs0]; exact congrArg _ (load_slot _ (coff0_0_14 t) _ _ _)
    isplitl [H4]
    · iexists _; isplitr; swap; · iexact H4
      ipureintro; exact harg7.read_unread _
    isplitl [HS0]
    · iexists _; isplitr; swap; · iexact HS0
      ipureintro; exact harg8.read_unread _
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 24 t.val)).2; isplitl [Hf0_0_0_src]; · iexact Hf0_0_0_src
      iexact Hrf0_0_0
    iexists _; iexact HW

end Cert.InSIdeal.Streamed

end
-- ==== Proof.InSWhole.lean ====
/- The projection kernel run from launch to end: what every window's buffer holds at every grid point, the body's obligation, and the
   run, from which the frame and the two result arrays are read. -/
module

public import proofs.«01_k».proof.Proof.InSRun
public import Idealize.ShloMosaic.Lib.Claim

@[expose] public section

set_option maxRecDepth 16384

noncomputable section

namespace Cert.InSIdeal.Streamed

open Cert.InSIdeal Cert.InSIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body leaves, by grid point -/

/-- The first grid point of the row block that point `t` works on. -/
def rowPt (t : Fin cfg0.N) : Fin cfg0.N := ⟨24 * (t.val / 24), lt_of_le_of_lt (Nat.mul_div_le _ _) t.isLt⟩

theorem rowPt_first (t : Fin cfg0.N) (h : t.val % 24 = 0) : rowPt t = t := Fin.ext (by unfold rowPt; show 24 * (t.val / 24) = t.val; omega)

/-- The normalised rows the scratch holds from point `t` on. -/
def xnOf (c : Dev nD) (t : Fin cfg0.N) : Vec F S32x4096 .bf16 := k0_pay1 (iblk m c 0 (rowPt t)) (iblk m c 1 (rowPt t))
/-- The block of the product point `t` leaves. -/
def mainOf (c : Dev nD) (t : Fin cfg0.N) : Vec F S32x512 .f32 := k0_pay3 (xnOf m c t) (wblk c (V m c main_v2) (Ring.bk 24 t.val))
/-- The narrow product of point `t`'s rows. -/
def sideOf (c : Dev nD) (t : Fin cfg0.N) : Vec F S32x128 .f32 := k0_pay2 (xnOf m c t) (iblk m c 2 (rowPt t))

theorem rowPt_pred (t : Fin cfg0.N) (h : t.val % 24 ≠ 0) (h' : t.val - 1 < cfg0.N) : rowPt ⟨t.val - 1, h'⟩ = rowPt t :=
  Fin.ext (by unfold rowPt; show 24 * ((t.val - 1) / 24) = 24 * (t.val / 24); omega)

/-- The invariant before point `k`: the scratch at the normalised rows of the point before (at anything before the first), the
    generator register, the ring before its step `k`. -/
def Inv (c : Dev nD) (k : ℕ) : sProp 𝕄 :=
  iprop((∃ d, ⌜∀ h : k - 1 < cfg0.N, k ≠ 0 → d = xnOf m c ⟨k - 1, h⟩⌝ ∗ owns (c : Thread nD τ) scM0_0 fullShare d) ∗ (∃ r, prngReg c r) ∗ ringAt0_0 c (V m c main_v2) k)

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => mainOf m c t
    | ⟨4, _⟩ => sideOf m c t
  Φ t := Inv m c t.val
  q _ := fullShare
  owed _ := 0

theorem A_eq (c : Dev nD) (w : Fin cfg0.W) : (dats m 0 c).A w = V m c (Pipeline.arrRef spec0 w) := by dsimp only [dats]
theorem inv_start (c : Dev nD) (t : Fin cfg0.N) : (dats m 0 c).Φ t.castSucc = Inv m c t.val := by
  dsimp only [dats]; simp only [Fin.coe_castSucc]
theorem inv_end (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = mainOf m c t := by dsimp only [dats]
theorem after_4 (c : Dev nD) (t : Fin cfg0.N) : (dats m 0 c).after 4 t = sideOf m c t := by dsimp only [dats]
theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The narrow product's window, stored at each row block's first point and kept to its last -/

theorem side_idle (t : Fin cfg0.N) (h : t.val % 24 ≠ 0) : cfg0.idle 4 (grid0.coords t) = true := by
  have hc : ¬ k0_cond3 (grid0.coords t) = 1#1 := fun hc => h ((hcond0_2 t).mp hc)
  show (!(k0_cond3 (grid0.coords t) == 1#1)) = true
  rw [beq_eq_false_iff_ne.mpr hc]; rfl
theorem side_live (t : Fin cfg0.N) (h : t.val % 24 = 0) : cfg0.idle 4 (grid0.coords t) = false := by
  have hc : k0_cond3 (grid0.coords t) = 1#1 := (hcond0_2 t).mpr h
  show (!(k0_cond3 (grid0.coords t) == 1#1)) = false
  rw [hc]; rfl

theorem sideOf_pred (c : Dev nD) (t : Fin cfg0.N) (h : t.val % 24 ≠ 0) (h' : t.val - 1 < cfg0.N) : sideOf m c ⟨t.val - 1, h'⟩ = sideOf m c t := by
  unfold sideOf xnOf; rw [rowPt_pred t h h']

/-- Past a row block's first point the window holds what that point stored. -/
theorem side_kept (c : Dev nD) : ∀ (n : ℕ) (t : Fin cfg0.N), t.val = n → t.val % 24 ≠ 0 → ∀ d, (dats m 0 c).before 4 t d = sideOf m c t := by
  intro n
  induction n with
  | zero => intro t h0 h; omega
  | succ n ih =>
    intro t ht h d
    have hlt : t.val - 1 < cfg0.N := Nat.lt_of_le_of_lt (Nat.sub_le _ _) t.isLt
    have hfl : (cfg0.win 4).flush ⟨t.val - 1, hlt⟩ = false := by
      rw [Bool.eq_false_iff]; intro hf; have := (flush0_4 ⟨t.val - 1, hlt⟩).mp hf
      have : (t.val - 1) % 24 = 23 := this
      omega
    rw [(dats m 0 c).before_of_pos 4 t (by omega) ((cfg0.win 4).fetch_out rfl t), hfl, if_neg Bool.false_ne_true, ← sideOf_pred m c t h hlt]
    unfold Dat.left
    by_cases h1 : (t.val - 1) % 24 = 0
    · rw [side_live ⟨t.val - 1, hlt⟩ h1]
      show (dats m 0 c).kept 4 ⟨t.val - 1, hlt⟩ d = _
      unfold Dat.kept
      rw [Pipeline.fill_of_clip_none 4 _ (fun _ => rfl) d ((dats m 0 c).after 4 _), Window.fill_cut, after_4]
    · rw [side_idle ⟨t.val - 1, hlt⟩ h1]
      exact ih ⟨t.val - 1, hlt⟩ (by show t.val - 1 = n; omega) h1 d

theorem leaves_0 (c : Dev nD) (t : Fin cfg0.N) : (dats m 0 c).leavesExact 0 t = owns (c : Thread nD τ) (ms0_0 t) fullShare (iblk m c 0 t) := by
  rw [← after_0]
theorem leaves_1 (c : Dev nD) (t : Fin cfg0.N) : (dats m 0 c).leavesExact 1 t = owns (c : Thread nD τ) (ms0_1 t) fullShare (iblk m c 1 t) := by
  rw [← after_1]
theorem leaves_2 (c : Dev nD) (t : Fin cfg0.N) : (dats m 0 c).leavesExact 2 t = owns (c : Thread nD τ) (ms0_2 t) fullShare (iblk m c 2 t) := by
  rw [← after_2]
theorem leaves_3 (c : Dev nD) (t : Fin cfg0.N) : (dats m 0 c).leavesExact 3 t = owns (c : Thread nD τ) (ms0_3 t) fullShare (mainOf m c t) := by
  rw [← after_3]
theorem leaves_4_first (c : Dev nD) (t : Fin cfg0.N) (h : t.val % 24 = 0) :
    (dats m 0 c).leavesExact 4 t = owns (c : Thread nD τ) (ms0_4 t) fullShare (sideOf m c t) := by
  unfold Dat.leavesExact; rw [side_live t h, after_4]
theorem leaves_4_later (c : Dev nD) (t : Fin cfg0.N) (h : t.val % 24 ≠ 0) (d) :
    owns (c : Thread nD τ) (ms0_4 t) fullShare ((dats m 0 c).before 4 t d) ⊢ (dats m 0 c).leavesExact 4 t := by
  unfold Dat.leavesExact; rw [side_idle t h]
  cases hf : (cfg0.win 4).flush t with
  | false => show _ ⊢ iprop(∃ d, _); iintro H; iexists d; iexact H
  | true => show _ ⊢ owns (c : Thread nD τ) (ms0_4 t) fullShare ((dats m 0 c).after 4 t); rw [side_kept m c _ t rfl h d, after_4]

theorem xnOf_first (c : Dev nD) (t : Fin cfg0.N) (h : t.val % 24 = 0) : xnOf m c t = k0_pay1 (iblk m c 0 t) (iblk m c 1 t) := by
  unfold xnOf; rw [rowPt_first t h]
theorem xnOf_pred (c : Dev nD) (t : Fin cfg0.N) (h : t.val % 24 ≠ 0) (h' : t.val - 1 < cfg0.N) : xnOf m c ⟨t.val - 1, h'⟩ = xnOf m c t := by
  unfold xnOf; rw [rowPt_pred t h h']
theorem mainOf_first (c : Dev nD) (t : Fin cfg0.N) (h : t.val % 24 = 0) :
    mainOf m c t = k0_pay3 (k0_pay1 (iblk m c 0 t) (iblk m c 1 t)) (wblk c (V m c main_v2) (Ring.bk 24 t.val)) := by
  unfold mainOf; rw [xnOf_first m c t h]
theorem sideOf_first (c : Dev nD) (t : Fin cfg0.N) (h : t.val % 24 = 0) :
    sideOf m c t = k0_pay2 (k0_pay1 (iblk m c 0 t) (iblk m c 1 t)) (iblk m c 2 t) := by
  unfold sideOf; rw [xnOf_first m c t h, rowPt_first t h]

/-! ## The body at a grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
theorem bodyA (c : Dev nD) (t : Fin cfg0.N) (h0 : t.val % 24 = 0) (h1 : t.val < 22) (h2 : t.val % 24 = 0) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  have hpred : t.val - 1 < cfg0.N := Nat.lt_of_le_of_lt (Nat.sub_le _ _) t.isLt
  unfold bodyPre bodyPost bodyAt0
  simp only [before_0, before_1, before_2]
  rw [inv_start m c t, inv_end m c t, leaves_0, leaves_1, leaves_2, leaves_3]
  rw [leaves_4_first m c t h2, mainOf_first m c t h2, sideOf_first m c t h2]
  unfold Dat.owesAt Pipeline.owesWithin
  rw [show (dats m 0 c).owed t.castSucc = 0 from rfl, show (dats m 0 c).owed t.succ = 0 from rfl]
  unfold Inv ringAt0_0
  obtain ⟨hK, -⟩ := rstep0_0_A t ((hcond0_0 t).mpr h0) ((hcond0_1 t).mpr h1) ((hcond0_2 t).mpr h2)
  rw [if_pos hK, if_neg (show ¬t.val + 1 = 0 by omega)]
  rw [Ring.At₀_eq3' _ _ _ t.val hK (by decide : 3 ≤ 24), Ring.At3_one' _ _ _ _ t.val hK (by decide : 3 ≤ 24)]
  iintro ⟨⟨⟨%n, %hn, HS⟩, Hg, ⟨-, Ha, Hb, Hc⟩⟩, ⟨%W, -, HW⟩, ⟨%d0, H0⟩, ⟨%d1, H1⟩, ⟨%d2, H2⟩, ⟨%d3, H3⟩, ⟨%d4, H4⟩⟩
  iapply ((runA c t _ _ _ _ _ _ _ _ _ _ _ _ ((hcond0_0 t).mpr h0) ((hcond0_1 t).mpr h1) ((hcond0_2 t).mpr h2) (iblk m c 0 t) (iblk m c 1 t) (iblk m c 2 t) (V m c main_v2)) W _)
  isplitl [H0]; · iexact H0
  isplitl [H1]; · iexact H1
  isplitl [H2]; · iexact H2
  isplitl [H3]; · iexists _; iexact H3
  isplitl [H4]; · iexists _; iexact H4
  isplitl [HS]; · iexists _; iexact HS
  isplitl [Ha]; · iexact Ha
  isplitl [Hb]; · iexact Hb
  isplitl [Hc]; · iexact Hc
  isplitl [HW]; · iexact HW
  iintro ⟨H0, H1, H2, H3, H4, HS, Ha, Hb, Hc, ⟨%W', HW⟩⟩
  isplitl [HS Hg Ha Hb Hc]
  · isplitl [HS]
    · iexists _; isplitr; swap; · iexact HS
      ipureintro; exact fun _ _ => (xnOf_first m c t h2).symm
    isplitl [Hg]; · iexact Hg
    iapply (Ring.with_homes (Idealize.SL.BI.Entails.refl _))
    isplitl [Ha]; · iexact Ha
    isplitl [Hb]; · iexact Hb
    iexact Hc
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

set_option maxHeartbeats 1600000 in
theorem bodyB (c : Dev nD) (t : Fin cfg0.N) (h0 : ¬t.val % 24 = 0) (h1 : t.val < 22) (h2 : ¬t.val % 24 = 0) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  have hpred : t.val - 1 < cfg0.N := Nat.lt_of_le_of_lt (Nat.sub_le _ _) t.isLt
  unfold bodyPre bodyPost bodyAt0
  simp only [before_0, before_1, before_2]
  rw [inv_start m c t, inv_end m c t, leaves_0, leaves_1, leaves_2, leaves_3]
  unfold Dat.owesAt Pipeline.owesWithin
  rw [show (dats m 0 c).owed t.castSucc = 0 from rfl, show (dats m 0 c).owed t.succ = 0 from rfl]
  unfold Inv ringAt0_0
  obtain ⟨hK, hB, -⟩ := rstep0_0_B t (fun h => h0 ((hcond0_0 t).mp h)) ((hcond0_1 t).mpr h1) (fun h => h2 ((hcond0_2 t).mp h))
  rw [if_neg (show ¬t.val = 0 by omega), if_neg (show ¬t.val + 1 = 0 by omega)]
  rw [Ring.At3_here _ _ _ _ t.val hB, Ring.At3_next _ _ _ _ t.val hB, Ring.slotAt3_next0 _ _ _ t.val (by omega), Ring.slotAt3_next1 _ _ _ t.val hB]
  iintro ⟨⟨⟨%n, %hn, HS⟩, Hg, ⟨-, Ha, Hb, Hc⟩⟩, ⟨%W, -, HW⟩, ⟨%d0, H0⟩, ⟨%d1, H1⟩, ⟨%d2, H2⟩, ⟨%d3, H3⟩, ⟨%d4, H4⟩⟩
  obtain rfl : n = xnOf m c t := (hn hpred (by omega)).trans (xnOf_pred m c t h2 hpred)
  iapply ((runB c t _ _ _ _ _ _ _ _ _ _ _ _ (fun h => h0 ((hcond0_0 t).mp h)) ((hcond0_1 t).mpr h1) (fun h => h2 ((hcond0_2 t).mp h)) (iblk m c 0 t) (iblk m c 1 t) (iblk m c 2 t) ((dats m 0 c).before 4 t d4) (xnOf m c t) (V m c main_v2)) W _)
  isplitl [H0]; · iexact H0
  isplitl [H1]; · iexact H1
  isplitl [H2]; · iexact H2
  isplitl [H3]; · iexists _; iexact H3
  isplitl [H4]; · iexact H4
  isplitl [HS]; · iexact HS
  isplitl [Ha]; · iexact Ha
  isplitl [Hb]; · iexact Hb
  isplitl [Hc]; · iexact Hc
  isplitl [HW]; · iexact HW
  iintro ⟨H0, H1, H2, H3, H4, HS, Ha, Hb, Hc, ⟨%W', HW⟩⟩
  isplitl [HS Hg Ha Hb Hc]
  · isplitl [HS]
    · iexists _; isplitr; swap; · iexact HS
      ipureintro; exact fun _ _ => rfl
    isplitl [Hg]; · iexact Hg
    iapply (Ring.with_homes (Idealize.SL.BI.Entails.refl _))
    isplitl [Ha]; · iexact Ha
    isplitl [Hb]; · iexact Hb
    iexact Hc
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iapply (leaves_4_later m c t h2 d4); iexact H4

set_option maxHeartbeats 1600000 in
theorem bodyC (c : Dev nD) (t : Fin cfg0.N) (h0 : ¬t.val % 24 = 0) (h1 : t.val < 22) (h2 : t.val % 24 = 0) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  have hpred : t.val - 1 < cfg0.N := Nat.lt_of_le_of_lt (Nat.sub_le _ _) t.isLt
  unfold bodyPre bodyPost bodyAt0
  simp only [before_0, before_1, before_2]
  rw [inv_start m c t, inv_end m c t, leaves_0, leaves_1, leaves_2, leaves_3]
  rw [leaves_4_first m c t h2, mainOf_first m c t h2, sideOf_first m c t h2]
  unfold Dat.owesAt Pipeline.owesWithin
  rw [show (dats m 0 c).owed t.castSucc = 0 from rfl, show (dats m 0 c).owed t.succ = 0 from rfl]
  unfold Inv ringAt0_0
  obtain ⟨hK, hB, -⟩ := rstep0_0_C t (fun h => h0 ((hcond0_0 t).mp h)) ((hcond0_1 t).mpr h1) ((hcond0_2 t).mpr h2)
  rw [if_neg (show ¬t.val = 0 by omega), if_neg (show ¬t.val + 1 = 0 by omega)]
  rw [Ring.At3_here _ _ _ _ t.val hB, Ring.At3_next _ _ _ _ t.val hB, Ring.slotAt3_next0 _ _ _ t.val (by omega), Ring.slotAt3_next1 _ _ _ t.val hB]
  iintro ⟨⟨⟨%n, %hn, HS⟩, Hg, ⟨-, Ha, Hb, Hc⟩⟩, ⟨%W, -, HW⟩, ⟨%d0, H0⟩, ⟨%d1, H1⟩, ⟨%d2, H2⟩, ⟨%d3, H3⟩, ⟨%d4, H4⟩⟩
  iapply ((runC c t _ _ _ _ _ _ _ _ _ _ _ _ (fun h => h0 ((hcond0_0 t).mp h)) ((hcond0_1 t).mpr h1) ((hcond0_2 t).mpr h2) (iblk m c 0 t) (iblk m c 1 t) (iblk m c 2 t) (V m c main_v2)) W _)
  isplitl [H0]; · iexact H0
  isplitl [H1]; · iexact H1
  isplitl [H2]; · iexact H2
  isplitl [H3]; · iexists _; iexact H3
  isplitl [H4]; · iexists _; iexact H4
  isplitl [HS]; · iexists _; iexact HS
  isplitl [Ha]; · iexact Ha
  isplitl [Hb]; · iexact Hb
  isplitl [Hc]; · iexact Hc
  isplitl [HW]; · iexact HW
  iintro ⟨H0, H1, H2, H3, H4, HS, Ha, Hb, Hc, ⟨%W', HW⟩⟩
  isplitl [HS Hg Ha Hb Hc]
  · isplitl [HS]
    · iexists _; isplitr; swap; · iexact HS
      ipureintro; exact fun _ _ => (xnOf_first m c t h2).symm
    isplitl [Hg]; · iexact Hg
    iapply (Ring.with_homes (Idealize.SL.BI.Entails.refl _))
    isplitl [Ha]; · iexact Ha
    isplitl [Hb]; · iexact Hb
    iexact Hc
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

set_option maxHeartbeats 1600000 in
theorem bodyD (c : Dev nD) (t : Fin cfg0.N) (h0 : ¬t.val % 24 = 0) (h1 : ¬t.val < 22) (h2 : ¬t.val % 24 = 0) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  have hpred : t.val - 1 < cfg0.N := Nat.lt_of_le_of_lt (Nat.sub_le _ _) t.isLt
  unfold bodyPre bodyPost bodyAt0
  simp only [before_0, before_1, before_2]
  rw [inv_start m c t, inv_end m c t, leaves_0, leaves_1, leaves_2, leaves_3]
  unfold Dat.owesAt Pipeline.owesWithin
  rw [show (dats m 0 c).owed t.castSucc = 0 from rfl, show (dats m 0 c).owed t.succ = 0 from rfl]
  unfold Inv ringAt0_0
  obtain ⟨hK, hB, hlt, -⟩ := rstep0_0_D t (fun h => h0 ((hcond0_0 t).mp h)) (fun h => h1 ((hcond0_1 t).mp h)) (fun h => h2 ((hcond0_2 t).mp h))
  rw [if_neg (show ¬t.val = 0 by omega), if_neg (show ¬t.val + 1 = 0 by omega)]
  rw [Ring.At3_here_tail _ _ _ _ t.val hlt, Ring.At3_next_tail _ _ _ _ t.val hB hlt, Ring.slotAt3_tail_role _ _ _ t.val]
  iintro ⟨⟨⟨%n, %hn, HS⟩, Hg, ⟨-, Ha, Hb, Hc⟩⟩, ⟨%W, -, HW⟩, ⟨%d0, H0⟩, ⟨%d1, H1⟩, ⟨%d2, H2⟩, ⟨%d3, H3⟩, ⟨%d4, H4⟩⟩
  obtain rfl : n = xnOf m c t := (hn hpred (by omega)).trans (xnOf_pred m c t h2 hpred)
  iapply ((runD c t _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) ((dats m 0 c).before 4 t d4) (xnOf m c t) (V m c main_v2)) W _)
  isplitl [H0]; · iexact H0
  isplitl [H1]; · iexact H1
  isplitl [H2]; · iexact H2
  isplitl [H3]; · iexists _; iexact H3
  isplitl [H4]; · iexact H4
  isplitl [HS]; · iexact HS
  isplitl [Ha]; · iexact Ha
  isplitl [Hb]; · iexact Hb
  isplitl [Hc]; · iexact Hc
  isplitl [HW]; · iexact HW
  iintro ⟨H0, H1, H2, H3, H4, HS, Ha, Hb, Hc, ⟨%W', HW⟩⟩
  isplitl [HS Hg Ha Hb Hc]
  · isplitl [HS]
    · iexists _; isplitr; swap; · iexact HS
      ipureintro; exact fun _ _ => rfl
    isplitl [Hg]; · iexact Hg
    iapply (Ring.with_homes (Idealize.SL.BI.Entails.refl _))
    isplitl [Ha]; · iexact Ha
    isplitl [Hb]; · iexact Hb
    iexact Hc
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iapply (leaves_4_later m c t h2 d4); iexact H4

theorem body_at (c : Dev nD) (t : Fin cfg0.N) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  by_cases h0 : t.val % 24 = 0
  · exact bodyA m c t h0 (by omega) (by omega)
  · by_cases h1 : t.val < 22
    · by_cases h2 : t.val % 24 = 0
      · exact bodyC m c t h0 h1 h2
      · exact bodyB m c t h0 h1 h2
    · exact bodyD m c t h0 h1 (by omega)

theorem defs₀_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-- The launch's pieces are the invariant before the first point, -/
theorem inv_in (c : Dev nD) : Pipeline.ΦD osem0 spec0 H0 (V m) c ⊢ (dats m 0 c).Φ 0 := by
  rw [PhiD0_eq, show (dats m 0 c).Φ 0 = Inv m c 0 from rfl]
  unfold Inv
  iintro ⟨⟨⟨%d, HS⟩, HR⟩, Hg, Hq, Hh⟩
  isplitl [HS]
  · iexists d; isplitr; · ipureintro; exact fun _ h => absurd rfl h
    iexact HS
  isplitl [Hg]; · iexact Hg
  iapply (ring0_0_in (F := F) m c)
  isplitl [HR]; · iexact HR
  isplitl [Hq]; · iexact Hq
  iexact Hh
/-- and the invariant after the last gives them back. -/
theorem inv_out (c : Dev nD) : (dats m 0 c).Φ (Fin.last cfg0.N) ⊢ Pipeline.ΦD osem0 spec0 H0 (V m) c := by
  rw [PhiD0_eq, show (dats m 0 c).Φ (Fin.last cfg0.N) = Inv m c grid0.N from rfl]
  unfold Inv
  rw [show grid0.N = 24 by rw [N_0]]
  iintro ⟨⟨%d, -, HS⟩, Hg, HR⟩
  ihave HX := (ring0_0_out (F := F) m c) $$ HR
  icases HX with ⟨HR, Hq, Hh⟩
  isplitl [HS HR]
  · isplitl [HS]; · iexists d; iexact HS
    iexact HR
  isplitl [Hg]; · iexact Hg
  isplitl [Hq]; · iexact Hq
  iexact Hh

/-! ## The run -/

set_option backward.isDefEq.respectTransparency.types false in
/-- Every run ends with the two result arrays at what the points left, every other array as the program found it, and every
    semaphore counter at zero. -/
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := entry m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiet m ρ)

/-- The frame. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_quiet m ρ)

end Cert.InSIdeal.Streamed

end
-- ==== Proof.InSValue.lean ====
/- The projection kernel's two result arrays, and that they are the reference's. -/
module

public import proofs.«01_k».proof.Defs
public import proofs.«01_k».proof.Proof.InSWhole
public import proofs.«01_k».proof.Proof.Gen.InS
public import proofs.«01_k».proof.Proof.Gen.InSRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InSRefIdeal.Spec

open Cert.InSRefIdeal Cert.InSRefIdeal.Gen

/-- The rows of `x` over their root mean square, scaled by `g`. -/
def nrm (x : FVec Ideal S32x1x4096 .f32) (g : FVec Ideal S1x4096 .f32) : FVec Ideal S32x1x4096 .f32 :=
  mulf (mulf x (broadcastInDim S32x1x4096 ![0, 1, 2] bcast_S32x1x1_S32x1x4096_0_1_2 (Host.rsqrt (addf (Host.divf (broadcastInDim S32x1x1 ![0, 1] bcast_S32x1_S32x1x1_0_1 (Host.reduceAdd (mulf x x) (constant S_ .f32 0x00000000#32) reducesTo_S32x1x4096_S32x1_d2 h_S_)) (broadcastInDim S32x1x1 ![] bcast_S_S32x1x1 (constant S_ .f32 0x45800000#32))) (broadcastInDim S32x1x1 ![] bcast_S_S32x1x1 (constant S_ .f32 0x358637BD#32)))))) (broadcastInDim S32x1x4096 ![0, 1, 2] bcast_S1x1x4096_S32x1x4096_0_1_2 (broadcastInDim S1x1x4096 ![2] bcast_S4096_S1x1x4096_2 (shapeCast _ g shapeCasts_S1x4096_S4096)))
/-- The normalised rows times the weight, flattened. -/
def prod (x : FVec Ideal S32x1x4096 .f32) (g : FVec Ideal S1x4096 .f32) (w : FVec Ideal S1x4096x12368 .f32) : FVec Ideal S32x12368 .f32 :=
  shapeCast _ (Host.dotGeneral dot_S32x1x4096_S4096x12368_S32x1x12368_2_0_01_1_n_n none (nrm x g) (shapeCast _ w shapeCasts_S1x4096x12368_S4096x12368)) shapeCasts_S32x1x12368_S32x12368
/-- The wide result: the columns of the product without its columns 4096 to 4175. -/
def wide (x : FVec Ideal S32x1x4096 .f32) (g : FVec Ideal S1x4096 .f32) (w : FVec Ideal S1x4096x12368 .f32) : FVec Ideal S32x12288 .f32 :=
  fun i => prod x g w (ix2 (i 0) ⟨(i 1).val + (if (i 1).val < 4096 then 0 else 80), by have := (i 1).isLt; have h : S32x12288.size 1 = 12288 := rfl; split <;> omega⟩)
/-- The narrow result: columns 4096 to 4175 of the product, then zeros. -/
def narrow (x : FVec Ideal S32x1x4096 .f32) (g : FVec Ideal S1x4096 .f32) (w : FVec Ideal S1x4096x12368 .f32) : FVec Ideal S32x128 .f32 :=
  fun i => if h : (i 1).val < 80 then prod x g w (ix2 (i 0) ⟨4096 + (i 1).val, by omega⟩) else 0

theorem prod_at (x : FVec Ideal S32x1x4096 .f32) (g : FVec Ideal S1x4096 .f32) (w : FVec Ideal S1x4096x12368 .f32) (r : Fin 32) (k : Fin 12368) :
    prod x g w (ix2 r k) = ∑ e : Fin 4096, nrm x g (ix3 r 0 e) * w (ix3 0 e k) := by
  pointwise [prod]

/-- What the reference's wide concatenation of column ranges of `z` holds. -/
theorem wide_cat (z : FVec Ideal S32x12368 .f32) (r : Fin 32) (k : Fin 12288) :
    (concatenate S32x12288 1 [⟨S32x2048, (extractStridedSlice S32x2048 ![0, 0] z slices_S32x12368_S32x2048_0_0 : FVec Ideal S32x2048 .f32)⟩, ⟨S32x512, (extractStridedSlice S32x512 ![0, 2048] z slices_S32x12368_S32x512_0_2048 : FVec Ideal S32x512 .f32)⟩, ⟨S32x512, (extractStridedSlice S32x512 ![0, 2560] z slices_S32x12368_S32x512_0_2560 : FVec Ideal S32x512 .f32)⟩, ⟨S32x1024, (extractStridedSlice S32x1024 ![0, 3072] z slices_S32x12368_S32x1024_0_3072 : FVec Ideal S32x1024 .f32)⟩, ⟨S32x2048, (extractStridedSlice S32x2048 ![0, 4176] z slices_S32x12368_S32x2048_0_4176 : FVec Ideal S32x2048 .f32)⟩, ⟨S32x2048, (extractStridedSlice S32x2048 ![0, 6224] z slices_S32x12368_S32x2048_0_6224 : FVec Ideal S32x2048 .f32)⟩, ⟨S32x2048, (extractStridedSlice S32x2048 ![0, 8272] z slices_S32x12368_S32x2048_0_8272 : FVec Ideal S32x2048 .f32)⟩, ⟨S32x2048, (extractStridedSlice S32x2048 ![0, 10320] z slices_S32x12368_S32x2048_0_10320 : FVec Ideal S32x2048 .f32)⟩] concatenates_S32x2048_S32x512_S32x512_S32x1024_S32x2048_S32x2048_S32x2048_S32x2048_S32x12288_d1 : FVec Ideal S32x12288 .f32) (ix2 r k)
      = z (ix2 r ⟨k.val + (if k.val < 4096 then 0 else 80), by split <;> omega⟩) := by
  pointwise []
  split_ifs <;> first | omega | exact congrArg z ((ix2_inj ..).2 ⟨rfl, Fin.ext (by dsimp only; split_ifs <;> omega)⟩)

theorem narrow_cat (z : FVec Ideal S32x12368 .f32) (r : Fin 32) (k : Fin 128) :
    (concatenate S32x128 1 [⟨S32x64, (extractStridedSlice S32x64 ![0, 4096] z slices_S32x12368_S32x64_0_4096 : FVec Ideal S32x64 .f32)⟩, ⟨S32x16, (extractStridedSlice S32x16 ![0, 4160] z slices_S32x12368_S32x16_0_4160 : FVec Ideal S32x16 .f32)⟩, ⟨S32x48, (broadcastInDim S32x48 ![] bcast_S_S32x48 (constant S_ .f32 0x00000000#32) : FVec Ideal S32x48 .f32)⟩] concatenates_S32x64_S32x16_S32x48_S32x128_d1 : FVec Ideal S32x128 .f32) (ix2 r k)
      = if h : k.val < 80 then z (ix2 r ⟨4096 + k.val, by omega⟩) else 0 := by
  pointwise []
  by_cases h : k.val < 80
  · rw [dif_pos h]
    split_ifs <;> first | omega | rfl | exact congrArg z ((ix2_inj ..).2 ⟨rfl, Fin.ext (by first | rfl | (dsimp only; omega))⟩)
  · rw [dif_neg h]
    split_ifs <;> first | omega | rfl

theorem wide_of (x : FVec Ideal S32x1x4096 .f32) (g : FVec Ideal S1x4096 .f32) (w : FVec Ideal S1x4096x12368 .f32) (z : FVec Ideal S32x12368 .f32) (hz : z = prod x g w) :
    (concatenate S32x12288 1 [⟨S32x2048, (extractStridedSlice S32x2048 ![0, 0] z slices_S32x12368_S32x2048_0_0 : FVec Ideal S32x2048 .f32)⟩, ⟨S32x512, (extractStridedSlice S32x512 ![0, 2048] z slices_S32x12368_S32x512_0_2048 : FVec Ideal S32x512 .f32)⟩, ⟨S32x512, (extractStridedSlice S32x512 ![0, 2560] z slices_S32x12368_S32x512_0_2560 : FVec Ideal S32x512 .f32)⟩, ⟨S32x1024, (extractStridedSlice S32x1024 ![0, 3072] z slices_S32x12368_S32x1024_0_3072 : FVec Ideal S32x1024 .f32)⟩, ⟨S32x2048, (extractStridedSlice S32x2048 ![0, 4176] z slices_S32x12368_S32x2048_0_4176 : FVec Ideal S32x2048 .f32)⟩, ⟨S32x2048, (extractStridedSlice S32x2048 ![0, 6224] z slices_S32x12368_S32x2048_0_6224 : FVec Ideal S32x2048 .f32)⟩, ⟨S32x2048, (extractStridedSlice S32x2048 ![0, 8272] z slices_S32x12368_S32x2048_0_8272 : FVec Ideal S32x2048 .f32)⟩, ⟨S32x2048, (extractStridedSlice S32x2048 ![0, 10320] z slices_S32x12368_S32x2048_0_10320 : FVec Ideal S32x2048 .f32)⟩] concatenates_S32x2048_S32x512_S32x512_S32x1024_S32x2048_S32x2048_S32x2048_S32x2048_S32x12288_d1 : FVec Ideal S32x12288 .f32)
      = wide x g w := by
  subst hz
  funext i
  idx_vars i
  exact wide_cat (prod x g w) i0 i1

theorem narrow_of (x : FVec Ideal S32x1x4096 .f32) (g : FVec Ideal S1x4096 .f32) (w : FVec Ideal S1x4096x12368 .f32) (z : FVec Ideal S32x12368 .f32) (hz : z = prod x g w) :
    (concatenate S32x128 1 [⟨S32x64, (extractStridedSlice S32x64 ![0, 4096] z slices_S32x12368_S32x64_0_4096 : FVec Ideal S32x64 .f32)⟩, ⟨S32x16, (extractStridedSlice S32x16 ![0, 4160] z slices_S32x12368_S32x16_0_4160 : FVec Ideal S32x16 .f32)⟩, ⟨S32x48, (broadcastInDim S32x48 ![] bcast_S_S32x48 (constant S_ .f32 0x00000000#32) : FVec Ideal S32x48 .f32)⟩] concatenates_S32x64_S32x16_S32x48_S32x128_d1 : FVec Ideal S32x128 .f32)
      = narrow x g w := by
  subst hz
  funext i
  idx_vars i
  exact narrow_cat (prod x g w) i0 i1

end Cert.InSRefIdeal.Spec

namespace Cert.InSIdeal.Streamed

open Cert.InSIdeal Cert.InSIdeal.Gen
open Cert.InSRefIdeal.Spec (nrm prod wide narrow)

variable (m : (ℓ : Loc nD τ sig) → Buf (Elt Ideal) ℓ)

/-! ## The payloads at an index -/

theorem norm_at (X : FVec Ideal S32x4096 .f32) (G : FVec Ideal S1x4096 .f32) (x : FVec Ideal S32x1x4096 .f32) (g : FVec Ideal S1x4096 .f32)
    (a : Fin 32) (b : Fin 32) (s : Fin 1) (hX : ∀ e : Fin 4096, X (ix2 a e) = x (ix3 b s e)) (hG : ∀ e : Fin 4096, G (ix2 0 e) = g (ix2 0 e)) (e : Fin 4096) :
    @Eq EReal (k0_pay1 (F := Ideal) X G (ix2 a e)) (nrm x g (ix3 b s e)) := by
  obtain rfl : s = 0 := Subsingleton.elim _ _
  pointwise [k0_pay1, Cert.InSRefIdeal.Spec.nrm, hX, hG]

theorem wideDot_at (n : FVec Ideal S32x4096 .bf16) (W : FVec Ideal S1x512x4096 .bf16) (a : Fin 32) (k : Fin 512) :
    @Eq EReal (k0_pay3 (F := Ideal) n W (ix2 a k)) (∑ e : Fin 4096, n (ix2 a e) * W (ix3 0 k e)) := by
  pointwise [k0_pay3]

theorem narrowDot_at (n : FVec Ideal S32x4096 .bf16) (W : FVec Ideal S128x4096 .bf16) (a : Fin 32) (k : Fin 128) :
    @Eq EReal (k0_pay2 (F := Ideal) n W (ix2 a k)) (∑ e : Fin 4096, n (ix2 a e) * W (ix2 k e)) := by
  pointwise [k0_pay2]

/-! ## The operands at an index -/

variable (c : Dev nD)

/-- The three arguments. -/
abbrev argX : FVec Ideal S32x1x4096 .f32 := m ((c : Thread nD τ).loc main_arg0)
abbrev argG : FVec Ideal S1x4096 .f32 := m ((c : Thread nD τ).loc main_arg1)
abbrev argW : FVec Ideal S1x4096x12368 .f32 := m ((c : Thread nD τ).loc main_arg2)

theorem weight_at (k : Fin 12368) (e : Fin 4096) : (V m c main_v2 : FVec Ideal S12368x4096 .bf16) (ix2 k e) = argW m c (ix3 0 e k) := by
  unfold V
  simp only [List.flatten_cons, List.flatten_nil, hostOps0, hostOps0_1, hostOps0_2, List.cons_append, List.nil_append]
  after_results
  pointwise []

theorem side_at (k : Fin 128) (e : Fin 4096) :
    (V m c main_v4 : FVec Ideal S128x4096 .bf16) (ix2 k e) = if h : k.val < 80 then argW m c (ix3 0 e ⟨4096 + k.val, by omega⟩) else 0 := by
  unfold V
  simp only [List.flatten_cons, List.flatten_nil, hostOps0, hostOps0_1, hostOps0_2, List.cons_append, List.nil_append]
  after_results
  change (pad S128x4096 ![0, 0] ![48, 0] ![0, 0]
    (extractStridedSlice S80x4096 ![4096, 0] (truncf FTy.bf16 (transpose S12368x4096 [1, 0] (shapeCast S4096x12368 (argW m c) shapeCasts_S1x4096x12368_S4096x12368) transposes_S4096x12368_S12368x4096_1_0) bitsLt_bf16_f32) slices_S12368x4096_S80x4096_4096_0)
    (sitofp FTy.bf16 (constantI S_ 32 0#32)) pads_S80x4096_S128x4096_0480_000 h_S_ : FVec Ideal S128x4096 .bf16) (ix2 k e) = _
  pointwise []
  have h0 : (FloatOps.sitofp FTy.bf16 0#32 : Ideal .bf16) = (0 : EReal) := by
    show (((0#32 : BitVec 32).toInt : ℝ) : EReal) = 0
    simp
  rw [h0]

theorem rows_at (r : Fin 32) (e : Fin 4096) :
    (V m c main_v5 : FVec Ideal S32x4096 .f32) (ix2 r e) = argX m c (ix3 r 0 e) := by
  unfold V
  simp only [List.flatten_cons, List.flatten_nil, hostOps0, hostOps0_1, hostOps0_2, List.cons_append, List.nil_append]
  after_results
  pointwise []

theorem scale_at (e : Fin 4096) : (V m c main_v7 : FVec Ideal S1x4096 .f32) (ix2 0 e) = argG m c (ix2 0 e) := by
  unfold V
  simp only [List.flatten_cons, List.flatten_nil, hostOps0, hostOps0_1, hostOps0_2, List.cons_append, List.nil_append]
  after_results
  pointwise []

theorem where_at : ∀ t : Fin cfg0.N, win0_0.index (rowPt t) = ![t.val / 24, 0] ∧ win0_1.index (rowPt t) = ![0, 0] ∧ win0_2.index (rowPt t) = ![0, 0]
    ∧ win0_3.index t = ![t.val / 24, t.val % 24] ∧ win0_4.index t = ![t.val / 24, 0] :=
  (by decide +kernel : ∀ t : Fin grid0.N, _)

theorem wblk_at (W : HbBuf0 (F := Ideal) c hbM0_0) (b : Fin 24) (k : Fin 512) (e : Fin 4096) :
    wblk c W b (ix3 0 k e) = (W : FVec Ideal S12368x4096 .bf16) (ix2 ⟨rowsAt b 0 + k.val, Nat.lt_of_lt_of_le (Nat.add_lt_add_left k.isLt _) (inb_src0_0 b 0)⟩ e) := by
  unfold wblk
  refine congrArg (W : FVec Ideal S12368x4096 .bf16) (funext fun a => Fin.ext ?_)
  match a, a.isLt with
  | ⟨0, _⟩, _ => show rowsAt b 0 + 1 * k.val = rowsAt b 0 + k.val; omega
  | ⟨1, _⟩, _ => show 0 + 1 * e.val = e.val; omega

/-! ## What the points leave, at an index -/

theorem t_lt (t : Fin cfg0.N) : t.val < 24 := by have h : t.val < grid0.N := t.isLt; rw [N_0] at h; exact h

theorem xnOf_at (t : Fin cfg0.N) (a : Fin 32) (e : Fin 4096) :
    @Eq EReal (xnOf m c t (ix2 a e)) (nrm (argX m c) (argG m c)
      (ix3 ⟨t.val / 24 * 32 + a.val, by have := t_lt t; omega⟩ 0 e)) := by
  have ht := t_lt t
  refine norm_at _ _ _ _ a _ _ (fun e => ?_) (fun e => ?_) e
  · refine Eq.trans ?_ (rows_at m c ⟨t.val / 24 * 32 + a.val, by omega⟩ e)
    blk_ext [iblk, where_at t]
  · refine Eq.trans ?_ (scale_at m c e)
    blk_ext [iblk, where_at t]

theorem rows_wblk (t : Fin cfg0.N) : rowsAt (Ring.bk 24 t.val) 0 = t.val % 24 * 512 + (if t.val % 24 * 512 < 4096 then 0 else 80) := by
  have hb : (Ring.bk 24 t.val).val = t.val := Ring.bk_val (t_lt t)
  show 512 * ((Ring.bk 24 t.val).val % 24) + (if 8 ≤ (Ring.bk 24 t.val).val % 24 then 80 else 0) = _
  rw [hb]
  split_ifs <;> omega

theorem mainOf_at (t : Fin cfg0.N) (a : Fin 32) (k : Fin 512) :
    mainOf m c t (ix2 a k) = wide (argX m c) (argG m c) (argW m c)
      (ix2 ⟨t.val / 24 * 32 + a.val, by have := t_lt t; omega⟩ ⟨t.val % 24 * 512 + k.val, by omega⟩) := by
  have hr := rows_wblk t
  refine (wideDot_at _ _ a k).trans ?_
  unfold Cert.InSRefIdeal.Spec.wide
  refine Eq.trans ?_ (Cert.InSRefIdeal.Spec.prod_at ..).symm
  refine Finset.sum_congr rfl fun e _ => Ideal.mul_congr (xnOf_at m c t a e) ?_
  refine (wblk_at c _ _ k e).trans ((weight_at m c _ e).trans (congrArg (argW m c) ((ix3_inj ..).2 ⟨rfl, rfl, Fin.ext ?_⟩)))
  dsimp only
  rw [hr]
  show _ = t.val % 24 * 512 + k.val + (if t.val % 24 * 512 + k.val < 4096 then 0 else 80)
  split_ifs <;> omega

theorem sideOf_at (t : Fin cfg0.N) (a : Fin 32) (k : Fin 128) :
    sideOf m c t (ix2 a k) = narrow (argX m c) (argG m c) (argW m c) (ix2 ⟨t.val / 24 * 32 + a.val, by have := t_lt t; omega⟩ k) := by
  refine (narrowDot_at _ _ a k).trans ?_
  have hs : ∀ e : Fin 4096, (iblk m c 2 (rowPt t) : FVec Ideal S128x4096 .bf16) (ix2 k e) = if h : k.val < 80 then argW m c (ix3 0 e ⟨4096 + k.val, by omega⟩) else 0 := fun e => by
    refine Eq.trans ?_ (side_at m c k e)
    blk_ext [iblk, where_at t]
  unfold Cert.InSRefIdeal.Spec.narrow
  by_cases h : k.val < 80
  · refine Eq.trans ?_ (dif_pos h).symm
    refine Eq.trans ?_ (Cert.InSRefIdeal.Spec.prod_at ..).symm
    exact Finset.sum_congr rfl fun e _ => Ideal.mul_congr (xnOf_at m c t a e) ((hs e).trans (dif_pos h))
  · refine Eq.trans ?_ (dif_neg h).symm
    refine Finset.sum_eq_zero fun e _ => ?_
    refine Eq.trans (Ideal.mul_congr rfl ((hs e).trans (dif_neg h))) ?_
    exact mul_zero (M₀ := EReal) _

/-! ## The result arrays -/

theorem written_wide : (dats m 0 c).arrAt 3 (cfgs 0).N = wide (argX m c) (argG m c) (argW m c) := by
  refine (dats m 0 c).arrAt_eq_of_covers 3 _ (by decide +kernel) fun t _ y => ?_
  blk_simp
  rw [after_3]
  idx_vars y
  refine (mainOf_at m c t y0 y1).trans ?_
  blk_ext [where_at t]

theorem written_narrow : (dats m 0 c).arrAt 4 (cfgs 0).N = narrow (argX m c) (argG m c) (argW m c) := by
  refine (dats m 0 c).arrAt_eq_of_covers 4 _ (by decide +kernel) fun t _ y => ?_
  blk_simp
  rw [after_4]
  idx_vars y
  refine (sideOf_at m c t y0 y1).trans ?_
  blk_ext [where_at t]

end Cert.InSIdeal.Streamed

namespace Cert.InSClaims

theorem ideal : Cert.quiescent_InSIdeal := fun m ρ _ => Cert.InSIdeal.Streamed.whole m ρ

/-- The two programs' body tables are one text. -/
theorem bodies : (Cert.InS.defs₀ (F := Bits)) = Cert.InSIdeal.defs₀ (F := Bits) := by
  unfold Cert.InS.defs₀ Cert.InSIdeal.defs₀
  congr 1
  funext x y
  match x, y with
  | 0, (t, s) => rfl
  | ⟨_ + 1, h⟩, _ => exact absurd h (Nat.not_lt.2 (Nat.le_add_left _ _))
theorem tables : (Cert.InS.defs (F := Bits)) = Cert.InSIdeal.defs (F := Bits) := by
  unfold Cert.InS.defs Cert.InSIdeal.defs
  exact congrArg (Pipeline.defs _) bodies

theorem kernel : Cert.quiescent_InS := fun m ρ _ => by
  rw [tables]
  exact Cert.InSIdeal.Streamed.whole (F := Bits) m ρ

theorem algebraic : Cert.algebraic_InSIdeal_InSRefIdeal := by
  pair_intro
  · run_from Cert.InSIdeal.Streamed.run_main m g
    · exact Cert.InSIdeal.Gen.V_main_arg0 m c
    · exact Cert.InSIdeal.Gen.V_main_arg1 m c
    · exact Cert.InSIdeal.Gen.V_main_arg2 m c
  · run_from Cert.InSRefIdeal.Value.run m' g'
    all_goals obtain ⟨e0, e1, e2⟩ := hagree c
    · refine Eq.trans (Cert.InSRefIdeal.Spec.wide_of _ _ _ _ rfl) (Eq.trans ?_ (Cert.InSIdeal.Streamed.written_wide m c).symm)
      rw [e0, e1, e2]
    · refine Eq.trans (Cert.InSRefIdeal.Spec.narrow_of _ _ _ _ rfl) (Eq.trans ?_ (Cert.InSIdeal.Streamed.written_narrow m c).symm)
      rw [e2]

end Cert.InSClaims
-- ==== Proof.OutValue.lean ====
/-
  The output projection of the prompt at the ideal instance: each grid point writes one 1024 × 1024 block of
  `x + h · w`, the blocks tile the array, so the array after the run is the reference's term.
-/
module

public import proofs.«01_k».proof.Defs
public import proofs.«01_k».proof.Proof.Gen.Out.Frame
public import proofs.«01_k».proof.Proof.Gen.OutIdeal.Frame
public import proofs.«01_k».proof.Proof.Gen.OutRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Block

open Cert.OutIdeal Cert.OutIdeal.Gen

variable (m : (ℓ : Loc nD τ sig) → Buf (Elt Ideal) ℓ)

/-- The reference's term: the residual `x` plus the rows of `h` times the weight, flattened to 8192 rows. -/
abbrev spec (h : FVec Ideal S8192x4096 .bf16) (w : FVec Ideal S1x4096x4096 .f32) (x : FVec Ideal S4x2048x4096 .f32) : FVec Ideal S8192x4096 .f32 :=
  shapeCast _ (addf x (Host.dotGeneral Cert.OutRefIdeal.dot_S4x2048x4096_S4096x4096_S4x2048x4096_2_0_01_1_n_n none
    (shapeCast _ (extf .f32 h Cert.OutRefIdeal.Gen.bitsLt_bf16_f32) Cert.OutRefIdeal.Gen.shapeCasts_S8192x4096_S4x2048x4096)
    (shapeCast _ w Cert.OutRefIdeal.Gen.shapeCasts_S1x4096x4096_S4096x4096))) Cert.OutRefIdeal.Gen.shapeCasts_S4x2048x4096_S8192x4096

/-- Point `t` is the pair (column block, row block), the row block running fastest or slowest as the grid has it. -/
theorem where_at : ∀ t : Fin cfg0.N, win0_0.index t = ![(win0_3.index t 0), 0] ∧ win0_1.index t = ![0, win0_3.index t 1]
    ∧ win0_2.index t = ![win0_3.index t 0, win0_3.index t 1] ∧ win0_3.index t 0 < 8 ∧ win0_3.index t 1 < 4 :=
  (by decide +kernel : ∀ t : Fin grid0.N, _)

/-- What the body stores at `y` of point `t` is the reference's term at the place `y` has in the array. -/
theorem stored (c : Dev nD) (t : Fin cfg0.N) (y) : k0_pay1 (iblk m c 2 t) (iblk m c 0 t) (iblk m c 1 t) y
    = spec (m ((c : Thread nD τ).loc main_arg0)) (m ((c : Thread nD τ).loc main_arg1)) (m ((c : Thread nD τ).loc main_arg2)) (((cfg0.win 3).blk t).view.emb y) := by
  pointwise [k0_pay1, spec]
  blk_point [iblk, V, where_at t]

theorem written (c : Dev nD) : (dats m 0 c).arrAt 3 (cfgs 0).N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact stored m c t y

end Cert.OutIdeal.Block

namespace Cert.OutClaims

theorem algebraic : Cert.algebraic_OutIdeal_OutRefIdeal := by
  pair_intro
  · run_from Cert.OutIdeal.Gen.run_main m g
  · run_from Cert.OutRefIdeal.Value.run m' g'
    exact (Cert.OutIdeal.Block.written m c).symm

end Cert.OutClaims

end
-- ==== Proof.MemKvValue.lean ====
/-
  The memory projection at the ideal instance: the body copies a block of rows into scratch and multiplies it with the
  weight; the row blocks tile the array, so the array after the run is the reference's product.
-/
module

public import proofs.«01_k».proof.Defs
public import proofs.«01_k».proof.Proof.Gen.MemKv.Frame
public import proofs.«01_k».proof.Proof.Gen.MemKvIdeal.Frame
public import proofs.«01_k».proof.Proof.Gen.MemKvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvIdeal.Block

open Cert.MemKvIdeal Cert.MemKvIdeal.Gen

variable (m : (ℓ : Loc nD τ sig) → Buf (Elt Ideal) ℓ)

/-- The reference's term: the memory's rows times the weight, flattened. -/
abbrev spec (x : FVec Ideal S4x256x4096 .f32) (w : FVec Ideal S1x4096x512 .f32) : FVec Ideal S1024x512 .f32 :=
  shapeCast _ (Host.dotGeneral Cert.MemKvRefIdeal.dot_S4x256x4096_S4096x512_S4x256x512_2_0_01_1_n_n none x
    (shapeCast _ w Cert.MemKvRefIdeal.Gen.shapeCasts_S1x4096x512_S4096x512)) Cert.MemKvRefIdeal.Gen.shapeCasts_S4x256x512_S1024x512

/-- Point `t` takes row block `t` and the whole weight. -/
theorem where_at : ∀ t : Fin cfg0.N, win0_0.index t = ![win0_3.index t 0, 0] ∧ win0_2.index t = ![0, 0]
    ∧ win0_3.index t 1 = 0 ∧ win0_3.index t 0 < 4 :=
  (by decide +kernel : ∀ t : Fin grid0.N, _)

theorem written (c : Dev nD) : (dats m 0 c).arrAt 3 (cfgs 0).N
    = spec (m ((c : Thread nD τ).loc main_arg0)) (m ((c : Thread nD τ).loc main_arg1)) := by
  refine (dats m 0 c).arrAt_eq_of_covers 3 _ (by decide +kernel) fun t _ y => ?_
  blk_simp
  rw [after0_3]; unfold Gen.outsAt0; frame_out
  pointwise [k0_pay1, k0_pay2, spec]
  blk_point [iblk, V, where_at t]

end Cert.MemKvIdeal.Block

namespace Cert.MemKvClaims

theorem algebraic : Cert.algebraic_MemKvIdeal_MemKvRefIdeal := by
  pair_intro
  · run_from Cert.MemKvIdeal.Gen.run_main m g
  · run_from Cert.MemKvRefIdeal.Value.run m' g'
    exact (Cert.MemKvIdeal.Block.written m c).symm

end Cert.MemKvClaims

end
-- ==== Proof.XqValue.lean ====
/-
  The query projection of the cross attention at the ideal instance: the body normalises a block of rows by their root
  mean square into scratch and multiplies it with the weight; the row blocks tile the array.
-/
module

public import proofs.«01_k».proof.Defs
public import proofs.«01_k».proof.Proof.Gen.Xq.Frame
public import proofs.«01_k».proof.Proof.Gen.XqIdeal.Frame
public import proofs.«01_k».proof.Proof.Gen.XqRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XqIdeal.Block

open Cert.XqIdeal Cert.XqIdeal.Gen

variable (m : (ℓ : Loc nD τ sig) → Buf (Elt Ideal) ℓ)

open Cert.XqRefIdeal.Gen in
/-- The reference's term: the rows of `x` over their root mean square, scaled by `g`, times the weight, flattened. -/
abbrev spec (x : FVec Ideal S4x2048x4096 .f32) (g : FVec Ideal S1x4096 .f32) (w : FVec Ideal S1x4096x512 .f32) : FVec Ideal S8192x512 .f32 :=
  shapeCast _ (Host.dotGeneral Cert.XqRefIdeal.dot_S4x2048x4096_S4096x512_S4x2048x512_2_0_01_1_n_n none (mulf (mulf x (broadcastInDim Cert.XqRefIdeal.S4x2048x4096 ![0, 1, 2] bcast_S4x2048x1_S4x2048x4096_0_1_2 (Host.rsqrt (addf (Host.divf (broadcastInDim Cert.XqRefIdeal.S4x2048x1 ![0, 1] bcast_S4x2048_S4x2048x1_0_1 (Host.reduceAdd (mulf x x) (constant Cert.XqRefIdeal.S_ .f32 0x00000000#32) reducesTo_S4x2048x4096_S4x2048_d2 Cert.XqRefIdeal.Gen.h_S_)) (broadcastInDim Cert.XqRefIdeal.S4x2048x1 ![] bcast_S_S4x2048x1 (constant Cert.XqRefIdeal.S_ .f32 0x45800000#32))) (broadcastInDim Cert.XqRefIdeal.S4x2048x1 ![] bcast_S_S4x2048x1 (constant Cert.XqRefIdeal.S_ .f32 0x358637BD#32)))))) (broadcastInDim Cert.XqRefIdeal.S4x2048x4096 ![0, 1, 2] bcast_S1x1x4096_S4x2048x4096_0_1_2 (broadcastInDim Cert.XqRefIdeal.S1x1x4096 ![2] bcast_S4096_S1x1x4096_2 (shapeCast _ g Cert.XqRefIdeal.Gen.shapeCasts_S1x4096_S4096)))) (shapeCast _ w Cert.XqRefIdeal.Gen.shapeCasts_S1x4096x512_S4096x512)) Cert.XqRefIdeal.Gen.shapeCasts_S4x2048x512_S8192x512

/-- Point `t` takes row block `t`, the whole scale and the whole weight. -/
theorem where_at : ∀ t : Fin cfg0.N, win0_0.index t = ![win0_3.index t 0, 0] ∧ win0_1.index t = ![0, 0] ∧ win0_2.index t = ![0, 0]
    ∧ win0_3.index t 1 = 0 ∧ win0_3.index t 0 < 16 :=
  (by decide +kernel : ∀ t : Fin grid0.N, _)

set_option maxHeartbeats 2000000 in
theorem written (c : Dev nD) : (dats m 0 c).arrAt 3 (cfgs 0).N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold Gen.outsAt0; frame_out
  pointwise [k0_pay1, k0_pay2, spec]
  blk_point [iblk, V, where_at t]

end Cert.XqIdeal.Block

namespace Cert.XqClaims

theorem algebraic : Cert.algebraic_XqIdeal_XqRefIdeal := by
  pair_intro
  · run_from Cert.XqIdeal.Gen.run_main m g
  · run_from Cert.XqRefIdeal.Value.run m' g'
    exact (Cert.XqIdeal.Block.written m c).symm

end Cert.XqClaims

end
-- ==== Proof.CrossValue.lean ====
/- The cross attention with its output projection: what the kernel writes, and that it is the reference's. -/
module

public import proofs.«01_k».proof.Defs
public import proofs.«01_k».proof.Proof.Gen.Cross.Frame
public import proofs.«01_k».proof.Proof.Gen.CrossIdeal.Frame
public import proofs.«01_k».proof.Proof.Gen.CrossRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CrossRefIdeal.Spec

open Cert.CrossRefIdeal Cert.CrossRefIdeal.Gen

/-- The scaled scores of the queries against the memory's keys. -/
def logits (q : FVec Ideal S4x2048x4x128 .f32) (k : FVec Ideal S4x256x4x128 .f32) : FVec Ideal S4x4x2048x256 .f32 :=
  mulf (Host.dotGeneral dot_S4x2048x4x128_S4x256x4x128_S4x4x2048x256_3_3_1_1_02_02 none q k) (broadcastInDim S4x4x2048x256 ![] bcast_S_S4x4x2048x256 (constant S_ .f32 0x3DB504F3#32))
/-- Each query's largest score. -/
def largest (l : FVec Ideal S4x4x2048x256 .f32) : FVec Ideal S4x4x2048 .f32 :=
  Host.reduce FloatOps.maximumf l (constant S_ .f32 0xFF800000#32) reducesTo_S4x4x2048x256_S4x4x2048_d3 h_S_
/-- The same, bounded below. -/
def top (l : FVec Ideal S4x4x2048x256 .f32) : FVec Ideal S4x4x2048 .f32 :=
  maximumf (broadcastInDim S4x4x2048 ![] bcast_S_S4x4x2048 (constant S_ .f32 0xFF800000#32)) (largest l)
/-- The exponentials of the scores less the largest. -/
def expd (l : FVec Ideal S4x4x2048x256 .f32) : FVec Ideal S4x4x2048x256 .f32 :=
  Host.exp (subf l (broadcastInDim S4x4x2048x256 ![0, 1, 2, 3] bcast_S4x4x2048x1_S4x4x2048x256_0_1_2_3 (broadcastInDim S4x4x2048x1 ![0, 1, 2] bcast_S4x4x2048_S4x4x2048x1_0_1_2 (top l))))
/-- The weights. -/
def probs (l : FVec Ideal S4x4x2048x256 .f32) : FVec Ideal S4x4x2048x256 .f32 :=
  Host.divf (expd l) (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd (expd l) (constant S_ .f32 0x00000000#32) reducesTo_S4x4x2048x256_S4x4x2048_d3 h_S_)))
/-- The weighted values. -/
def att (p : FVec Ideal S4x4x2048x256 .f32) (v : FVec Ideal S4x256x4x128 .f32) : FVec Ideal S4x4x128x2048 .f32 :=
  Host.dotGeneral dot_S4x256x4x128_S4x4x2048x256_S4x4x128x2048_1_3_3_2_02_01 none v p
/-- The stream with the projected attention added. -/
def crossed (q : FVec Ideal S4x2048x4x128 .f32) (k v : FVec Ideal S4x256x4x128 .f32) (r : FVec Ideal S4x2048x4096 .f32) (w : FVec Ideal S1x512x4096 .f32) : FVec Ideal S4x2048x4096 .f32 :=
  addf r (Host.dotGeneral dot_S4x2048x512_S512x4096_S4x2048x4096_2_0_01_1_n_n none (shapeCast _ (transpose S4x2048x4x128 [0, 3, 1, 2] (att (probs (logits q k)) v) transposes_S4x4x128x2048_S4x2048x4x128_0_3_1_2) shapeCasts_S4x2048x4x128_S4x2048x512) (shapeCast _ w shapeCasts_S1x512x4096_S512x4096))

/-- One scaled score. -/
def score (q : FVec Ideal S4x2048x4x128 .f32) (k : FVec Ideal S4x256x4x128 .f32) (b : Fin 4) (t : Fin 2048) (h : Fin 4) (j : Fin 256) : EReal :=
  (∑ e : Fin 128, q (ix4 b t h e) * k (ix4 b j h e)) * Ideal.ofBits FTy.f32 1035273459#32

theorem logits_at (q : FVec Ideal S4x2048x4x128 .f32) (k : FVec Ideal S4x256x4x128 .f32) (b : Fin 4) (h : Fin 4) (t : Fin 2048) (j : Fin 256) :
    @Eq EReal (logits q k (ix4 b h t j)) (score q k b t h j) := by
  pointwise [logits, score]
/-- The largest of a row of scores, folded from the least value. -/
abbrev peak (f : Fin 256 → EReal) : EReal := Finset.univ.fold max (Ideal.ofBits FTy.f32 4286578688#32) f

theorem le_peak (z : EReal) (f : Fin 256 → EReal) : max z (Finset.univ.fold max z f) = Finset.univ.fold max z f :=
  max_eq_right ((Finset.le_fold_max _).2 (Or.inl le_rfl))

theorem largest_at (l : FVec Ideal S4x4x2048x256 .f32) (b : Fin 4) (h : Fin 4) (t : Fin 2048) :
    @Eq EReal (largest l (ix3 b h t)) (peak fun x => l (ix4 b h t x)) := by
  pointwise [largest]
theorem top_at (l : FVec Ideal S4x4x2048x256 .f32) (b : Fin 4) (h : Fin 4) (t : Fin 2048) :
    @Eq EReal (top l (ix3 b h t)) (peak fun x => l (ix4 b h t x)) := by
  unfold top
  refine (Idealize.ShloMosaic.ValueIdx.maximumf_apply _ _ _).trans ?_
  have hb : (broadcastInDim S4x4x2048 ![] bcast_S_S4x4x2048 (constant S_ .f32 0xFF800000#32) : FVec Ideal S4x4x2048 .f32) (ix3 b h t) = Ideal.ofBits FTy.f32 4286578688#32 := by
    pointwise []
  rw [hb, largest_at]
  exact le_peak _ _

/-- A row of scores' weighting of values. -/
def blend (s : Fin 256 → EReal) (v : Fin 256 → EReal) : EReal :=
  ∑ j, Ideal.div (Ideal.exp (s j - peak s)) (∑ i, Ideal.exp (s i - peak s)) * v j

theorem att_at (q : FVec Ideal S4x2048x4x128 .f32) (k v : FVec Ideal S4x256x4x128 .f32) (b : Fin 4) (h : Fin 4) (t : Fin 2048) (d : Fin 128) :
    @Eq EReal (att (probs (logits q k)) v (ix4 b h d t)) (blend (fun j => score q k b t h j) fun j => v (ix4 b j h d)) := by
  have e : ∀ l : FVec Ideal S4x4x2048x256 .f32, @Eq EReal (att (probs l) v (ix4 b h d t))
      (∑ x : Fin 256, v (ix4 b x h d) * Ideal.div (Ideal.exp (l (ix4 b h t x) - top l (ix3 b h t))) (∑ x : Fin 256, Ideal.exp (l (ix4 b h t x) - top l (ix3 b h t)))) := fun l => by
    pointwise [att, probs, expd]
  rw [e, top_at]
  simp only [logits_at]
  exact Finset.sum_congr rfl fun j _ => mul_comm (G := EReal) _ _

theorem crossed_at (q : FVec Ideal S4x2048x4x128 .f32) (k v : FVec Ideal S4x256x4x128 .f32) (r : FVec Ideal S4x2048x4096 .f32) (w : FVec Ideal S1x512x4096 .f32)
    (b : Fin 4) (t : Fin 2048) (n : Fin 4096) :
    @Eq EReal (crossed q k v r w (ix3 b t n)) (r (ix3 b t n) + ∑ c : Fin 512, att (probs (logits q k)) v (ix4 b ⟨c.val / 128, by omega⟩ ⟨c.val % 128, by omega⟩ t) * w (ix3 0 c n)) := by
  pointwise [crossed]

end Cert.CrossRefIdeal.Spec

namespace Cert.CrossIdeal.Streamed

open Cert.CrossIdeal Cert.CrossIdeal.Gen

def headK (v9 v10 v24 : FVec Ideal S256x128 .bf16) : FVec Ideal S256x128 .f32 :=
  have cst : FVec Ideal S256x256 .f32 := constant S256x256 .f32 0x00000000#32
  have v11 : FVec Ideal S256x256 .f32 := matmul dot_S256x128_S256x128_S256x256_1_1_0_0_n_n none v9 v10 cst
  have cst_8 : Ideal .f32 := Scalar.ofBits .f32 0x3DB504F3#32
  have v12 : FVec Ideal S256x256 .f32 := broadcast S256x256 cst_8
  have v13 : FVec Ideal S256x256 .f32 := mulf v11 v12
  have v14 : FVec Ideal S256 .f32 := multiReduction .maximumf [1] S256 v13 0xFF800000#32 reduces_S256x256_S256 (.inl rfl) rfl
  have v15 : FVec Ideal S256x1 .f32 := shapeCast S256x1 v14 shapeCasts_S256_S256x1
  have v16 : FVec Ideal S256x256 .f32 := broadcastTo S256x256 v15 broadcasts_S256x1_S256x256
  have v17 : FVec Ideal S256x256 .f32 := subf v13 v16
  have v18 : FVec Ideal S256x256 .f32 := exp v17
  have v19 : FVec Ideal S256 .f32 := multiReduction .add [1] S256 v18 0x00000000#32 reduces_S256x256_S256 (.inl rfl) rfl
  have v20 : FVec Ideal S256x1 .f32 := shapeCast S256x1 v19 shapeCasts_S256_S256x1
  have v21 : FVec Ideal S256x256 .f32 := broadcastTo S256x256 v20 broadcasts_S256x1_S256x256
  have v22 : FVec Ideal S256x256 .f32 := divf v18 v21
  have v23 : FVec Ideal S256x256 .bf16 := truncf .bf16 v22 bitsLt_bf16_f32
  have cst_11 : FVec Ideal S256x128 .f32 := constant S256x128 .f32 0x00000000#32
  matmul dot_S256x256_S256x128_S256x128_1_0_0_1_n_n none v23 v24 cst_11

open Cert.CrossRefIdeal.Spec (score blend peak crossed logits probs att)

theorem headK_at (Q K V : FVec Ideal S256x128 .bf16) (a : Fin 256) (d : Fin 128) :
    @Eq EReal (headK Q K V (ix2 a d)) (blend (fun j => (∑ e : Fin 128, Q (ix2 a e) * K (ix2 j e)) * Ideal.ofBits FTy.f32 1035273459#32) fun j => V (ix2 j d)) := by
  pointwise [headK, blend]

/-- The body's heads side by side, from the rounded blocks. -/
def headsK (Q K V : FVec Ideal S256x512 .bf16) : FVec Ideal S256x512 .f32 :=
  concatenate S256x512 1 [⟨S256x128, headK (extractStridedSlice S256x128 ![0, 0] Q slices_S256x512_o0_0_S256x128) (extractStridedSlice S256x128 ![0, 0] K slices_S256x512_o0_0_S256x128) (extractStridedSlice S256x128 ![0, 0] V slices_S256x512_o0_0_S256x128)⟩,
    ⟨S256x128, headK (extractStridedSlice S256x128 ![0, 128] Q slices_S256x512_o0_128_S256x128) (extractStridedSlice S256x128 ![0, 128] K slices_S256x512_o0_128_S256x128) (extractStridedSlice S256x128 ![0, 128] V slices_S256x512_o0_128_S256x128)⟩,
    ⟨S256x128, headK (extractStridedSlice S256x128 ![0, 256] Q slices_S256x512_o0_256_S256x128) (extractStridedSlice S256x128 ![0, 256] K slices_S256x512_o0_256_S256x128) (extractStridedSlice S256x128 ![0, 256] V slices_S256x512_o0_256_S256x128)⟩,
    ⟨S256x128, headK (extractStridedSlice S256x128 ![0, 384] Q slices_S256x512_o0_384_S256x128) (extractStridedSlice S256x128 ![0, 384] K slices_S256x512_o0_384_S256x128) (extractStridedSlice S256x128 ![0, 384] V slices_S256x512_o0_384_S256x128)⟩]
    concatenates_S256x128_S256x128_S256x128_S256x128_S256x512_d1

theorem pay7_eq (X0 X1 X2 : FVec Ideal S1x256x512 .f32) (W : FVec Ideal S512x4096 .bf16) :
    k0_pay7 (k0_pay2 X0) (k0_pay3 X1) (k0_pay4 X2) (k0_pay5 X0 X1 X2) (k0_pay6 X0 X1) W
      = matmul dot_S256x512_S512x4096_S256x4096_1_0_0_1_n_n none (truncf .bf16 (headsK (k0_pay2 X0) (k0_pay3 X1) (k0_pay4 X2)) bitsLt_bf16_f32)
          (shapeCast S512x4096 W shapeCasts_S512x4096_S512x4096) (constant S256x4096 .f32 0x00000000#32) := rfl

theorem heads_at (Q K V : FVec Ideal S256x512 .bf16) (a : Fin 256) (c : Fin 512) :
    @Eq EReal (headsK Q K V (ix2 a c))
      (blend (fun j => (∑ e : Fin 128, Q (ix2 a ⟨c.val / 128 * 128 + e.val, by omega⟩) * K (ix2 j ⟨c.val / 128 * 128 + e.val, by omega⟩)) * Ideal.ofBits FTy.f32 1035273459#32)
        fun j => V (ix2 j c)) := by
  pointwise [headsK, headK_at]
  split_ifs
  all_goals
    exact congrArg₂ blend (funext fun j => congrArg (fun z : EReal => z * Ideal.ofBits FTy.f32 1035273459#32)
      (Finset.sum_congr rfl fun e _ => Ideal.mul_congr (congrArg Q ((ix2_inj ..).2 ⟨rfl, Fin.ext (by first | omega | (dsimp only; omega))⟩)) (congrArg K ((ix2_inj ..).2 ⟨rfl, Fin.ext (by first | omega | (dsimp only; omega))⟩))))
      (funext fun j => congrArg V ((ix2_inj ..).2 ⟨rfl, Fin.ext (by first | omega | (dsimp only; omega))⟩))

theorem q_at (X : FVec Ideal S1x256x512 .f32) (a : Fin 256) (k : Fin 512) : @Eq EReal (k0_pay2 (F := Ideal) X (ix2 a k)) (X (ix3 0 a k)) := by
  pointwise [k0_pay2]
theorem k_at (X : FVec Ideal S1x256x512 .f32) (a : Fin 256) (k : Fin 512) : @Eq EReal (k0_pay3 (F := Ideal) X (ix2 a k)) (X (ix3 0 a k)) := by
  pointwise [k0_pay3]
theorem v_at (X : FVec Ideal S1x256x512 .f32) (a : Fin 256) (k : Fin 512) : @Eq EReal (k0_pay4 (F := Ideal) X (ix2 a k)) (X (ix3 0 a k)) := by
  pointwise [k0_pay4]

theorem sum_at (H : FVec Ideal S256x512 .f32) (W : FVec Ideal S512x4096 .bf16) (X : FVec Ideal S1x256x4096 .f32) (a : Fin 256) (n : Fin 4096) :
    @Eq EReal (k0_pay1 (F := Ideal) (matmul dot_S256x512_S512x4096_S256x4096_1_0_0_1_n_n none (truncf .bf16 H bitsLt_bf16_f32)
        (shapeCast S512x4096 W shapeCasts_S512x4096_S512x4096) (constant S256x4096 .f32 0x00000000#32)) X (ix3 0 a n))
      (X (ix3 0 a n) + ∑ c : Fin 512, H (ix2 a c) * W (ix2 c n)) := by
  pointwise [k0_pay1]

/-- The body's value at an index, from what its blocks hold. -/
theorem body_at (X0 X1 X2 : FVec Ideal S1x256x512 .f32) (W : FVec Ideal S512x4096 .bf16) (X3 : FVec Ideal S1x256x4096 .f32)
    (q : FVec Ideal S4x2048x4x128 .f32) (k v : FVec Ideal S4x256x4x128 .f32) (r : FVec Ideal S4x2048x4096 .f32) (w : FVec Ideal S1x512x4096 .f32)
    (b : Fin 4) (t : Fin 2048) (a : Fin 256) (n : Fin 4096)
    (h0 : ∀ x : Fin 512, X0 (ix3 0 a x) = q (ix4 b t ⟨x.val / 128, by omega⟩ ⟨x.val % 128, by omega⟩))
    (h1 : ∀ (j : Fin 256) (x : Fin 512), X1 (ix3 0 j x) = k (ix4 b j ⟨x.val / 128, by omega⟩ ⟨x.val % 128, by omega⟩))
    (h2 : ∀ (j : Fin 256) (x : Fin 512), X2 (ix3 0 j x) = v (ix4 b j ⟨x.val / 128, by omega⟩ ⟨x.val % 128, by omega⟩))
    (h3 : X3 (ix3 0 a n) = r (ix3 b t n)) (h4 : ∀ x : Fin 512, W (ix2 x n) = w (ix3 0 x n)) :
    @Eq EReal (k0_pay1 (F := Ideal) (k0_pay7 (k0_pay2 X0) (k0_pay3 X1) (k0_pay4 X2) (k0_pay5 X0 X1 X2) (k0_pay6 X0 X1) W) X3 (ix3 0 a n)) (crossed q k v r w (ix3 b t n)) := by
  rw [pay7_eq]
  refine (sum_at _ W X3 a n).trans (Eq.trans ?_ (Cert.CrossRefIdeal.Spec.crossed_at q k v r w b t n).symm)
  refine congrArg₂ (· + · : EReal → EReal → EReal) h3 (Finset.sum_congr rfl fun c _ => Ideal.mul_congr ?_ (h4 c))
  refine (heads_at _ _ _ a c).trans (Eq.trans ?_ (Cert.CrossRefIdeal.Spec.att_at q k v b ⟨c.val / 128, by omega⟩ t ⟨c.val % 128, by omega⟩).symm)
  refine congrArg₂ blend (funext fun j => congrArg (fun z : EReal => z * Ideal.ofBits FTy.f32 1035273459#32)
    (Finset.sum_congr rfl fun e _ => Ideal.mul_congr ?_ ?_)) (funext fun j => ?_)
  · exact (q_at X0 a _).trans ((h0 _).trans (congrArg q ((ix4_inj ..).2 ⟨rfl, rfl, Fin.ext (by dsimp only; omega), Fin.ext (by dsimp only; omega)⟩)))
  · exact (k_at X1 j _).trans ((h1 j _).trans (congrArg k ((ix4_inj ..).2 ⟨rfl, rfl, Fin.ext (by dsimp only; omega), Fin.ext (by dsimp only; omega)⟩)))
  · exact (v_at X2 j c).trans (h2 j c)

variable (m : (ℓ : Loc nD τ sig) → Buf (Elt Ideal) ℓ) (c : Dev nD)

/-- The five arguments. -/
abbrev argQ : FVec Ideal S4x2048x4x128 .f32 := m ((c : Thread nD τ).loc main_arg0)
abbrev argK : FVec Ideal S4x256x4x128 .f32 := m ((c : Thread nD τ).loc main_arg1)
abbrev argV : FVec Ideal S4x256x4x128 .f32 := m ((c : Thread nD τ).loc main_arg2)
abbrev argR : FVec Ideal S4x2048x4096 .f32 := m ((c : Thread nD τ).loc main_arg3)
abbrev argW : FVec Ideal S1x512x4096 .f32 := m ((c : Thread nD τ).loc main_arg4)

theorem queries_at (b : Fin 4) (t : Fin 2048) (x : Fin 512) : (V m c main_v0 : FVec Ideal S4x2048x512 .f32) (ix3 b t x) = argQ m c (ix4 b t ⟨x.val / 128, by omega⟩ ⟨x.val % 128, by omega⟩) := by
  unfold V
  after_results
  pointwise []
theorem keys_at (b : Fin 4) (j : Fin 256) (x : Fin 512) : (V m c main_v1 : FVec Ideal S4x256x512 .f32) (ix3 b j x) = argK m c (ix4 b j ⟨x.val / 128, by omega⟩ ⟨x.val % 128, by omega⟩) := by
  unfold V
  after_results
  pointwise []
theorem values_at (b : Fin 4) (j : Fin 256) (x : Fin 512) : (V m c main_v2 : FVec Ideal S4x256x512 .f32) (ix3 b j x) = argV m c (ix4 b j ⟨x.val / 128, by omega⟩ ⟨x.val % 128, by omega⟩) := by
  unfold V
  after_results
  pointwise []
theorem weight_at (x : Fin 512) (n : Fin 4096) : (V m c main_v4 : FVec Ideal S512x4096 .bf16) (ix2 x n) = argW m c (ix3 0 x n) := by
  unfold V
  after_results
  pointwise []

theorem where_at : ∀ t : Fin cfg0.N, win0_0.index t = ![t.val / 8, t.val % 8, 0] ∧ win0_1.index t = ![t.val / 8, 0, 0] ∧ win0_2.index t = ![t.val / 8, 0, 0]
    ∧ win0_3.index t = ![t.val / 8, t.val % 8, 0] ∧ win0_4.index t = ![0, 0] ∧ win0_5.index t = ![t.val / 8, t.val % 8, 0] :=
  (by decide +kernel : ∀ t : Fin grid0.N, _)

theorem t_lt (t : Fin cfg0.N) : t.val < 32 := lt_of_lt_of_eq t.isLt N_0

theorem written : (dats m 0 c).arrAt 5 (cfgs 0).N = crossed (argQ m c) (argK m c) (argV m c) (argR m c) (argW m c) := by
  refine (dats m 0 c).arrAt_eq_of_covers 5 _ (by decide +kernel) fun t _ y => ?_
  have ht := t_lt t
  blk_simp
  rw [after0_5]
  frame_out
  idx_vars y
  obtain rfl : y0 = 0 := Subsingleton.elim _ _
  refine (body_at _ _ _ _ _ (argQ m c) (argK m c) (argV m c) (argR m c) (argW m c) ⟨t.val / 8, by omega⟩ ⟨t.val % 8 * 256 + y1.val, by omega⟩ y1 y2
    (fun x => ?_) (fun j x => ?_) (fun j x => ?_) ?_ (fun x => ?_)).trans ?_
  · refine Eq.trans ?_ (queries_at m c ⟨t.val / 8, by omega⟩ ⟨t.val % 8 * 256 + y1.val, by omega⟩ x)
    blk_ext [iblk, where_at t]
  · refine Eq.trans ?_ (keys_at m c ⟨t.val / 8, by omega⟩ j x)
    blk_ext [iblk, where_at t]
  · refine Eq.trans ?_ (values_at m c ⟨t.val / 8, by omega⟩ j x)
    blk_ext [iblk, where_at t]
  · blk_ext [iblk, V, where_at t]
  · refine Eq.trans ?_ (weight_at m c x y2)
    blk_ext [iblk, where_at t]
  · blk_ext [where_at t]

end Cert.CrossIdeal.Streamed

namespace Cert.CrossClaims

theorem algebraic : Cert.algebraic_CrossIdeal_CrossRefIdeal := by
  pair_intro
  · run_from Cert.CrossIdeal.Gen.run_main m g
  · run_from Cert.CrossRefIdeal.Value.run m' g'
    obtain ⟨e0, e1, e2, e3, e4⟩ := hagree c
    refine Eq.trans ?_ (Cert.CrossIdeal.Streamed.written m c).symm
    show Cert.CrossRefIdeal.Spec.crossed _ _ _ _ _ = _
    rfl

end Cert.CrossClaims
-- ==== Proof.GateSValue.lean ====
/- The gates and the spatial gating of the sample's rows: what the kernel writes, and that it is the reference's. -/
module

public import proofs.«01_k».proof.Defs
public import proofs.«01_k».proof.Proof.Gen.GateS.Frame
public import proofs.«01_k».proof.Proof.Gen.GateSIdeal.Frame
public import proofs.«01_k».proof.Proof.Gen.GateSRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateSRefIdeal.Spec

open Cert.GateSRefIdeal Cert.GateSRefIdeal.Gen

/-- The four column ranges of the projection's gate part. -/
def part0 (z : FVec Ideal S32x12288 .f32) : FVec Ideal S32x2048 .f32 :=
  extractStridedSlice S32x2048 ![0, 0] (extractStridedSlice S32x8192 ![0, 4096] z slices_S32x12288_S32x8192_0_4096) slices_S32x8192_S32x2048_0_0
def part2048 (z : FVec Ideal S32x12288 .f32) : FVec Ideal S32x2048 .f32 :=
  extractStridedSlice S32x2048 ![0, 2048] (extractStridedSlice S32x8192 ![0, 4096] z slices_S32x12288_S32x8192_0_4096) slices_S32x8192_S32x2048_0_2048
def part4096 (z : FVec Ideal S32x12288 .f32) : FVec Ideal S32x2048 .f32 :=
  extractStridedSlice S32x2048 ![0, 4096] (extractStridedSlice S32x8192 ![0, 4096] z slices_S32x12288_S32x8192_0_4096) slices_S32x8192_S32x2048_0_4096
def part6144 (z : FVec Ideal S32x12288 .f32) : FVec Ideal S32x2048 .f32 :=
  extractStridedSlice S32x2048 ![0, 6144] (extractStridedSlice S32x8192 ![0, 4096] z slices_S32x12288_S32x8192_0_4096) slices_S32x8192_S32x2048_0_6144
/-- The activation, in the reference's grouping. -/
def gel (v : FVec Ideal S32x2048 .f32) : FVec Ideal S32x2048 .f32 :=
  mulf v (mulf (broadcastInDim S32x2048 ![] bcast_S_S32x2048 (constant S_ .f32 0x3F000000#32)) (addf (broadcastInDim S32x2048 ![] bcast_S_S32x2048 (constant S_ .f32 0x3F800000#32)) (Host.tanh (mulf (broadcastInDim S32x2048 ![] bcast_S_S32x2048 (constant S_ .f32 0x3F4C422A#32)) (addf v (mulf (broadcastInDim S32x2048 ![] bcast_S_S32x2048 (constant S_ .f32 0x3D372713#32)) (mulf (mulf v v) v)))))))
/-- The activated second range over its root mean square, scaled. -/
def normed (z : FVec Ideal S32x12288 .f32) (g : FVec Ideal S1x2048 .f32) : FVec Ideal S32x2048 .f32 :=
  mulf (mulf (gel (part2048 z)) (broadcastInDim S32x2048 ![0, 1] bcast_S32x1_S32x2048_0_1 (Host.rsqrt (addf (Host.divf (broadcastInDim S32x1 ![0] bcast_S32_S32x1_0 (Host.reduceAdd (mulf (gel (part2048 z)) (gel (part2048 z))) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 (shapeCast _ g shapeCasts_S1x2048_S2048)))
/-- The first row of the causal mix of the rows padded to a chunk, with its bias. -/
def mixed (n : FVec Ideal S32x2048 .f32) (w : FVec Ideal S1x16x128x128 .f32) (b : FVec Ideal S1x16x128 .f32) : FVec Ideal S32x2048 .f32 :=
  shapeCast _ (extractStridedSlice S32x1x2048 ![0, 0, 0] (shapeCast _ (addf (transpose S32x1x128x16x128 [1, 2, 4, 0, 3] (Host.dotGeneral dot_S32x1x128x16x128_S16x128x128_S16x32x1x128x128_2_2_014_1_3_0 none (shapeCast _ (pad S32x128x2048 ![0, 0, 0] ![0, 127, 0] ![0, 0, 0] (broadcastInDim S32x1x2048 ![0, 2] bcast_S32x2048_S32x1x2048_0_2 n) (sitofp .f32 (constantI S_ 32 0#32)) pads_S32x1x2048_S32x128x2048_000_01270_000 h_S_) shapeCasts_S32x128x2048_S32x1x128x16x128) (select (broadcastInDim S16x128x128 ![1, 2] bcast_S128x128_S16x128x128_1_2 (cmpi .sge (addi (iotaInDim S128x128 32 0) (broadcastInDim S128x128 ![] bcast_S_S128x128 (constantI S_ 32 0#32))) (iotaInDim S128x128 32 1))) (shapeCast _ w shapeCasts_S1x16x128x128_S16x128x128) (broadcastInDim S16x128x128 ![] bcast_S_S16x128x128 (constant S_ .f32 0x00000000#32)))) transposes_S16x32x1x128x128_S32x1x128x16x128_1_2_4_0_3) (broadcastInDim S32x1x128x16x128 ![0, 1, 2, 3, 4] bcast_S1x1x128x16x1_S32x1x128x16x128_0_1_2_3_4 (broadcastInDim S1x1x128x16x1 ![2, 3, 4] bcast_S128x16x1_S1x1x128x16x1_2_3_4 (broadcastInDim S128x16x1 ![0, 1] bcast_S128x16_S128x16x1_0_1 (transpose S128x16 [1, 0] (shapeCast _ b shapeCasts_S1x16x128_S16x128) transposes_S16x128_S128x16_1_0))))) shapeCasts_S32x1x128x16x128_S32x128x2048) slices_S32x128x2048_S32x1x2048_0_0_0) shapeCasts_S32x1x2048_S32x2048
/-- The two gated halves side by side. -/
def gated (att : FVec Ideal S32x2048 .f32) (z : FVec Ideal S32x12288 .f32) (g : FVec Ideal S1x2048 .f32) (w : FVec Ideal S1x16x128x128 .f32) (b : FVec Ideal S1x16x128 .f32) : FVec Ideal S32x4096 .bf16 :=
  truncf .bf16 (concatenate S32x4096 1 [⟨S32x2048, (mulf (Host.divf (broadcastInDim S32x2048 ![] bcast_S_S32x2048 (constant S_ .f32 0x3F800000#32)) (addf (broadcastInDim S32x2048 ![] bcast_S_S32x2048 (constant S_ .f32 0x3F800000#32)) (Host.exp (Host.negf (part4096 z))))) att)⟩, ⟨S32x2048, (mulf (Host.divf (broadcastInDim S32x2048 ![] bcast_S_S32x2048 (constant S_ .f32 0x3F800000#32)) (addf (broadcastInDim S32x2048 ![] bcast_S_S32x2048 (constant S_ .f32 0x3F800000#32)) (Host.exp (Host.negf (part6144 z))))) (mulf (gel (part0 z)) (mixed (normed z g) w b)))⟩] concatenates_S32x2048_S32x2048_S32x4096_d1) bitsLt_bf16_f32

theorem cube (x : EReal) : x * (x * x) = x * x * x := (mul_assoc x x x).symm

theorem mixed_at (n : FVec Ideal S32x2048 .f32) (w : FVec Ideal S1x16x128x128 .f32) (b : FVec Ideal S1x16x128 .f32) (r : Fin 32) (k : Fin 2048) :
    @Eq EReal (mixed n w b (ix2 r k)) (n (ix2 r k) * w (ix4 0 ⟨k.val / 128, by omega⟩ 0 0) + b (ix3 0 ⟨k.val / 128, by omega⟩ 0)) := by
  pointwise [mixed]
  have z0 : (FloatOps.sitofp FTy.f32 0#32 : Ideal .f32) = (0 : EReal) := by
    show (((0#32 : BitVec 32).toInt : ℝ) : EReal) = 0
    simp
  refine congrArg (· + (b (ix3 0 ⟨k.val / 128, by omega⟩ 0) : EReal)) ?_
  refine Eq.trans (congrArg₂ (· + · : EReal → EReal → EReal) (x' := n (ix2 r k) * w (ix4 0 ⟨k.val / 128, by omega⟩ 0 0)) (y' := 0) ?_ ?_) (add_zero (M := EReal) _)
  · refine (Fin.sum_univ_one (M := EReal) _).trans (if_pos rfl)
  · refine Finset.sum_eq_zero fun x _ => ?_
    refine Eq.trans (congrArg (fun v : EReal => Scalar.select _ v 0) (Ideal.mul_congr z0 rfl |>.trans (zero_mul (M₀ := EReal) _))) ?_
    unfold Scalar.select
    exact ite_self _

end Cert.GateSRefIdeal.Spec

namespace Cert.GateSIdeal.Streamed

open Cert.GateSIdeal Cert.GateSIdeal.Gen
open Cert.GateSRefIdeal.Spec (part0 part2048 part4096 part6144 gel normed mixed gated)

theorem normed_at (X : FVec Ideal S32x2048 .f32) (G : FVec Ideal S1x2048 .f32) (z : FVec Ideal S32x12288 .f32) (g : FVec Ideal S1x2048 .f32)
    (r : Fin 32) (hX : ∀ e : Fin 2048, X (ix2 r e) = z (ix2 r ⟨4096 + (2048 + e.val), by omega⟩)) (hG : ∀ e : Fin 2048, G (ix2 0 e) = g (ix2 0 e)) (k : Fin 2048) :
    @Eq EReal (k0_pay2 (F := Ideal) X G (ix2 r k)) (normed z g (ix2 r k)) := by
  pointwise [k0_pay2, normed, gel, part2048, hX, hG]
  simp only [Cert.GateSRefIdeal.Spec.cube]

theorem left_at (X A : FVec Ideal S32x2048 .f32) (z : FVec Ideal S32x12288 .f32) (g : FVec Ideal S1x2048 .f32) (att : FVec Ideal S32x2048 .f32) (w : FVec Ideal S1x16x128x128 .f32) (b : FVec Ideal S1x16x128 .f32)
    (r : Fin 32) (hX : ∀ e : Fin 2048, X (ix2 r e) = z (ix2 r ⟨4096 + (4096 + e.val), by omega⟩)) (hA : ∀ e : Fin 2048, A (ix2 r e) = att (ix2 r e)) (k : Fin 2048) :
    @Eq EReal (k0_pay3 (F := Ideal) X A (ix2 r k)) (gated att z g w b (ix2 r ⟨k.val, by omega⟩)) := by
  pointwise [k0_pay3, gated, gel, part4096, hX, hA]
  rfl

theorem right_at (n U : FVec Ideal S32x2048 .f32) (W B : FVec Ideal S1x2048 .f32) (X : FVec Ideal S32x2048 .f32) (z : FVec Ideal S32x12288 .f32) (g : FVec Ideal S1x2048 .f32) (att : FVec Ideal S32x2048 .f32) (w : FVec Ideal S1x16x128x128 .f32) (b : FVec Ideal S1x16x128 .f32)
    (r : Fin 32) (k : Fin 2048) (hn : @Eq EReal (n (ix2 r k)) (normed z g (ix2 r k))) (hU : ∀ e : Fin 2048, U (ix2 r e) = z (ix2 r ⟨4096 + e.val, by omega⟩)) (hX : ∀ e : Fin 2048, X (ix2 r e) = z (ix2 r ⟨4096 + (6144 + e.val), by omega⟩))
    (hW : ∀ e : Fin 2048, W (ix2 0 e) = w (ix4 0 ⟨e.val / 128, by omega⟩ 0 0)) (hB : ∀ e : Fin 2048, B (ix2 0 e) = b (ix3 0 ⟨e.val / 128, by omega⟩ 0)) :
    @Eq EReal (k0_pay1 (F := Ideal) n U W B X (ix2 r k)) (gated att z g w b (ix2 r ⟨2048 + k.val, by omega⟩)) := by
  pointwise [k0_pay1, gated, gel, part0, part6144, hU, hX, hW, hB]
  simp only [Cert.GateSRefIdeal.Spec.cube]
  refine Ideal.mul_congr rfl (Ideal.mul_congr rfl ?_)
  refine Eq.trans ?_ (Cert.GateSRefIdeal.Spec.mixed_at _ w b r k).symm
  rw [hn]

variable (m : (ℓ : Loc nD τ sig) → Buf (Elt Ideal) ℓ) (c : Dev nD)

/-- The five arguments. -/
abbrev argA : FVec Ideal S32x2048 .f32 := m ((c : Thread nD τ).loc main_arg0)
abbrev argZ : FVec Ideal S32x12288 .f32 := m ((c : Thread nD τ).loc main_arg1)
abbrev argG : FVec Ideal S1x2048 .f32 := m ((c : Thread nD τ).loc main_arg2)
abbrev argW : FVec Ideal S1x16x128x128 .f32 := m ((c : Thread nD τ).loc main_arg3)
abbrev argB : FVec Ideal S1x16x128 .f32 := m ((c : Thread nD τ).loc main_arg4)

theorem scale_at (e : Fin 2048) : (V m c main_v13 : FVec Ideal S1x2048 .f32) (ix2 0 e) = argG m c (ix2 0 e) := by
  unfold V
  after_results
  pointwise []

theorem first_weight_at (e : Fin 2048) : (V m c main_v6 : FVec Ideal S1x2048 .f32) (ix2 0 e) = argW m c (ix4 0 ⟨e.val / 128, by omega⟩ 0 0) := by
  unfold V
  after_results
  pointwise []

theorem first_bias_at (e : Fin 2048) : (V m c main_v12 : FVec Ideal S1x2048 .f32) (ix2 0 e) = argB m c (ix3 0 ⟨e.val / 128, by omega⟩ 0) := by
  unfold V
  after_results
  pointwise []

theorem where_at : ∀ t : Fin cfg0.N, win0_0.index t = ![0, 0] ∧ win0_1.index t = ![0, 2] ∧ win0_2.index t = ![0, 3] ∧ win0_3.index t = ![0, 4]
    ∧ win0_4.index t = ![0, 5] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem attended (t : Fin cfg0.N) (r : Fin 32) (e : Fin 2048) : (iblk m c 0 t : FVec Ideal S32x2048 .f32) (ix2 r e) = argA m c (ix2 r e) := by
  blk_ext [iblk, V, where_at t]
theorem range1 (t : Fin cfg0.N) (r : Fin 32) (e : Fin 2048) : (iblk m c 1 t : FVec Ideal S32x2048 .f32) (ix2 r e) = argZ m c (ix2 r ⟨4096 + e.val, by omega⟩) := by
  blk_ext [iblk, V, where_at t]
theorem range2 (t : Fin cfg0.N) (r : Fin 32) (e : Fin 2048) : (iblk m c 2 t : FVec Ideal S32x2048 .f32) (ix2 r e) = argZ m c (ix2 r ⟨4096 + (2048 + e.val), by omega⟩) := by
  blk_ext [iblk, V, where_at t]
theorem range3 (t : Fin cfg0.N) (r : Fin 32) (e : Fin 2048) : (iblk m c 3 t : FVec Ideal S32x2048 .f32) (ix2 r e) = argZ m c (ix2 r ⟨4096 + (4096 + e.val), by omega⟩) := by
  blk_ext [iblk, V, where_at t]
theorem range4 (t : Fin cfg0.N) (r : Fin 32) (e : Fin 2048) : (iblk m c 4 t : FVec Ideal S32x2048 .f32) (ix2 r e) = argZ m c (ix2 r ⟨4096 + (6144 + e.val), by omega⟩) := by
  blk_ext [iblk, V, where_at t]
theorem scaleB (t : Fin cfg0.N) (e : Fin 2048) : (iblk m c 5 t : FVec Ideal S1x2048 .f32) (ix2 0 e) = argG m c (ix2 0 e) := by
  refine Eq.trans ?_ (scale_at m c e)
  blk_ext [iblk, where_at t]
theorem weightB (t : Fin cfg0.N) (e : Fin 2048) : (iblk m c 6 t : FVec Ideal S1x2048 .f32) (ix2 0 e) = argW m c (ix4 0 ⟨e.val / 128, by omega⟩ 0 0) := by
  refine Eq.trans ?_ (first_weight_at m c e)
  blk_ext [iblk, where_at t]
theorem biasB (t : Fin cfg0.N) (e : Fin 2048) : (iblk m c 7 t : FVec Ideal S1x2048 .f32) (ix2 0 e) = argB m c (ix3 0 ⟨e.val / 128, by omega⟩ 0) := by
  refine Eq.trans ?_ (first_bias_at m c e)
  blk_ext [iblk, where_at t]

theorem written_normed : (dats m 0 c).arrAt 9 (cfgs 0).N = normed (argZ m c) (argG m c) := by
  refine (dats m 0 c).arrAt_eq_of_covers 9 _ (by decide +kernel) fun t _ y => ?_
  blk_simp
  rw [after0_9]
  frame_out
  idx_vars y
  refine (normed_at _ _ (argZ m c) (argG m c) y0 (range2 m c t y0) (scaleB m c t) y1).trans ?_
  blk_ext [where_at t]

theorem written_gated : (dats m 0 c).arrAt 8 (cfgs 0).N = gated (argA m c) (argZ m c) (argG m c) (argW m c) (argB m c) := by
  refine (dats m 0 c).arrAt_eq_of_covers 8 _ (by decide +kernel) fun t _ y => ?_
  blk_simp
  rw [after0_8]
  frame_out
  canon_tiles x h
  · idx_vars x
    refine (right_at _ _ _ _ _ (argZ m c) (argG m c) (argA m c) (argW m c) (argB m c) x0 x1 (normed_at _ _ _ _ x0 (range2 m c t x0) (scaleB m c t) x1)
      (range1 m c t x0) (range4 m c t x0) (weightB m c t) (biasB m c t)).trans ?_
    blk_ext [where_at t]
  · idx_vars x
    refine (left_at _ _ (argZ m c) (argG m c) (argA m c) (argW m c) (argB m c) x0 (range3 m c t x0) (attended m c t x0) x1).trans ?_
    blk_ext [where_at t]

end Cert.GateSIdeal.Streamed

namespace Cert.GateSClaims

theorem algebraic : Cert.algebraic_GateSIdeal_GateSRefIdeal := by
  pair_intro
  · run_from Cert.GateSIdeal.Gen.run_main m g
  · run_from Cert.GateSRefIdeal.Value.run m' g'
    all_goals obtain ⟨e0, e1, e2, e3, e4⟩ := hagree c
    · refine Eq.trans ?_ (Cert.GateSIdeal.Streamed.written_gated m c).symm
      show Cert.GateSRefIdeal.Spec.gated _ _ _ _ _ = _
      rw [e0, e1, e2, e3, e4]
    · refine Eq.trans ?_ (Cert.GateSIdeal.Streamed.written_normed m c).symm
      show Cert.GateSRefIdeal.Spec.normed _ _ = _
      rw [e1, e2]

end Cert.GateSClaims
-- ==== Proof.GateValue.lean ====
/- The gates and the spatial gating of the prompt's rows: what the kernel writes, and that it is the reference's. -/
module

public import proofs.«01_k».proof.Defs
public import proofs.«01_k».proof.Proof.Gen.Gate.Frame
public import proofs.«01_k».proof.Proof.Gen.GateIdeal.Frame
public import proofs.«01_k».proof.Proof.Gen.GateRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateRefIdeal.Spec

open Cert.GateRefIdeal Cert.GateRefIdeal.Gen

/-- The four column ranges of the projection's gate part. -/
def part0 (z : FVec Ideal S8192x12288 .f32) : FVec Ideal S8192x2048 .f32 :=
  extractStridedSlice S8192x2048 ![0, 0] (extractStridedSlice S8192x8192 ![0, 4096] z slices_S8192x12288_S8192x8192_0_4096) slices_S8192x8192_S8192x2048_0_0
def part2048 (z : FVec Ideal S8192x12288 .f32) : FVec Ideal S8192x2048 .f32 :=
  extractStridedSlice S8192x2048 ![0, 2048] (extractStridedSlice S8192x8192 ![0, 4096] z slices_S8192x12288_S8192x8192_0_4096) slices_S8192x8192_S8192x2048_0_2048
def part4096 (z : FVec Ideal S8192x12288 .f32) : FVec Ideal S8192x2048 .f32 :=
  extractStridedSlice S8192x2048 ![0, 4096] (extractStridedSlice S8192x8192 ![0, 4096] z slices_S8192x12288_S8192x8192_0_4096) slices_S8192x8192_S8192x2048_0_4096
def part6144 (z : FVec Ideal S8192x12288 .f32) : FVec Ideal S8192x2048 .f32 :=
  extractStridedSlice S8192x2048 ![0, 6144] (extractStridedSlice S8192x8192 ![0, 4096] z slices_S8192x12288_S8192x8192_0_4096) slices_S8192x8192_S8192x2048_0_6144
/-- The activation, in the reference's grouping. -/
def gel (v : FVec Ideal S8192x2048 .f32) : FVec Ideal S8192x2048 .f32 :=
  mulf v (mulf (broadcastInDim S8192x2048 ![] bcast_S_S8192x2048 (constant S_ .f32 0x3F000000#32)) (addf (broadcastInDim S8192x2048 ![] bcast_S_S8192x2048 (constant S_ .f32 0x3F800000#32)) (Host.tanh (mulf (broadcastInDim S8192x2048 ![] bcast_S_S8192x2048 (constant S_ .f32 0x3F4C422A#32)) (addf v (mulf (broadcastInDim S8192x2048 ![] bcast_S_S8192x2048 (constant S_ .f32 0x3D372713#32)) (mulf (mulf v v) v)))))))
/-- The activated second range over its root mean square, scaled. -/
def normed (z : FVec Ideal S8192x12288 .f32) (g : FVec Ideal S1x2048 .f32) : FVec Ideal S8192x2048 .f32 :=
  mulf (mulf (gel (part2048 z)) (broadcastInDim S8192x2048 ![0, 1] bcast_S8192x1_S8192x2048_0_1 (Host.rsqrt (addf (Host.divf (broadcastInDim S8192x1 ![0] bcast_S8192_S8192x1_0 (Host.reduceAdd (mulf (gel (part2048 z)) (gel (part2048 z))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048)))
/-- The causal mix of the rows of each chunk, with its bias. -/
def mixed (n : FVec Ideal S8192x2048 .f32) (w : FVec Ideal S1x16x128x128 .f32) (b : FVec Ideal S1x16x128 .f32) : FVec Ideal S8192x2048 .f32 :=
  shapeCast _ (addf (transpose S4x16x128x16x128 [1, 2, 4, 0, 3] (Host.dotGeneral dot_S4x16x128x16x128_S16x128x128_S16x4x16x128x128_2_2_014_1_3_0 none (shapeCast _ n shapeCasts_S8192x2048_S4x16x128x16x128) (select (broadcastInDim S16x128x128 ![1, 2] bcast_S128x128_S16x128x128_1_2 (cmpi .sge (addi (iotaInDim S128x128 32 0) (broadcastInDim S128x128 ![] bcast_S_S128x128 (constantI S_ 32 0#32))) (iotaInDim S128x128 32 1))) (shapeCast _ w shapeCasts_S1x16x128x128_S16x128x128) (broadcastInDim S16x128x128 ![] bcast_S_S16x128x128 (constant S_ .f32 0x00000000#32)))) transposes_S16x4x16x128x128_S4x16x128x16x128_1_2_4_0_3) (broadcastInDim S4x16x128x16x128 ![0, 1, 2, 3, 4] bcast_S1x1x128x16x1_S4x16x128x16x128_0_1_2_3_4 (broadcastInDim S1x1x128x16x1 ![2, 3, 4] bcast_S128x16x1_S1x1x128x16x1_2_3_4 (broadcastInDim S128x16x1 ![0, 1] bcast_S128x16_S128x16x1_0_1 (transpose S128x16 [1, 0] (shapeCast _ b shapeCasts_S1x16x128_S16x128) transposes_S16x128_S128x16_1_0))))) shapeCasts_S4x16x128x16x128_S8192x2048
/-- The two gated halves side by side. -/
def gated (att : FVec Ideal S8192x2048 .f32) (z : FVec Ideal S8192x12288 .f32) (g : FVec Ideal S1x2048 .f32) (w : FVec Ideal S1x16x128x128 .f32) (b : FVec Ideal S1x16x128 .f32) : FVec Ideal S8192x4096 .bf16 :=
  truncf .bf16 (concatenate S8192x4096 1 [⟨S8192x2048, (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (part4096 z))))) att)⟩, ⟨S8192x2048, (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (part6144 z))))) (mulf (gel (part0 z)) (mixed (normed z g) w b)))⟩] concatenates_S8192x2048_S8192x2048_S8192x4096_d1) bitsLt_bf16_f32
theorem cube (x : EReal) : x * (x * x) = x * x * x := (mul_assoc x x x).symm

/-- The causal mix of one chunk's column, read at a row of the chunk. -/
theorem mixed_at (n : FVec Ideal S8192x2048 .f32) (w : FVec Ideal S1x16x128x128 .f32) (b : FVec Ideal S1x16x128 .f32) (q : Fin 64) (g : Fin 16) (r k : Fin 128) :
    @Eq EReal (mixed n w b (ix2 ⟨128 * q.val + r.val, by omega⟩ ⟨128 * g.val + k.val, by omega⟩))
      (∑ x : Fin 128, Scalar.select (IntOp.cmpi CmpIPredicate.sle (BitVec.ofNat 32 x.val) (BitVec.ofNat 32 r.val)) (w (ix4 0 g r x) * n (ix2 ⟨128 * q.val + x.val, by omega⟩ ⟨128 * g.val + k.val, by omega⟩) : EReal) 0 + b (ix3 0 g r)) := by
  pointwise [mixed]
  refine congrArg₂ (· + · : EReal → EReal → EReal) (Finset.sum_congr rfl fun x _ => ?_) ?_
  · have e1 : (128 * q.val + r.val) % 128 = r.val := by omega
    have e2 : (128 * g.val + k.val) / 128 = g.val := by omega
    have e3 : (128 * q.val + r.val) / 2048 * 2048 + (128 * q.val + r.val) / 128 % 16 * 128 + x.val = 128 * q.val + x.val := by omega
    simp only [e3]
    have ec : IntOp.cmpi CmpIPredicate.sge (IntOp.addi (BitVec.ofNat 32 r.val) 0#32) (BitVec.ofNat 32 x.val) = IntOp.cmpi CmpIPredicate.sle (BitVec.ofNat 32 x.val) (BitVec.ofNat 32 r.val) := by
      show IntOp.cmpi CmpIPredicate.sle (BitVec.ofNat 32 x.val) (BitVec.ofNat 32 r.val + 0#32) = _
      rw [BitVec.add_zero]
    rw [ec]
    exact congrArg (fun v : EReal => Scalar.select _ v 0) ((Ideal.mul_congr (congrArg n ((ix2_inj ..).2 ⟨rfl, Fin.ext (by dsimp only; omega)⟩)) rfl).trans (mul_comm (G := EReal) _ _))
  · have e1 : (128 * q.val + r.val) % 128 = r.val := by omega
    have e2 : (128 * g.val + k.val) / 128 = g.val := by omega
    rfl

end Cert.GateRefIdeal.Spec

namespace Cert.GateIdeal.Streamed

open Cert.GateIdeal Cert.GateIdeal.Gen
open Cert.GateRefIdeal.Spec (part0 part2048 part4096 part6144 gel normed mixed gated)

theorem normed_at (X : FVec Ideal S256x2048 .f32) (G : FVec Ideal S1x2048 .f32) (z : FVec Ideal S8192x12288 .f32) (g : FVec Ideal S1x2048 .f32)
    (r : Fin 256) (R : Fin 8192) (hX : ∀ e : Fin 2048, X (ix2 r e) = z (ix2 R ⟨4096 + (2048 + e.val), by omega⟩)) (hG : ∀ e : Fin 2048, G (ix2 0 e) = g (ix2 0 e)) (k : Fin 2048) :
    @Eq EReal (k0_pay1 (F := Ideal) X G (ix2 r k)) (normed z g (ix2 R k)) := by
  pointwise [k0_pay1, normed, gel, part2048, hX, hG]
  simp only [Cert.GateRefIdeal.Spec.cube]

theorem left_at (X A : FVec Ideal S256x2048 .f32) (z : FVec Ideal S8192x12288 .f32) (g : FVec Ideal S1x2048 .f32) (att : FVec Ideal S8192x2048 .f32) (w : FVec Ideal S1x16x128x128 .f32) (b : FVec Ideal S1x16x128 .f32)
    (r : Fin 256) (R : Fin 8192) (hX : ∀ e : Fin 2048, X (ix2 r e) = z (ix2 R ⟨4096 + (4096 + e.val), by omega⟩)) (hA : ∀ e : Fin 2048, A (ix2 r e) = att (ix2 R e)) (k : Fin 2048) :
    @Eq EReal (k0_pay2 (F := Ideal) X A (ix2 r k)) (gated att z g w b (ix2 R ⟨k.val, by omega⟩)) := by
  pointwise [k0_pay2, gated, gel, part4096, hX, hA]
  rfl

/-- One tile of the gated half: a chunk of rows and a group of columns. -/
theorem tile_at (W : FVec Ideal S1x128x128 .f32) (B : FVec Ideal S128x1 .f32) (n u x : FVec Ideal S128x128 .f32) (z : FVec Ideal S8192x12288 .f32) (gs : FVec Ideal S1x2048 .f32) (att : FVec Ideal S8192x2048 .f32) (w : FVec Ideal S1x16x128x128 .f32) (b : FVec Ideal S1x16x128 .f32)
    (q : Fin 64) (g : Fin 16) (hW : ∀ r s : Fin 128, W (ix3 0 r s) = w (ix4 0 g r s)) (hB : ∀ r : Fin 128, B (ix2 r 0) = b (ix3 0 g r))
    (hn : ∀ r s : Fin 128, @Eq EReal (n (ix2 r s)) (normed z gs (ix2 ⟨128 * q.val + r.val, by omega⟩ ⟨128 * g.val + s.val, by omega⟩)))
    (hu : ∀ r s : Fin 128, u (ix2 r s) = z (ix2 ⟨128 * q.val + r.val, by omega⟩ ⟨4096 + (128 * g.val + s.val), by omega⟩))
    (hx : ∀ r s : Fin 128, x (ix2 r s) = z (ix2 ⟨128 * q.val + r.val, by omega⟩ ⟨4096 + (6144 + (128 * g.val + s.val)), by omega⟩)) (r k : Fin 128) :
    @Eq EReal (k0_pay6 (F := Ideal) k0_pay3 W B n u x (ix2 r k)) (gated att z gs w b (ix2 ⟨128 * q.val + r.val, by omega⟩ ⟨2048 + (128 * g.val + k.val), by omega⟩)) := by
  pointwise [k0_pay6, k0_pay3, k0_pay4, k0_pay5, gated, gel, part0, part6144, hW, hB, hu, hx]
  simp only [Cert.GateRefIdeal.Spec.cube]
  refine Ideal.mul_congr rfl (Ideal.mul_congr rfl ?_)
  refine Eq.trans ?_ (Cert.GateRefIdeal.Spec.mixed_at _ w b q g r k).symm
  refine congrArg (· + (b (ix3 0 g r) : EReal)) (Finset.sum_congr rfl fun s _ => ?_)
  rw [hn]

variable (m : (ℓ : Loc nD τ sig) → Buf (Elt Ideal) ℓ) (c : Dev nD)

/-- The five arguments. -/
abbrev argA : FVec Ideal S8192x2048 .f32 := m ((c : Thread nD τ).loc main_arg0)
abbrev argZ : FVec Ideal S8192x12288 .f32 := m ((c : Thread nD τ).loc main_arg1)
abbrev argG : FVec Ideal S1x2048 .f32 := m ((c : Thread nD τ).loc main_arg2)
abbrev argW : FVec Ideal S1x16x128x128 .f32 := m ((c : Thread nD τ).loc main_arg3)
abbrev argB : FVec Ideal S1x16x128 .f32 := m ((c : Thread nD τ).loc main_arg4)

theorem scale_at (e : Fin 2048) : (V m c (Pipeline.arrRef spec0 5) : FVec Ideal S1x2048 .f32) (ix2 0 e) = argG m c (ix2 0 e) := by
  unfold V
  after_results
  pointwise []

theorem weights_at (g : Fin 16) (r s : Fin 128) : (V m c (Pipeline.arrRef spec0 6) : FVec Ideal S16x128x128 .f32) (ix3 g r s) = argW m c (ix4 0 g r s) := by
  unfold V
  after_results
  pointwise []

theorem bias_at (g : Fin 16) (r : Fin 128) : (V m c (Pipeline.arrRef spec0 7) : FVec Ideal S128x16 .f32) (ix2 r g) = argB m c (ix3 0 g r) := by
  unfold V
  after_results
  pointwise []

theorem where_at : ∀ t : Fin cfg0.N, win0_0.index t = ![t.val, 0] ∧ win0_1.index t = ![t.val, 2] ∧ win0_2.index t = ![t.val, 3] ∧ win0_3.index t = ![t.val, 4]
    ∧ win0_4.index t = ![t.val, 5] ∧ win0_5.index t = ![0, 0] ∧ win0_6.index t = ![0, 0, 0] ∧ win0_7.index t = ![0, 0] ∧ win0_8.index t = ![t.val, 0] ∧ win0_9.index t = ![t.val, 0] :=
  (by decide +kernel : ∀ t : Fin grid0.N, _)

/-- The row of the whole array under a row of the block of a point. -/
def row (t : Fin cfg0.N) (r : Fin 256) : Fin 8192 := ⟨256 * t.val + r.val, by have := t.isLt; have : cfg0.N = 32 := rfl; omega⟩

theorem attended (t : Fin cfg0.N) (r : Fin 256) (e : Fin 2048) : (iblk m c 0 t : FVec Ideal S256x2048 .f32) (ix2 r e) = argA m c (ix2 (row t r) e) := by
  blk_ext [iblk, V, where_at t, row]
theorem range1 (t : Fin cfg0.N) (r : Fin 256) (e : Fin 2048) : (iblk m c 1 t : FVec Ideal S256x2048 .f32) (ix2 r e) = argZ m c (ix2 (row t r) ⟨4096 + e.val, by omega⟩) := by
  blk_ext [iblk, V, where_at t, row]
theorem range2 (t : Fin cfg0.N) (r : Fin 256) (e : Fin 2048) : (iblk m c 2 t : FVec Ideal S256x2048 .f32) (ix2 r e) = argZ m c (ix2 (row t r) ⟨4096 + (2048 + e.val), by omega⟩) := by
  blk_ext [iblk, V, where_at t, row]
theorem range3 (t : Fin cfg0.N) (r : Fin 256) (e : Fin 2048) : (iblk m c 3 t : FVec Ideal S256x2048 .f32) (ix2 r e) = argZ m c (ix2 (row t r) ⟨4096 + (4096 + e.val), by omega⟩) := by
  blk_ext [iblk, V, where_at t, row]
theorem range4 (t : Fin cfg0.N) (r : Fin 256) (e : Fin 2048) : (iblk m c 4 t : FVec Ideal S256x2048 .f32) (ix2 r e) = argZ m c (ix2 (row t r) ⟨4096 + (6144 + e.val), by omega⟩) := by
  blk_ext [iblk, V, where_at t, row]
theorem scaleB (t : Fin cfg0.N) (e : Fin 2048) : (iblk m c 5 t : FVec Ideal S1x2048 .f32) (ix2 0 e) = argG m c (ix2 0 e) := by
  refine Eq.trans ?_ (scale_at m c e)
  blk_ext [iblk, where_at t]
theorem weightB (t : Fin cfg0.N) (g : Fin 16) (r s : Fin 128) : (iblk m c 6 t : FVec Ideal S16x128x128 .f32) (ix3 g r s) = argW m c (ix4 0 g r s) := by
  refine Eq.trans ?_ (weights_at m c g r s)
  blk_ext [iblk, where_at t]
theorem biasB (t : Fin cfg0.N) (g : Fin 16) (r : Fin 128) : (iblk m c 7 t : FVec Ideal S128x16 .f32) (ix2 r g) = argB m c (ix3 0 g r) := by
  refine Eq.trans ?_ (bias_at m c g r)
  blk_ext [iblk, where_at t]

theorem written_normed : (dats m 0 c).arrAt 9 (cfgs 0).N = normed (argZ m c) (argG m c) := by
  refine (dats m 0 c).arrAt_eq_of_covers 9 _ (by decide +kernel) fun t _ y => ?_
  blk_simp
  rw [after0_9]
  unfold outsAt0
  frame_out
  idx_vars y
  refine (normed_at _ _ (argZ m c) (argG m c) y0 (row t y0) (range2 m c t y0) (scaleB m c t) y1).trans ?_
  blk_ext [where_at t, row]

/-- A sub-rectangle of a block, and of what was stored whole before, read at an index. -/
theorem part_at (f : Vec Ideal S256x2048 .f32) (h g : ℕ) (hh : h < 2) (hg : g < 16) (inb : ∀ a, (![128 * h, 128 * g] : Fin 2 → ℕ) a + (![128, 128] : Fin 2 → ℕ) a ≤ S256x2048.size a) (r s : Fin 128) :
    (View.ld f (Rect.unit ![128 * h, 128 * g] ![128, 128] inb) : Vec Ideal S128x128 .f32) (ix2 r s) = f (ix2 ⟨128 * h + r.val, by omega⟩ ⟨128 * g + s.val, by omega⟩) := by
  refine (congrFun (View.ld_unit (Val := Elt Ideal) f ![128 * h, 128 * g] ![128, 128] inb) (ix2 r s)).trans ?_
  refine congrArg f (funext fun a => Fin.ext ?_)
  match a with
  | 0 => rfl
  | 1 => rfl

theorem stored_at (t : Fin cfg0.N) (f : Vec Ideal S256x2048 .f32) (R : Rect S256x2048) :
    (ms0_9 t).view.readCov (Val := Elt Ideal) [⟨Rect.unit ![0, 0] ![256, 2048] inb_S256x2048_S256x2048_0_0, f⟩] R.toLoadRect = View.ld f R := by
  have hz : (![0, 0] : Fin 2 → ℕ) = fun _ => 0 := funext fun a => by match a with | 0 => rfl | 1 => rfl
  rw [View.readCov_eq_canon_ld (Val := Elt Ideal) _ _ _ fun y => ⟨_, List.mem_singleton_self _, View.mem_set_unit_zero hz inb_S256x2048_S256x2048_0_0 y⟩]
  exact congrArg (fun v => View.ld v R) (View.canon_unit_zero (Val := Elt Ideal) hz inb_S256x2048_S256x2048_0_0 f)

theorem page_at (f : Vec Ideal S16x128x128 .f32) (g : ℕ) (hg : g < 16) (inb : ∀ a, (![g, 0, 0] : Fin 3 → ℕ) a + (![1, 128, 128] : Fin 3 → ℕ) a ≤ S16x128x128.size a) (r s : Fin 128) :
    (View.ld f (Rect.unit ![g, 0, 0] ![1, 128, 128] inb) : Vec Ideal S1x128x128 .f32) (ix3 0 r s) = f (ix3 ⟨g, hg⟩ r s) := by
  refine (congrFun (View.ld_unit (Val := Elt Ideal) f ![g, 0, 0] ![1, 128, 128] inb) (ix3 0 r s)).trans ?_
  refine congrArg f (funext fun a => Fin.ext ?_)
  match a with
  | 0 => rfl
  | 1 => exact Nat.zero_add _
  | 2 => exact Nat.zero_add _

theorem column_at (f : Vec Ideal S128x16 .f32) (g : ℕ) (hg : g < 16) (inb : ∀ a, (![0, g] : Fin 2 → ℕ) a + (![128, 1] : Fin 2 → ℕ) a ≤ S128x16.size a) (r : Fin 128) :
    (View.ld f (Rect.unit ![0, g] ![128, 1] inb) : Vec Ideal S128x1 .f32) (ix2 r 0) = f (ix2 r ⟨g, hg⟩) := by
  refine (congrFun (View.ld_unit (Val := Elt Ideal) f ![0, g] ![128, 1] inb) (ix2 r 0)).trans ?_
  refine congrArg f (funext fun a => Fin.ext ?_)
  match a with
  | 0 => exact Nat.zero_add _
  | 1 => rfl

/-- One stored tile is the gated half's. -/
theorem piece (t : Fin cfg0.N) (h g : ℕ) (hh : h < 2) (hg : g < 16) (i1 : ∀ a, (![g, 0, 0] : Fin 3 → ℕ) a + (![1, 128, 128] : Fin 3 → ℕ) a ≤ S16x128x128.size a)
    (i2 : ∀ a, (![0, g] : Fin 2 → ℕ) a + (![128, 1] : Fin 2 → ℕ) a ≤ S128x16.size a) (i3 : ∀ a, (![128 * h, 128 * g] : Fin 2 → ℕ) a + (![128, 128] : Fin 2 → ℕ) a ≤ S256x2048.size a)
    (y : ((cfg0.win 8).xblock (cfg0.grid.coords t)).Idx) (x : S128x128.Idx) (h0 : (y 0).val = 128 * h + (x 0).val) (h1 : (y 1).val = 2048 + 128 * g + (x 1).val) :
    @Eq EReal (k0_pay6 (F := Ideal) k0_pay3 (View.ld (iblk m c 6 t : FVec Ideal S16x128x128 .f32) (Rect.unit ![g, 0, 0] ![1, 128, 128] i1)) (View.ld (iblk m c 7 t : FVec Ideal S128x16 .f32) (Rect.unit ![0, g] ![128, 1] i2))
        ((ms0_9 t).view.readCov [⟨Rect.unit ![0, 0] ![256, 2048] inb_S256x2048_S256x2048_0_0, k0_pay1 (F := Ideal) (iblk m c 2 t) (iblk m c 5 t)⟩] (Rect.unit ![128 * h, 128 * g] ![128, 128] i3).toLoadRect)
        (View.ld (iblk m c 1 t : FVec Ideal S256x2048 .f32) (Rect.unit ![128 * h, 128 * g] ![128, 128] i3)) (View.ld (iblk m c 4 t : FVec Ideal S256x2048 .f32) (Rect.unit ![128 * h, 128 * g] ![128, 128] i3)) x)
      (gated (argA m c) (argZ m c) (argG m c) (argW m c) (argB m c) (((View.whole main_v5_0).slice (win0_8.rect t)).emb y)) := by
  have ht := t.isLt
  have hN : cfg0.N = 32 := rfl
  idx_vars x
  have er : ∀ r : Fin 128, row t ⟨128 * h + r.val, by omega⟩ = ⟨128 * (2 * t.val + h) + r.val, by omega⟩ := fun r => Fin.ext (by dsimp only [row]; omega)
  have hW : ∀ r s : Fin 128, (View.ld (iblk m c 6 t : FVec Ideal S16x128x128 .f32) (Rect.unit ![g, 0, 0] ![1, 128, 128] i1) : Vec Ideal S1x128x128 .f32) (ix3 0 r s) = argW m c (ix4 0 ⟨g, hg⟩ r s) :=
    fun r s => (page_at _ g hg i1 r s).trans (weightB m c t _ r s)
  have hB : ∀ r : Fin 128, (View.ld (iblk m c 7 t : FVec Ideal S128x16 .f32) (Rect.unit ![0, g] ![128, 1] i2) : Vec Ideal S128x1 .f32) (ix2 r 0) = argB m c (ix3 0 ⟨g, hg⟩ r) :=
    fun r => (column_at _ g hg i2 r).trans (biasB m c t _ r)
  have hP : ∀ (r : Fin 256) (k : Fin 2048), (k0_pay1 (F := Ideal) (iblk m c 2 t) (iblk m c 5 t) : Vec Ideal S256x2048 .f32) (ix2 r k) = normed (argZ m c) (argG m c) (ix2 (row t r) k) :=
    fun r k => normed_at _ _ (argZ m c) (argG m c) _ _ (range2 m c t _) (scaleB m c t) k
  rw [stored_at]
  generalize (k0_pay1 (F := Ideal) (iblk m c 2 t) (iblk m c 5 t) : Vec Ideal S256x2048 .f32) = P at hP ⊢
  have hn := fun r s : Fin 128 => (part_at P h g hh hg i3 r s).trans ((hP _ _).trans (congrArg (fun R => normed (argZ m c) (argG m c) (ix2 R ⟨128 * g + s.val, by omega⟩)) (er r)))
  have hu : ∀ r s : Fin 128, (View.ld (iblk m c 1 t : FVec Ideal S256x2048 .f32) (Rect.unit ![128 * h, 128 * g] ![128, 128] i3) : Vec Ideal S128x128 .f32) (ix2 r s) = argZ m c (ix2 ⟨128 * (2 * t.val + h) + r.val, by omega⟩ ⟨4096 + (128 * g + s.val), by omega⟩) :=
    fun r s => (part_at _ h g hh hg i3 r s).trans ((range1 m c t _ _).trans (by rw [er]))
  have hx : ∀ r s : Fin 128, (View.ld (iblk m c 4 t : FVec Ideal S256x2048 .f32) (Rect.unit ![128 * h, 128 * g] ![128, 128] i3) : Vec Ideal S128x128 .f32) (ix2 r s) = argZ m c (ix2 ⟨128 * (2 * t.val + h) + r.val, by omega⟩ ⟨4096 + (6144 + (128 * g + s.val)), by omega⟩) :=
    fun r s => (part_at _ h g hh hg i3 r s).trans ((range4 m c t _ _).trans (by rw [er]))
  clear er
  refine (tile_at _ _ _ _ _ (argZ m c) (argG m c) (argA m c) (argW m c) (argB m c) ⟨2 * t.val + h, by omega⟩ ⟨g, hg⟩ hW hB hn hu hx x0 x1).trans ?_
  clear hW hB hn hu hx hP
  obtain ⟨-, -, -, -, -, -, -, -, hw, -⟩ := where_at t
  refine congrArg (gated (argA m c) (argZ m c) (argG m c) (argW m c) (argB m c)) (funext fun a => Fin.ext ?_)
  match a with
  | 0 =>
    show 128 * (2 * t.val + h) + x0.val = win0_8.index t 0 * 256 + 1 * (y 0).val
    rw [hw, h0]
    show 128 * (2 * t.val + h) + x0.val = t.val * 256 + 1 * (128 * h + x0.val)
    omega
  | 1 =>
    show 2048 + (128 * g + x1.val) = win0_8.index t 1 * 4096 + 1 * (y 1).val
    rw [hw, h1]
    show 2048 + (128 * g + x1.val) = 0 * 4096 + 1 * (2048 + 128 * g + x1.val)
    omega

set_option maxHeartbeats 4000000 in
theorem written_gated : (dats m 0 c).arrAt 8 (cfgs 0).N = gated (argA m c) (argZ m c) (argG m c) (argW m c) (argB m c) := by
  refine (dats m 0 c).arrAt_eq_of_covers 8 _ (by decide +kernel) fun t _ y => ?_
  blk_simp
  rw [after0_8]
  unfold outsAt0
  frame_out
  canon_tiles x h using (View.cover_of_tiledBy _ ![128, 128] (by sl_kernel_rfl) _)
  · exact piece m c t 1 15 (by decide) (by decide) inb_S16x128x128_S1x128x128_15_0_0 inb_S128x16_S128x1_0_15 inb_S256x2048_S128x128_128_1920 y x (by omega) (by omega)
  · exact piece m c t 0 15 (by decide) (by decide) inb_S16x128x128_S1x128x128_15_0_0 inb_S128x16_S128x1_0_15 inb_S256x2048_S128x128_0_1920 y x (by omega) (by omega)
  · exact piece m c t 1 14 (by decide) (by decide) inb_S16x128x128_S1x128x128_14_0_0 inb_S128x16_S128x1_0_14 inb_S256x2048_S128x128_128_1792 y x (by omega) (by omega)
  · exact piece m c t 0 14 (by decide) (by decide) inb_S16x128x128_S1x128x128_14_0_0 inb_S128x16_S128x1_0_14 inb_S256x2048_S128x128_0_1792 y x (by omega) (by omega)
  · exact piece m c t 1 13 (by decide) (by decide) inb_S16x128x128_S1x128x128_13_0_0 inb_S128x16_S128x1_0_13 inb_S256x2048_S128x128_128_1664 y x (by omega) (by omega)
  · exact piece m c t 0 13 (by decide) (by decide) inb_S16x128x128_S1x128x128_13_0_0 inb_S128x16_S128x1_0_13 inb_S256x2048_S128x128_0_1664 y x (by omega) (by omega)
  · exact piece m c t 1 12 (by decide) (by decide) inb_S16x128x128_S1x128x128_12_0_0 inb_S128x16_S128x1_0_12 inb_S256x2048_S128x128_128_1536 y x (by omega) (by omega)
  · exact piece m c t 0 12 (by decide) (by decide) inb_S16x128x128_S1x128x128_12_0_0 inb_S128x16_S128x1_0_12 inb_S256x2048_S128x128_0_1536 y x (by omega) (by omega)
  · exact piece m c t 1 11 (by decide) (by decide) inb_S16x128x128_S1x128x128_11_0_0 inb_S128x16_S128x1_0_11 inb_S256x2048_S128x128_128_1408 y x (by omega) (by omega)
  · exact piece m c t 0 11 (by decide) (by decide) inb_S16x128x128_S1x128x128_11_0_0 inb_S128x16_S128x1_0_11 inb_S256x2048_S128x128_0_1408 y x (by omega) (by omega)
  · exact piece m c t 1 10 (by decide) (by decide) inb_S16x128x128_S1x128x128_10_0_0 inb_S128x16_S128x1_0_10 inb_S256x2048_S128x128_128_1280 y x (by omega) (by omega)
  · exact piece m c t 0 10 (by decide) (by decide) inb_S16x128x128_S1x128x128_10_0_0 inb_S128x16_S128x1_0_10 inb_S256x2048_S128x128_0_1280 y x (by omega) (by omega)
  · exact piece m c t 1 9 (by decide) (by decide) inb_S16x128x128_S1x128x128_9_0_0 inb_S128x16_S128x1_0_9 inb_S256x2048_S128x128_128_1152 y x (by omega) (by omega)
  · exact piece m c t 0 9 (by decide) (by decide) inb_S16x128x128_S1x128x128_9_0_0 inb_S128x16_S128x1_0_9 inb_S256x2048_S128x128_0_1152 y x (by omega) (by omega)
  · exact piece m c t 1 8 (by decide) (by decide) inb_S16x128x128_S1x128x128_8_0_0 inb_S128x16_S128x1_0_8 inb_S256x2048_S128x128_128_1024 y x (by omega) (by omega)
  · exact piece m c t 0 8 (by decide) (by decide) inb_S16x128x128_S1x128x128_8_0_0 inb_S128x16_S128x1_0_8 inb_S256x2048_S128x128_0_1024 y x (by omega) (by omega)
  · exact piece m c t 1 7 (by decide) (by decide) inb_S16x128x128_S1x128x128_7_0_0 inb_S128x16_S128x1_0_7 inb_S256x2048_S128x128_128_896 y x (by omega) (by omega)
  · exact piece m c t 0 7 (by decide) (by decide) inb_S16x128x128_S1x128x128_7_0_0 inb_S128x16_S128x1_0_7 inb_S256x2048_S128x128_0_896 y x (by omega) (by omega)
  · exact piece m c t 1 6 (by decide) (by decide) inb_S16x128x128_S1x128x128_6_0_0 inb_S128x16_S128x1_0_6 inb_S256x2048_S128x128_128_768 y x (by omega) (by omega)
  · exact piece m c t 0 6 (by decide) (by decide) inb_S16x128x128_S1x128x128_6_0_0 inb_S128x16_S128x1_0_6 inb_S256x2048_S128x128_0_768 y x (by omega) (by omega)
  · exact piece m c t 1 5 (by decide) (by decide) inb_S16x128x128_S1x128x128_5_0_0 inb_S128x16_S128x1_0_5 inb_S256x2048_S128x128_128_640 y x (by omega) (by omega)
  · exact piece m c t 0 5 (by decide) (by decide) inb_S16x128x128_S1x128x128_5_0_0 inb_S128x16_S128x1_0_5 inb_S256x2048_S128x128_0_640 y x (by omega) (by omega)
  · exact piece m c t 1 4 (by decide) (by decide) inb_S16x128x128_S1x128x128_4_0_0 inb_S128x16_S128x1_0_4 inb_S256x2048_S128x128_128_512 y x (by omega) (by omega)
  · exact piece m c t 0 4 (by decide) (by decide) inb_S16x128x128_S1x128x128_4_0_0 inb_S128x16_S128x1_0_4 inb_S256x2048_S128x128_0_512 y x (by omega) (by omega)
  · exact piece m c t 1 3 (by decide) (by decide) inb_S16x128x128_S1x128x128_3_0_0 inb_S128x16_S128x1_0_3 inb_S256x2048_S128x128_128_384 y x (by omega) (by omega)
  · exact piece m c t 0 3 (by decide) (by decide) inb_S16x128x128_S1x128x128_3_0_0 inb_S128x16_S128x1_0_3 inb_S256x2048_S128x128_0_384 y x (by omega) (by omega)
  · exact piece m c t 1 2 (by decide) (by decide) inb_S16x128x128_S1x128x128_2_0_0 inb_S128x16_S128x1_0_2 inb_S256x2048_S128x128_128_256 y x (by omega) (by omega)
  · exact piece m c t 0 2 (by decide) (by decide) inb_S16x128x128_S1x128x128_2_0_0 inb_S128x16_S128x1_0_2 inb_S256x2048_S128x128_0_256 y x (by omega) (by omega)
  · exact piece m c t 1 1 (by decide) (by decide) inb_S16x128x128_S1x128x128_1_0_0 inb_S128x16_S128x1_0_1 inb_S256x2048_S128x128_128_128 y x (by omega) (by omega)
  · exact piece m c t 0 1 (by decide) (by decide) inb_S16x128x128_S1x128x128_1_0_0 inb_S128x16_S128x1_0_1 inb_S256x2048_S128x128_0_128 y x (by omega) (by omega)
  · exact piece m c t 1 0 (by decide) (by decide) inb_S16x128x128_S1x128x128_0_0_0 inb_S128x16_S128x1_0_0 inb_S256x2048_S128x128_128_0 y x (by omega) (by omega)
  · exact piece m c t 0 0 (by decide) (by decide) inb_S16x128x128_S1x128x128_0_0_0 inb_S128x16_S128x1_0_0 inb_S256x2048_S128x128_0_0 y x (by omega) (by omega)
  · idx_vars x
    refine (left_at _ _ (argZ m c) (argG m c) (argA m c) (argW m c) (argB m c) x0 (row t x0) (range3 m c t x0) (attended m c t x0) x1).trans ?_
    blk_ext [where_at t, row]

end Cert.GateIdeal.Streamed

namespace Cert.GateClaims

theorem algebraic : Cert.algebraic_GateIdeal_GateRefIdeal := by
  pair_intro
  · run_from Cert.GateIdeal.Gen.run_main m g
  · run_from Cert.GateRefIdeal.Value.run m' g'
    all_goals obtain ⟨e0, e1, e2, e3, e4⟩ := hagree c
    · refine Eq.trans ?_ (Cert.GateIdeal.Streamed.written_gated m c).symm
      show Cert.GateRefIdeal.Spec.gated _ _ _ _ _ = _
      rw [e0, e1, e2, e3, e4]
    · refine Eq.trans ?_ (Cert.GateIdeal.Streamed.written_normed m c).symm
      show Cert.GateRefIdeal.Spec.normed _ _ = _
      rw [e1, e2]

end Cert.GateClaims
-- ==== Proof.ScoresSpec.lean ====
/- The indexer's scores through the page table: what the reference's scores are at an index, and the kernel's payloads. -/
module

public import proofs.«01_k».proof.Defs
public import proofs.«01_k».proof.Proof.Gen.ScoresIdeal.Frame.Runs
public import proofs.«01_k».proof.Proof.Gen.ScoresRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScoresRefIdeal.Spec

open Cert.ScoresRefIdeal Cert.ScoresRefIdeal.Gen

/-- The keys of the pages the table names, page after page. -/
def past (pt : IVec S32x64 32) (cache : FVec Ideal S1x2560x128x64 .f32) : FVec Ideal S32x8192x64 .f32 :=
  shapeCast _ (Host.gather gather_S2560x128x64_S32x64x1_S32x64x128x64_23_0_n_n_0_2_112864 (shapeCast _ cache shapeCasts_S1x2560x128x64_S2560x128x64) (broadcastInDim S32x64x1 ![0, 1] bcast_S32x64_S32x64x1_0_1 (select (cmpi .slt pt (broadcastInDim S32x64 ![] bcast_S_S32x64 (constantI S_ 32 0#32))) (addi pt (broadcastInDim S32x64 ![] bcast_S_S32x64 (constantI S_ 32 2560#32))) pt))) shapeCasts_S32x64x128x64_S32x8192x64
/-- With the new key behind them. -/
def keys (pt : IVec S32x64 32) (kn : FVec Ideal S32x1x64 .f32) (cache : FVec Ideal S1x2560x128x64 .f32) : FVec Ideal S32x8193x64 .f32 :=
  concatenate S32x8193x64 1 [⟨S32x8192x64, (past pt cache)⟩, ⟨S32x1x64, kn⟩] concatenates_S32x8192x64_S32x1x64_S32x8193x64_d1
/-- The score of every key. -/
def scores (pt : IVec S32x64 32) (q : FVec Ideal S32x1x16x64 .f32) (w : FVec Ideal S32x1x16 .f32) (kn : FVec Ideal S32x1x64 .f32) (cache : FVec Ideal S1x2560x128x64 .f32) : FVec Ideal S32x1x8193 .f32 :=
  Host.dotGeneral dot_S32x1x16_S32x1x16x8193_S32x1x8193_2_2_n_3_01_01 none (mulf w (broadcastInDim S32x1x16 ![] bcast_S_S32x1x16 (constant S_ .f32 0x3E800000#32))) (maximumf (mulf (Host.dotGeneral dot_S32x1x16x64_S32x8193x64_S32x1x16x8193_3_2_12_1_0_0 none q (keys pt kn cache)) (broadcastInDim S32x1x16x8193 ![] bcast_S_S32x1x16x8193 (constant S_ .f32 0x3E000000#32))) (broadcastInDim S32x1x16x8193 ![] bcast_S_S32x1x16x8193 (constant S_ .f32 0x00000000#32)))

/-- One key's score: the rectified products of the heads' queries with it, weighted. -/
def score (q : Fin 16 → Fin 64 → EReal) (w : Fin 16 → EReal) (k : Fin 64 → EReal) : EReal :=
  ∑ h : Fin 16, max (∑ d : Fin 64, q h d * k d) 0 * (w h * (Ideal.ofBits .f32 0x3D000000#32 : EReal))

/-- The gather of whole pages. -/
abbrev G := gather_S2560x128x64_S32x64x1_S32x64x128x64_23_0_n_n_0_2_112864

theorem gathered (x : FVec Ideal S2560x128x64 .f32) (idx : IVec S32x64x1 32) (b : Fin 32) (p : Fin 64) (s : Fin 128) (e : Fin 64) :
    Host.gather G x idx (ix4 b p s e) = x (ix3 ⟨min (idx (ix3 b p 0)).toInt.toNat 2559, by omega⟩ s e) := by
  unfold Host.gather
  refine congrArg x (funext fun a => Fin.ext ?_)
  show G.start (ix4 b p s e) idx a + G.batchCoord (ix4 b p s e) a + G.offCoord (ix4 b p s e) a = _
  rw [GatherDims.batchCoord_eq_zero _ _ _ (fun h => absurd h List.not_mem_nil)]
  match a with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ G.startIndexMap from List.mem_singleton.mpr rfl)]
    have hsi : G.siIdx (ix4 b p s e) ⟨List.idxOf (0 : Fin 3) G.startIndexMap, List.idxOf_lt_length_iff.2 (List.mem_singleton.mpr rfl)⟩ = ix3 b p 0 := by
      funext b; refine Fin.ext ?_
      match b with
      | ⟨0, _⟩ => rfl
      | ⟨1, _⟩ => rfl
      | ⟨2, _⟩ => rfl
    rw [hsi]
    rfl
  | 1 =>
    unfold GatherDims.start GatherDims.offCoord
    rw [dif_neg (by decide), dif_pos (by decide)]
    exact Nat.zero_add _
  | 2 =>
    unfold GatherDims.start GatherDims.offCoord
    rw [dif_neg (by decide), dif_pos (by decide)]
    exact Nat.zero_add _

theorem eighth : (Ideal.ofBits .f32 0x3E000000#32 : EReal) = ((1 / 8 : ℝ) : EReal) := by
  simp [Ideal.ofBits, Ideal.ieee, -EReal.coe_mul]; norm_num

theorem quarter : (Ideal.ofBits .f32 0x3E800000#32 : EReal) = ((1 / 4 : ℝ) : EReal) := by
  simp [Ideal.ofBits, Ideal.ieee, -EReal.coe_mul]; norm_num

theorem thirtysecond : (Ideal.ofBits .f32 0x3D000000#32 : EReal) = ((1 / 32 : ℝ) : EReal) := by
  simp [Ideal.ofBits, Ideal.ieee, -EReal.coe_mul]; norm_num

/-- The two scalings of the reference against the kernel's one. -/
theorem scaled (x w : EReal) : w * (Ideal.ofBits .f32 0x3E800000#32 : EReal) * max (x * (Ideal.ofBits .f32 0x3E000000#32 : EReal)) 0 = max x 0 * (w * (Ideal.ofBits .f32 0x3D000000#32 : EReal)) := by
  rw [eighth, quarter, thirtysecond]
  have hmax : max (x * ((1 / 8 : ℝ) : EReal)) 0 = max x 0 * ((1 / 8 : ℝ) : EReal) := by
    have h8 : (0 : EReal) ≤ ((1 / 8 : ℝ) : EReal) := EReal.coe_nonneg.2 (by norm_num)
    rcases le_total x 0 with h | h
    · have h' : x * ((1 / 8 : ℝ) : EReal) ≤ 0 := by
        have := mul_le_mul_of_nonneg_right h h8
        rwa [zero_mul] at this
      rw [max_eq_right h, max_eq_right h', zero_mul]
    · have h' : 0 ≤ x * ((1 / 8 : ℝ) : EReal) := mul_nonneg h h8
      rw [max_eq_left h, max_eq_left h']
  have hc : ((1 / 32 : ℝ) : EReal) = ((1 / 4 : ℝ) : EReal) * ((1 / 8 : ℝ) : EReal) := by rw [← EReal.coe_mul]; norm_num
  rw [hmax, hc]
  ac_rfl

/-- An entry of the table inside the pool is its own page. -/
theorem page (x : BitVec 32) (h : x.toNat < 2560) : min (Scalar.select (IntOp.cmpi CmpIPredicate.slt x 0#32) (IntOp.addi x 2560#32) x).toInt.toNat 2559 = x.toNat := by
  have ht : x.toInt = (x.toNat : ℤ) := BitVec.toInt_eq_toNat_of_lt (by omega)
  have hc : IntOp.cmpi CmpIPredicate.slt x 0#32 = 0#1 := by
    show BitVec.ofBool (x.slt 0#32) = 0#1
    have : x.slt 0#32 = false := by
      simp only [BitVec.slt, ht]
      simp
    rw [this]; rfl
  rw [hc]
  show min x.toInt.toNat 2559 = x.toNat
  rw [ht]
  omega

theorem past_at (pt : IVec S32x64 32) (cache : FVec Ideal S1x2560x128x64 .f32) (b : Fin 32) (p : Fin 64) (s : Fin 128) (e : Fin 64) (hp : (pt (ix2 b p)).toNat < 2560) :
    past pt cache (ix3 b ⟨128 * p.val + s.val, by omega⟩ e) = cache (ix4 0 ⟨(pt (ix2 b p)).toNat, hp⟩ s e) := by
  pointwise [past]
  refine (gathered _ _ b p s e).trans ?_
  pointwise []
  exact congrArg (fun P : Fin 2560 => cache (ix4 0 P s e)) (Fin.ext (page _ hp))

theorem scores_at (pt : IVec S32x64 32) (q : FVec Ideal S32x1x16x64 .f32) (w : FVec Ideal S32x1x16 .f32) (kn : FVec Ideal S32x1x64 .f32) (cache : FVec Ideal S1x2560x128x64 .f32) (b : Fin 32) (j : Fin 8193) :
    @Eq EReal (scores pt q w kn cache (ix3 b 0 j)) (score (fun h d => q (ix4 b 0 h d)) (fun h => w (ix3 b 0 h)) (fun d => keys pt kn cache (ix3 b j d))) := by
  pointwise [scores, score]
  exact Finset.sum_congr rfl fun h _ => scaled _ _

theorem keys_past (pt : IVec S32x64 32) (kn : FVec Ideal S32x1x64 .f32) (cache : FVec Ideal S1x2560x128x64 .f32) (b : Fin 32) (j : Fin 8193) (h : j.val < 8192) (e : Fin 64) :
    keys pt kn cache (ix3 b j e) = past pt cache (ix3 b ⟨j.val, h⟩ e) := by
  pointwise [keys]
  rw [dif_pos h]

theorem keys_new (pt : IVec S32x64 32) (kn : FVec Ideal S32x1x64 .f32) (cache : FVec Ideal S1x2560x128x64 .f32) (b : Fin 32) (j : Fin 8193) (h : j.val = 8192) (e : Fin 64) :
    keys pt kn cache (ix3 b j e) = kn (ix3 b 0 e) := by
  pointwise [keys]
  rw [dif_neg (by omega)]
  exact congrArg (fun j : Fin 1 => kn (ix3 b j e)) (Fin.ext (by dsimp only; omega))

end Cert.ScoresRefIdeal.Spec
-- ==== Proof.ScRunA.lean ====
/- The indexer through the page table: one run of the body at an even grid point, where only the page scores are stored. -/
module

public import proofs.«01_k».proof.Proof.Gen.ScoresIdeal.Frame.Runs

@[expose] public section

set_option maxRecDepth 16384

noncomputable section

namespace Cert.ScoresIdeal.Whole

open Cert.ScoresIdeal Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 16000000 in
/-- The stores at an even point, with the proof that the body makes them. -/
noncomputable def kernelRun0_A (c : Dev nD) (i : grid0.Coords) (arg3 : Memref sig .tc .vmem S1x16x64 .f32) (harg3 : arg3.IsWhole) (arg4 : Memref sig .tc .vmem S1x16x1 .f32) (harg4 : arg4.IsWhole) (arg5 : Memref sig .tc .vmem S1x64x1 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x1x4096 .f32) (harg38 : arg38.IsWhole) (arg39 : Memref sig .tc .vmem S1x1x128 .f32) (harg39 : arg39.IsWhole) (hc0 : ¬cond0_0 i)
    (x0 : Vec F S1x16x64 .f32) (x1 : Vec F S1x16x1 .f32) (x2 : Vec F S1x64x1 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (xt0 : TbBuf0 (F := F) c tbM0_0) :
    Σ' (L35 : List (View.Piece (Elt F) S1x1x4096 .f32)), { L36 : List (View.Piece (Elt F) S1x1x128 .f32) //
      ∀ (xi36 : Vec F S1x1x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ (∃ d, owns (c : Thread nD τ) arg38 fullShare d) ∗ owns (c : Thread nD τ) arg39 fullShare xi36 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ (∃ f, arg38.view.loc (c : Thread nD τ) ↦[arg38.view.set]{fullShare} arg38.view.writes (Elt F) f L35) ∗ owns (c : Thread nD τ) arg39 fullShare xi36 ∗ tbPt0 c tbM0_0 xt0) -∗ K ⟨⟩))
          ⊢ wp frame (wpE (defs₀ (F := F)) Variants.none c none) E (cc0_dsa_sample_scores i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, [], fun xi36 E K => ?run⟩
  case run =>
    simp only [cc0_dsa_sample_scores_eq_skeleton]; unfold cc0_dsa_sample_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, ⟨%f36, %hf36, H36⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32; obtain rfl := harg36.eq_unread hf33; obtain rfl := harg37.eq_unread hf34; obtain rfl := harg39.eq_unread hf36
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]
    · iexists _; isplitr; · ipureintro; exact harg28.read_unread _
      iexact H25
    isplitl [H26]
    · iexists _; isplitr; · ipureintro; exact harg29.read_unread _
      iexact H26
    isplitl [H27]
    · iexists _; isplitr; · ipureintro; exact harg30.read_unread _
      iexact H27
    isplitl [H28]
    · iexists _; isplitr; · ipureintro; exact harg31.read_unread _
      iexact H28
    isplitl [H29]
    · iexists _; isplitr; · ipureintro; exact harg32.read_unread _
      iexact H29
    isplitl [H30]
    · iexists _; isplitr; · ipureintro; exact harg33.read_unread _
      iexact H30
    isplitl [H31]
    · iexists _; isplitr; · ipureintro; exact harg34.read_unread _
      iexact H31
    isplitl [H32]
    · iexists _; isplitr; · ipureintro; exact harg35.read_unread _
      iexact H32
    isplitl [H33]
    · iexists _; isplitr; · ipureintro; exact harg36.read_unread _
      iexact H33
    isplitl [H34]
    · iexists _; isplitr; · ipureintro; exact harg37.read_unread _
      iexact H34
    isplitl [H35]; · iexists _; iexact H35
    isplitl [H36]
    · iexists _; isplitr; · ipureintro; exact harg39.read_unread _
      iexact H36
    iexact HT0

end Cert.ScoresIdeal.Whole

end
-- ==== Proof.ScRunB.lean ====
/- The indexer through the page table: one run of the body at an odd grid point, where the new key is scored too. -/
module

public import proofs.«01_k».proof.Proof.Gen.ScoresIdeal.Frame.Runs

@[expose] public section

set_option maxRecDepth 16384

noncomputable section

namespace Cert.ScoresIdeal.Whole

open Cert.ScoresIdeal Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 16000000 in
/-- The stores at an odd point, with the proof that the body makes them. -/
noncomputable def kernelRun0_B (c : Dev nD) (i : grid0.Coords) (arg3 : Memref sig .tc .vmem S1x16x64 .f32) (harg3 : arg3.IsWhole) (arg4 : Memref sig .tc .vmem S1x16x1 .f32) (harg4 : arg4.IsWhole) (arg5 : Memref sig .tc .vmem S1x64x1 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x1x4096 .f32) (harg38 : arg38.IsWhole) (arg39 : Memref sig .tc .vmem S1x1x128 .f32) (harg39 : arg39.IsWhole) (hc0 : cond0_0 i)
    (x0 : Vec F S1x16x64 .f32) (x1 : Vec F S1x16x1 .f32) (x2 : Vec F S1x64x1 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (xt0 : TbBuf0 (F := F) c tbM0_0) :
    Σ' (L35 : List (View.Piece (Elt F) S1x1x4096 .f32)), { L36 : List (View.Piece (Elt F) S1x1x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ (∃ d, owns (c : Thread nD τ) arg38 fullShare d) ∗ (∃ d, owns (c : Thread nD τ) arg39 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ (∃ f, arg38.view.loc (c : Thread nD τ) ↦[arg38.view.set]{fullShare} arg38.view.writes (Elt F) f L35) ∗ (∃ f, arg39.view.loc (c : Thread nD τ) ↦[arg39.view.set]{fullShare} arg39.view.writes (Elt F) f L36) ∗ tbPt0 c tbM0_0 xt0) -∗ K ⟨⟩))
          ⊢ wp frame (wpE (defs₀ (F := F)) Variants.none c none) E (cc0_dsa_sample_scores i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, fun E K => ?run⟩
  case run =>
    simp only [cc0_dsa_sample_scores_eq_skeleton]; unfold cc0_dsa_sample_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, ⟨%d36, %f36, -, H36⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32; obtain rfl := harg36.eq_unread hf33; obtain rfl := harg37.eq_unread hf34
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]
    · iexists _; isplitr; · ipureintro; exact harg28.read_unread _
      iexact H25
    isplitl [H26]
    · iexists _; isplitr; · ipureintro; exact harg29.read_unread _
      iexact H26
    isplitl [H27]
    · iexists _; isplitr; · ipureintro; exact harg30.read_unread _
      iexact H27
    isplitl [H28]
    · iexists _; isplitr; · ipureintro; exact harg31.read_unread _
      iexact H28
    isplitl [H29]
    · iexists _; isplitr; · ipureintro; exact harg32.read_unread _
      iexact H29
    isplitl [H30]
    · iexists _; isplitr; · ipureintro; exact harg33.read_unread _
      iexact H30
    isplitl [H31]
    · iexists _; isplitr; · ipureintro; exact harg34.read_unread _
      iexact H31
    isplitl [H32]
    · iexists _; isplitr; · ipureintro; exact harg35.read_unread _
      iexact H32
    isplitl [H33]
    · iexists _; isplitr; · ipureintro; exact harg36.read_unread _
      iexact H33
    isplitl [H34]
    · iexists _; isplitr; · ipureintro; exact harg37.read_unread _
      iexact H34
    isplitl [H35]; · iexists _; iexact H35
    isplitl [H36]; · iexists _; iexact H36
    iexact HT0

end Cert.ScoresIdeal.Whole

end
-- ==== Proof.ScOut.lean ====
/- The indexer through the page table: what the two kinds of grid point leave in the output blocks. -/
module

public import proofs.«01_k».proof.Proof.ScRunA
public import proofs.«01_k».proof.Proof.ScRunB
public import Idealize.ShloMosaic.Lib.Claim

@[expose] public section

set_option maxRecDepth 16384

noncomputable section

namespace Cert.ScoresIdeal.Whole

open Cert.ScoresIdeal Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_35 (c : Dev nD) (i : grid0.Coords) (arg3 : Memref sig .tc .vmem S1x16x64 .f32) (harg3 : arg3.IsWhole) (arg4 : Memref sig .tc .vmem S1x16x1 .f32) (harg4 : arg4.IsWhole) (arg5 : Memref sig .tc .vmem S1x64x1 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x1x4096 .f32) (harg38 : arg38.IsWhole) (arg39 : Memref sig .tc .vmem S1x1x128 .f32) (harg39 : arg39.IsWhole) (hc0 : ¬cond0_0 i)
    (x0 : Vec F S1x16x64 .f32) (x1 : Vec F S1x16x1 .f32) (x2 : Vec F S1x64x1 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (xt0 : TbBuf0 (F := F) c tbM0_0) (y : S1x1x4096.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).1 S1x1x4096.size (by sl_kernel_rfl) y

def out0_A_35 (c : Dev nD) (i : grid0.Coords) (arg3 : Memref sig .tc .vmem S1x16x64 .f32) (harg3 : arg3.IsWhole) (arg4 : Memref sig .tc .vmem S1x16x1 .f32) (harg4 : arg4.IsWhole) (arg5 : Memref sig .tc .vmem S1x64x1 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x1x4096 .f32) (harg38 : arg38.IsWhole) (arg39 : Memref sig .tc .vmem S1x1x128 .f32) (harg39 : arg39.IsWhole) (hc0 : ¬cond0_0 i)
    (x0 : Vec F S1x16x64 .f32) (x1 : Vec F S1x16x1 .f32) (x2 : Vec F S1x64x1 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (xt0 : TbBuf0 (F := F) c tbM0_0) : Vec F S1x1x4096 .f32 :=
  VO0_35.read (Elt F) (VO0_35.writes (Elt F) VO0_35.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).1)

def out0_A_36 (c : Dev nD) (i : grid0.Coords) (arg3 : Memref sig .tc .vmem S1x16x64 .f32) (harg3 : arg3.IsWhole) (arg4 : Memref sig .tc .vmem S1x16x1 .f32) (harg4 : arg4.IsWhole) (arg5 : Memref sig .tc .vmem S1x64x1 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x1x4096 .f32) (harg38 : arg38.IsWhole) (arg39 : Memref sig .tc .vmem S1x1x128 .f32) (harg39 : arg39.IsWhole) (hc0 : ¬cond0_0 i)
    (x0 : Vec F S1x16x64 .f32) (x1 : Vec F S1x16x1 .f32) (x2 : Vec F S1x64x1 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (xt0 : TbBuf0 (F := F) c tbM0_0) : Vec F S1x1x128 .f32 :=
  VO0_36.read (Elt F) (VO0_36.writes (Elt F) VO0_36.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).2.1)

theorem cover0_B_35 (c : Dev nD) (i : grid0.Coords) (arg3 : Memref sig .tc .vmem S1x16x64 .f32) (harg3 : arg3.IsWhole) (arg4 : Memref sig .tc .vmem S1x16x1 .f32) (harg4 : arg4.IsWhole) (arg5 : Memref sig .tc .vmem S1x64x1 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x1x4096 .f32) (harg38 : arg38.IsWhole) (arg39 : Memref sig .tc .vmem S1x1x128 .f32) (harg39 : arg39.IsWhole) (hc0 : cond0_0 i)
    (x0 : Vec F S1x16x64 .f32) (x1 : Vec F S1x16x1 .f32) (x2 : Vec F S1x64x1 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (xt0 : TbBuf0 (F := F) c tbM0_0) (y : S1x1x4096.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).1 S1x1x4096.size (by sl_kernel_rfl) y

def out0_B_35 (c : Dev nD) (i : grid0.Coords) (arg3 : Memref sig .tc .vmem S1x16x64 .f32) (harg3 : arg3.IsWhole) (arg4 : Memref sig .tc .vmem S1x16x1 .f32) (harg4 : arg4.IsWhole) (arg5 : Memref sig .tc .vmem S1x64x1 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x1x4096 .f32) (harg38 : arg38.IsWhole) (arg39 : Memref sig .tc .vmem S1x1x128 .f32) (harg39 : arg39.IsWhole) (hc0 : cond0_0 i)
    (x0 : Vec F S1x16x64 .f32) (x1 : Vec F S1x16x1 .f32) (x2 : Vec F S1x64x1 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (xt0 : TbBuf0 (F := F) c tbM0_0) : Vec F S1x1x4096 .f32 :=
  VO0_35.read (Elt F) (VO0_35.writes (Elt F) VO0_35.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).1)

theorem cover0_B_36 (c : Dev nD) (i : grid0.Coords) (arg3 : Memref sig .tc .vmem S1x16x64 .f32) (harg3 : arg3.IsWhole) (arg4 : Memref sig .tc .vmem S1x16x1 .f32) (harg4 : arg4.IsWhole) (arg5 : Memref sig .tc .vmem S1x64x1 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x1x4096 .f32) (harg38 : arg38.IsWhole) (arg39 : Memref sig .tc .vmem S1x1x128 .f32) (harg39 : arg39.IsWhole) (hc0 : cond0_0 i)
    (x0 : Vec F S1x16x64 .f32) (x1 : Vec F S1x16x1 .f32) (x2 : Vec F S1x64x1 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (xt0 : TbBuf0 (F := F) c tbM0_0) (y : S1x1x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).2.1 S1x1x128.size (by sl_kernel_rfl) y

def out0_B_36 (c : Dev nD) (i : grid0.Coords) (arg3 : Memref sig .tc .vmem S1x16x64 .f32) (harg3 : arg3.IsWhole) (arg4 : Memref sig .tc .vmem S1x16x1 .f32) (harg4 : arg4.IsWhole) (arg5 : Memref sig .tc .vmem S1x64x1 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x1x4096 .f32) (harg38 : arg38.IsWhole) (arg39 : Memref sig .tc .vmem S1x1x128 .f32) (harg39 : arg39.IsWhole) (hc0 : cond0_0 i)
    (x0 : Vec F S1x16x64 .f32) (x1 : Vec F S1x16x1 .f32) (x2 : Vec F S1x64x1 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (xt0 : TbBuf0 (F := F) c tbM0_0) : Vec F S1x1x128 .f32 :=
  VO0_36.read (Elt F) (VO0_36.writes (Elt F) VO0_36.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 x0 x1 x2 x3 x4 x5 x6 x7 x8 x9 x10 x11 x12 x13 x14 x15 x16 x17 x18 x19 x20 x21 x22 x23 x24 x25 x26 x27 x28 x29 x30 x31 x32 x33 x34 xt0).2.1)

def outA (hO : Ok m) (c : Dev nD) (t : Fin (cfgM m hO).N) (h0 : ¬t.val % 2 = 1) : Vec F S1x1x4096 .f32 × Vec F S1x1x128 .f32 :=
    (out0_A_35 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0), out0_A_36 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0))

def outB (hO : Ok m) (c : Dev nD) (t : Fin (cfgM m hO).N) (h0 : t.val % 2 = 1) : Vec F S1x1x4096 .f32 × Vec F S1x1x128 .f32 :=
    (out0_B_35 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0), out0_B_36 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0))

def outsAt0 (hO : Ok m) (c : Dev nD) (n : ℕ) (hn : n < (cfgM m hO).N) : Vec F S1x1x4096 .f32 × Vec F S1x1x128 .f32 :=
  if h0 : n % 2 = 1 then outB m hO c ⟨n, hn⟩ h0 else outA m hO c ⟨n, hn⟩ h0

theorem outsAt0_a (hO : Ok m) (c : Dev nD) (t : Fin (cfgM m hO).N) (h0 : ¬t.val % 2 = 1) :
    outsAt0 m hO c t.val t.isLt = outA m hO c t h0 := dif_neg h0

theorem outsAt0_b (hO : Ok m) (c : Dev nD) (t : Fin (cfgM m hO).N) (h0 : t.val % 2 = 1) :
    outsAt0 m hO c t.val t.isLt = outB m hO c t h0 := dif_pos h0

theorem outsAt0_A (hO : Ok m) (c : Dev nD) (t : Fin (cfgM m hO).N) (h0 : ¬t.val % 2 = 1) :
    outsAt0 m hO c t.val t.isLt = (out0_A_35 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0), out0_A_36 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0)) := by
  rw [outsAt0_a m hO c t h0]; unfold outA; exact rfl

theorem outsAt0_B (hO : Ok m) (c : Dev nD) (t : Fin (cfgM m hO).N) (h0 : t.val % 2 = 1) :
    outsAt0 m hO c t.val t.isLt = (out0_B_35 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0), out0_B_36 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0)) := by
  rw [outsAt0_b m hO c t h0]; unfold outB; exact rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => (outsAt0 m hO c t.val t.isLt).1
    | ⟨36, _⟩ => (outsAt0 m hO c t.val t.isLt).2
    | ⟨_ + 37, h⟩ => absurd h (Nat.not_lt.2 (Nat.le_add_left _ _))
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = (outsAt0 m hO c t.val t.isLt).1 := by dsimp only [dats]; try rfl
theorem after0_36 (hO : Ok m) (c : Dev nD) (t : Fin (cfgM m hO).N) : (dats m hO 0 c).after 36 t = (outsAt0 m hO c t.val t.isLt).2 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d

end Cert.ScoresIdeal.Whole
-- ==== Proof.ScoresPages.lean ====
/- The page table's entries, the pages they name, and the table's admissibility; the rows of pages as one row. -/
module

public import proofs.«01_k».proof.Proof.ScoresSpec
public import proofs.«01_k».proof.Proof.ScOut

@[expose] public section

set_option maxRecDepth 16384

noncomputable section

open Idealize.ShloMosaic Idealize.ShloMosaic.TcCoe Idealize.SL.Sem
open Idealize.ShloMosaic.Pipeline (Dat)

namespace Cert.ScoresIdeal.Whole

open Cert.ScoresIdeal Cert.ScoresIdeal.Gen
open Cert.ScoresRefIdeal.Spec (past keys scores score)

/-- The word of the table a page window reads. -/
theorem word {F : FTy → Type} (pf : pre0.Contents (Elt F)) (off : Fin 2 → ℕ) (inb : ∀ a, off a + S1x1.size a ≤ S32x64.size a) (h1 : S1x1.numel = 1) (r : Fin 32) (p : Fin 64) (h : off = ![r.val, p.val]) :
    (pf.at 0 (Rect.unit (s := S32x64) off S1x1.size inb) h1 : BitVec 32) = pf 0 (ix2 r p) := by
  subst h
  refine congrArg (pf 0 : S32x64.Idx → BitVec 32) (funext fun a : Fin 2 => Fin.ext ?_)
  match a with
  | ⟨0, _⟩ => show r.val + 1 * 0 = r.val; omega
  | ⟨1, _⟩ => show p.val + 1 * 0 = p.val; omega

/-- Which word of the table is page `u`'s at a grid point. -/
theorem where_word : ∀ (i : grid0.Coords) (u : Fin 32), k0_off1 i (BitVec.ofNat 32 u.val) = ![(i 0).val, 32 * (i 1).val + u.val] := by
  decide +kernel

/-- The block of a page window. -/
def spot {F : FTy → Type} (pf : pre0.Contents (Elt F)) (u : Fin 32) (i : grid0.Coords) : Fin 3 → ℕ :=
  ![(pf 0 (ix2 ⟨(i 0).val, (i 0).isLt⟩ ⟨32 * (i 1).val + u.val, by have h : (i 1).val < 2 := (i 1).isLt; omega⟩) : BitVec 32).toNat, 0, 0]

theorem spot_of {F : FTy → Type} (pf : pre0.Contents (Elt F)) (u : Fin 32) (i : grid0.Coords) (x : BitVec 32)
    (h : x = pf.at 0 (Rect.unit (s := S32x64) (k0_off1 i (BitVec.ofNat 32 u.val)) S1x1.size (k0_off1_inb i u)) numel1_S1x1) :
    ![x.toNat, 0, 0] = spot pf u i := by
  rw [h, word pf _ _ numel1_S1x1 ⟨(i 0).val, (i 0).isLt⟩ ⟨32 * (i 1).val + u.val, by have h : (i 1).val < 2 := (i 1).isLt; omega⟩ (where_word i u)]
  rfl

theorem spot0 {F : FTy → Type} (pf : pre0.Contents (Elt F)) (i : grid0.Coords) : cc0_transform_3 k0_off1_inb numel1_S1x1 pf i = spot pf 0 i := spot_of pf 0 i _ rfl
theorem spot1 {F : FTy → Type} (pf : pre0.Contents (Elt F)) (i : grid0.Coords) : cc0_transform_4 k0_off1_inb numel1_S1x1 pf i = spot pf 1 i := spot_of pf 1 i _ rfl
theorem spot2 {F : FTy → Type} (pf : pre0.Contents (Elt F)) (i : grid0.Coords) : cc0_transform_5 k0_off1_inb numel1_S1x1 pf i = spot pf 2 i := spot_of pf 2 i _ rfl
theorem spot3 {F : FTy → Type} (pf : pre0.Contents (Elt F)) (i : grid0.Coords) : cc0_transform_6 k0_off1_inb numel1_S1x1 pf i = spot pf 3 i := spot_of pf 3 i _ rfl
theorem spot4 {F : FTy → Type} (pf : pre0.Contents (Elt F)) (i : grid0.Coords) : cc0_transform_7 k0_off1_inb numel1_S1x1 pf i = spot pf 4 i := spot_of pf 4 i _ rfl
theorem spot5 {F : FTy → Type} (pf : pre0.Contents (Elt F)) (i : grid0.Coords) : cc0_transform_8 k0_off1_inb numel1_S1x1 pf i = spot pf 5 i := spot_of pf 5 i _ rfl
theorem spot6 {F : FTy → Type} (pf : pre0.Contents (Elt F)) (i : grid0.Coords) : cc0_transform_9 k0_off1_inb numel1_S1x1 pf i = spot pf 6 i := spot_of pf 6 i _ rfl
theorem spot7 {F : FTy → Type} (pf : pre0.Contents (Elt F)) (i : grid0.Coords) : cc0_transform_10 k0_off1_inb numel1_S1x1 pf i = spot pf 7 i := spot_of pf 7 i _ rfl
theorem spot8 {F : FTy → Type} (pf : pre0.Contents (Elt F)) (i : grid0.Coords) : cc0_transform_11 k0_off1_inb numel1_S1x1 pf i = spot pf 8 i := spot_of pf 8 i _ rfl
theorem spot9 {F : FTy → Type} (pf : pre0.Contents (Elt F)) (i : grid0.Coords) : cc0_transform_12 k0_off1_inb numel1_S1x1 pf i = spot pf 9 i := spot_of pf 9 i _ rfl
theorem spot10 {F : FTy → Type} (pf : pre0.Contents (Elt F)) (i : grid0.Coords) : cc0_transform_13 k0_off1_inb numel1_S1x1 pf i = spot pf 10 i := spot_of pf 10 i _ rfl
theorem spot11 {F : FTy → Type} (pf : pre0.Contents (Elt F)) (i : grid0.Coords) : cc0_transform_14 k0_off1_inb numel1_S1x1 pf i = spot pf 11 i := spot_of pf 11 i _ rfl
theorem spot12 {F : FTy → Type} (pf : pre0.Contents (Elt F)) (i : grid0.Coords) : cc0_transform_15 k0_off1_inb numel1_S1x1 pf i = spot pf 12 i := spot_of pf 12 i _ rfl
theorem spot13 {F : FTy → Type} (pf : pre0.Contents (Elt F)) (i : grid0.Coords) : cc0_transform_16 k0_off1_inb numel1_S1x1 pf i = spot pf 13 i := spot_of pf 13 i _ rfl
theorem spot14 {F : FTy → Type} (pf : pre0.Contents (Elt F)) (i : grid0.Coords) : cc0_transform_17 k0_off1_inb numel1_S1x1 pf i = spot pf 14 i := spot_of pf 14 i _ rfl
theorem spot15 {F : FTy → Type} (pf : pre0.Contents (Elt F)) (i : grid0.Coords) : cc0_transform_18 k0_off1_inb numel1_S1x1 pf i = spot pf 15 i := spot_of pf 15 i _ rfl
theorem spot16 {F : FTy → Type} (pf : pre0.Contents (Elt F)) (i : grid0.Coords) : cc0_transform_19 k0_off1_inb numel1_S1x1 pf i = spot pf 16 i := spot_of pf 16 i _ rfl
theorem spot17 {F : FTy → Type} (pf : pre0.Contents (Elt F)) (i : grid0.Coords) : cc0_transform_20 k0_off1_inb numel1_S1x1 pf i = spot pf 17 i := spot_of pf 17 i _ rfl
theorem spot18 {F : FTy → Type} (pf : pre0.Contents (Elt F)) (i : grid0.Coords) : cc0_transform_21 k0_off1_inb numel1_S1x1 pf i = spot pf 18 i := spot_of pf 18 i _ rfl
theorem spot19 {F : FTy → Type} (pf : pre0.Contents (Elt F)) (i : grid0.Coords) : cc0_transform_22 k0_off1_inb numel1_S1x1 pf i = spot pf 19 i := spot_of pf 19 i _ rfl
theorem spot20 {F : FTy → Type} (pf : pre0.Contents (Elt F)) (i : grid0.Coords) : cc0_transform_23 k0_off1_inb numel1_S1x1 pf i = spot pf 20 i := spot_of pf 20 i _ rfl
theorem spot21 {F : FTy → Type} (pf : pre0.Contents (Elt F)) (i : grid0.Coords) : cc0_transform_24 k0_off1_inb numel1_S1x1 pf i = spot pf 21 i := spot_of pf 21 i _ rfl
theorem spot22 {F : FTy → Type} (pf : pre0.Contents (Elt F)) (i : grid0.Coords) : cc0_transform_25 k0_off1_inb numel1_S1x1 pf i = spot pf 22 i := spot_of pf 22 i _ rfl
theorem spot23 {F : FTy → Type} (pf : pre0.Contents (Elt F)) (i : grid0.Coords) : cc0_transform_26 k0_off1_inb numel1_S1x1 pf i = spot pf 23 i := spot_of pf 23 i _ rfl
theorem spot24 {F : FTy → Type} (pf : pre0.Contents (Elt F)) (i : grid0.Coords) : cc0_transform_27 k0_off1_inb numel1_S1x1 pf i = spot pf 24 i := spot_of pf 24 i _ rfl
theorem spot25 {F : FTy → Type} (pf : pre0.Contents (Elt F)) (i : grid0.Coords) : cc0_transform_28 k0_off1_inb numel1_S1x1 pf i = spot pf 25 i := spot_of pf 25 i _ rfl
theorem spot26 {F : FTy → Type} (pf : pre0.Contents (Elt F)) (i : grid0.Coords) : cc0_transform_29 k0_off1_inb numel1_S1x1 pf i = spot pf 26 i := spot_of pf 26 i _ rfl
theorem spot27 {F : FTy → Type} (pf : pre0.Contents (Elt F)) (i : grid0.Coords) : cc0_transform_30 k0_off1_inb numel1_S1x1 pf i = spot pf 27 i := spot_of pf 27 i _ rfl
theorem spot28 {F : FTy → Type} (pf : pre0.Contents (Elt F)) (i : grid0.Coords) : cc0_transform_31 k0_off1_inb numel1_S1x1 pf i = spot pf 28 i := spot_of pf 28 i _ rfl
theorem spot29 {F : FTy → Type} (pf : pre0.Contents (Elt F)) (i : grid0.Coords) : cc0_transform_32 k0_off1_inb numel1_S1x1 pf i = spot pf 29 i := spot_of pf 29 i _ rfl
theorem spot30 {F : FTy → Type} (pf : pre0.Contents (Elt F)) (i : grid0.Coords) : cc0_transform_33 k0_off1_inb numel1_S1x1 pf i = spot pf 30 i := spot_of pf 30 i _ rfl
theorem spot31 {F : FTy → Type} (pf : pre0.Contents (Elt F)) (i : grid0.Coords) : cc0_transform_34 k0_off1_inb numel1_S1x1 pf i = spot pf 31 i := spot_of pf 31 i _ rfl

/-- A block inside the pool. -/
theorem inside {F : FTy → Type} (pf : pre0.Contents (Elt F)) (hp : ∀ b p, (pf 0 (ix2 b p) : BitVec 32).toNat < 2560) (T : Fin 3 → ℕ) (u : Fin 32) (i : grid0.Coords) (hT : T = spot pf u i) :
    ∃ h : (∀ a, (T a + 1) * S1x64x128.size a ≤ S2560x64x128.size a), EltTy.bits .f32 = 32 ∨ (Rect.block (s := S2560x64x128) S1x64x128.size T h).WholeWords (EltTy.packing .f32) := by
  refine ⟨fun a => ?_, .inl rfl⟩
  subst hT
  match a with
  | 0 =>
    have := hp ⟨(i 0).val, (i 0).isLt⟩ ⟨32 * (i 1).val + u.val, by have h : (i 1).val < 2 := (i 1).isLt; omega⟩
    show ((pf 0 (ix2 _ _) : BitVec 32).toNat + 1) * 1 ≤ 2560
    omega
  | 1 => exact (by decide : (0 + 1) * 64 ≤ 64)
  | 2 => exact (by decide : (0 + 1) * 128 ≤ 128)

theorem ok_of {F : FTy → Type} (pf : pre0.Contents (Elt F)) (hp : ∀ b p, (pf 0 (ix2 b p) : BitVec 32).toNat < 2560) : ok0 pf :=
  ⟨fun i => inside pf hp _ 0 i (spot0 pf i),
    fun i => inside pf hp _ 1 i (spot1 pf i),
    fun i => inside pf hp _ 2 i (spot2 pf i),
    fun i => inside pf hp _ 3 i (spot3 pf i),
    fun i => inside pf hp _ 4 i (spot4 pf i),
    fun i => inside pf hp _ 5 i (spot5 pf i),
    fun i => inside pf hp _ 6 i (spot6 pf i),
    fun i => inside pf hp _ 7 i (spot7 pf i),
    fun i => inside pf hp _ 8 i (spot8 pf i),
    fun i => inside pf hp _ 9 i (spot9 pf i),
    fun i => inside pf hp _ 10 i (spot10 pf i),
    fun i => inside pf hp _ 11 i (spot11 pf i),
    fun i => inside pf hp _ 12 i (spot12 pf i),
    fun i => inside pf hp _ 13 i (spot13 pf i),
    fun i => inside pf hp _ 14 i (spot14 pf i),
    fun i => inside pf hp _ 15 i (spot15 pf i),
    fun i => inside pf hp _ 16 i (spot16 pf i),
    fun i => inside pf hp _ 17 i (spot17 pf i),
    fun i => inside pf hp _ 18 i (spot18 pf i),
    fun i => inside pf hp _ 19 i (spot19 pf i),
    fun i => inside pf hp _ 20 i (spot20 pf i),
    fun i => inside pf hp _ 21 i (spot21 pf i),
    fun i => inside pf hp _ 22 i (spot22 pf i),
    fun i => inside pf hp _ 23 i (spot23 pf i),
    fun i => inside pf hp _ 24 i (spot24 pf i),
    fun i => inside pf hp _ 25 i (spot25 pf i),
    fun i => inside pf hp _ 26 i (spot26 pf i),
    fun i => inside pf hp _ 27 i (spot27 pf i),
    fun i => inside pf hp _ 28 i (spot28 pf i),
    fun i => inside pf hp _ 29 i (spot29 pf i),
    fun i => inside pf hp _ 30 i (spot30 pf i),
    fun i => inside pf hp _ 31 i (spot31 pf i)⟩

/-- The scores of one page. -/
def row (q : FVec Ideal S1x16x64 .f32) (w : FVec Ideal S1x16x1 .f32) (K : FVec Ideal S1x64x128 .f32) : FVec Ideal S1x128 .f32 := k0_pay9 (k0_pay2 q) (k0_pay3 w) K

theorem row_at (q : FVec Ideal S1x16x64 .f32) (w : FVec Ideal S1x16x1 .f32) (K : FVec Ideal S1x64x128 .f32) (s : Fin 128) :
    @Eq EReal (row q w K (ix2 0 s)) (score (fun h d => q (ix3 0 h d)) (fun h => w (ix3 0 h 0)) (fun d => K (ix3 0 d s))) := by
  pointwise [row, k0_pay9, k0_pay2, k0_pay3, score]

theorem new_at (q : FVec Ideal S1x16x64 .f32) (w : FVec Ideal S1x16x1 .f32) (k : FVec Ideal S1x64x1 .f32) (s : Fin 128) :
    @Eq EReal (k0_pay1 (F := Ideal) (k0_pay2 q) (k0_pay3 w) k (ix3 0 0 s)) (score (fun h d => q (ix3 0 h d)) (fun h => w (ix3 0 h 0)) (fun d => k (ix3 0 d 0))) := by
  pointwise [k0_pay1, k0_pay2, k0_pay3, score]

theorem tiled : Shape.Concatenates (List.replicate 32 S1x128) S1x4096 1 := by decide

/-- The rows side by side. -/
def rows (q : FVec Ideal S1x16x64 .f32) (w : FVec Ideal S1x16x1 .f32) (K : Fin 32 → FVec Ideal S1x64x128 .f32) : FVec Ideal S1x4096 .f32 :=
  concatenate S1x4096 1 (List.ofFn fun u : Fin 32 => (⟨S1x128, row q w (K u)⟩ : (s : Shape) × (s.Idx → Elt Ideal .f32))) tiled

theorem rows_at (q : FVec Ideal S1x16x64 .f32) (w : FVec Ideal S1x16x1 .f32) (K : Fin 32 → FVec Ideal S1x64x128 .f32) (u : Fin 32) (s : Fin 128) :
    rows q w K (ix2 0 ⟨128 * u.val + s.val, by omega⟩) = row q w (K u) (ix2 0 s) := by
  unfold rows
  refine concatenate_ofFn_apply (t := S1x4096) (1 : Fin 2) (fun u : Fin 32 => row q w (K u)) _ rfl 128 rfl _ u ?_ _ ?_ ?_
  · show (128 * u.val + s.val) / 128 = u.val
    omega
  · show s.val = (128 * u.val + s.val) % 128
    omega
  · intro b hb
    match b with
    | 0 => rfl
    | 1 => exact absurd rfl hb

theorem all_at (q : FVec Ideal S1x16x64 .f32) (w : FVec Ideal S1x16x1 .f32) (K : Fin 32 → FVec Ideal S1x64x128 .f32) (u : Fin 32) (s : Fin 128) :
    @Eq EReal ((shapeCast S1x1x4096 (rows q w K) (by decide) : FVec Ideal S1x1x4096 .f32) (ix3 0 0 ⟨128 * u.val + s.val, by omega⟩))
      (score (fun h d => q (ix3 0 h d)) (fun h => w (ix3 0 h 0)) (fun d => K u (ix3 0 d s))) := by
  refine Eq.trans ?_ ((rows_at q w K u s).trans (row_at q w (K u) s))
  pointwise []

end Cert.ScoresIdeal.Whole
-- ==== Proof.ScoresBlocks.lean ====
/- What every grid point reads and writes, and the two result arrays in closed form. -/
module

public import proofs.«01_k».proof.Proof.ScoresPages

@[expose] public section

set_option maxRecDepth 16384

noncomputable section

open Idealize.ShloMosaic Idealize.ShloMosaic.TcCoe Idealize.SL.Sem
open Idealize.ShloMosaic.Pipeline (Dat)

namespace Cert.ScoresIdeal.Whole

open Cert.ScoresIdeal Cert.ScoresIdeal.Gen
open Cert.ScoresRefIdeal.Spec (past keys scores score past_at scores_at keys_past keys_new)

/-- The whole store of the page scores is the rows side by side. -/
theorem paid (q : FVec Ideal S1x16x64 .f32) (w : FVec Ideal S1x16x1 .f32) (K0 K1 K2 K3 K4 K5 K6 K7 K8 K9 K10 K11 K12 K13 K14 K15 K16 K17 K18 K19 K20 K21 K22 K23 K24 K25 K26 K27 K28 K29 K30 K31 : FVec Ideal S1x64x128 .f32) :
    k0_pay39 (F := Ideal) (k0_pay2 q) (k0_pay3 w)
      (k0_pay4 q w K0)
      (k0_pay5 q w K1)
      (k0_pay8 (k0_pay6 q K2) (k0_pay7 w))
      (k0_pay9 (k0_pay2 q) (k0_pay3 w) K3)
      (k0_pay10 (k0_pay2 q) (k0_pay3 w) K4)
      (k0_pay11 (k0_pay2 q) (k0_pay3 w) K5)
      (k0_pay13 (k0_pay3 w) (k0_pay12 (k0_pay2 q) K6))
      (k0_pay14 (k0_pay2 q) (k0_pay3 w) K7)
      (k0_pay15 (k0_pay2 q) (k0_pay3 w) K8)
      (k0_pay16 (k0_pay2 q) (k0_pay3 w) K9)
      (k0_pay17 (k0_pay2 q) (k0_pay3 w) K10)
      (k0_pay18 (k0_pay2 q) (k0_pay3 w) K11)
      (k0_pay19 (k0_pay2 q) (k0_pay3 w) K12)
      (k0_pay20 (k0_pay2 q) (k0_pay3 w) K13)
      (k0_pay21 (k0_pay2 q) (k0_pay3 w) K14)
      (k0_pay22 (k0_pay2 q) (k0_pay3 w) K15)
      (k0_pay23 (k0_pay2 q) (k0_pay3 w) K16)
      (k0_pay26 (k0_pay24 (k0_pay2 q) K17) (k0_pay25 (k0_pay3 w)))
      (k0_pay27 (k0_pay2 q) (k0_pay3 w) K18)
      (k0_pay28 (k0_pay2 q) (k0_pay3 w) K19)
      (k0_pay29 (k0_pay2 q) (k0_pay3 w) K20)
      (k0_pay31 (k0_pay3 w) (k0_pay30 (k0_pay2 q) K21))
      (k0_pay32 (k0_pay2 q) (k0_pay3 w) K22)
      (k0_pay33 (k0_pay2 q) (k0_pay3 w) K23)
      (k0_pay34 (k0_pay2 q) (k0_pay3 w) K24)
      (k0_pay35 (k0_pay2 q) (k0_pay3 w) K25)
      (k0_pay36 (k0_pay2 q) (k0_pay3 w) K26)
      (k0_pay37 (k0_pay2 q) (k0_pay3 w) K27)
      (k0_pay38 (k0_pay2 q) (k0_pay3 w) K28)
      K29
      K30
      K31
      = shapeCast S1x1x4096 (rows q w ![K0, K1, K2, K3, K4, K5, K6, K7, K8, K9, K10, K11, K12, K13, K14, K15, K16, K17, K18, K19, K20, K21, K22, K23, K24, K25, K26, K27, K28, K29, K30, K31]) (by decide) := by
  unfold rows
  rfl

variable (m : (ℓ : Loc nD τ sig) → Buf (Elt Ideal) ℓ) (hO : Ok m) (c : Dev nD)

/-- The five arguments. -/
abbrev argP : IVec S32x64 32 := m ((c : Thread nD τ).loc main_arg0)
abbrev argQ : FVec Ideal S32x1x16x64 .f32 := m ((c : Thread nD τ).loc main_arg1)
abbrev argW : FVec Ideal S32x1x16 .f32 := m ((c : Thread nD τ).loc main_arg2)
abbrev argK : FVec Ideal S32x1x64 .f32 := m ((c : Thread nD τ).loc main_arg3)
abbrev argC : FVec Ideal S1x2560x128x64 .f32 := m ((c : Thread nD τ).loc main_arg4)

theorem queries_at (b : Fin 32) (h : Fin 16) (d : Fin 64) : (V m c main_v0 : FVec Ideal S32x16x64 .f32) (ix3 b h d) = argQ m c (ix4 b 0 h d) := by
  unfold V
  after_results
  pointwise []

theorem weights_at (b : Fin 32) (h : Fin 16) : (V m c main_v1 : FVec Ideal S32x16x1 .f32) (ix3 b h 0) = argW m c (ix3 b 0 h) := by
  unfold V
  after_results
  pointwise []

theorem new_key_at (b : Fin 32) (d : Fin 64) : (V m c main_v2 : FVec Ideal S32x64x1 .f32) (ix3 b d 0) = argK m c (ix3 b 0 d) := by
  unfold V
  after_results
  pointwise []

theorem pool_at (p : Fin 2560) (d : Fin 64) (s : Fin 128) : (V m c main_v4 : FVec Ideal S2560x64x128 .f32) (ix3 p d s) = argC m c (ix4 0 p s d) := by
  unfold V
  after_results
  pointwise []

theorem table_at : (tbl m 0 : IVec S32x64 32) = argP m c := by
  obtain rfl : c = 0 := Subsingleton.elim _ _
  exact V_main_arg0 m 0

theorem row_of : ∀ t : Fin grid0.N, cc0_transform_0 (grid0.coords t) = ![t.val / 2, 0, 0] ∧ cc0_transform_1 (grid0.coords t) = ![t.val / 2, 0, 0] ∧ cc0_transform_2 (grid0.coords t) = ![t.val / 2, 0, 0]
    ∧ cc0_transform_35 (grid0.coords t) = ![t.val / 2, 0, t.val % 2] ∧ cc0_transform_36 (grid0.coords t) = ![t.val / 2, 0, 0] ∧ (grid0.coords t 0).val = t.val / 2 ∧ (grid0.coords t 1).val = t.val % 2 := by
  decide +kernel

theorem queriesB (t : Fin (cfgM m hO).N) (b : Fin 32) (hb : t.val / 2 = b.val) (h : Fin 16) (d : Fin 64) : (iblk m hO c 0 t : FVec Ideal S1x16x64 .f32) (ix3 0 h d) = argQ m c (ix4 b 0 h d) := by
  refine Eq.trans ?_ (queries_at m c b h d)
  have hi : ((cfgM m hO).win 0).index t = ![t.val / 2, 0, 0] := (row_of t).1
  blk_ext [iblk, hi, hb]

theorem weightsB (t : Fin (cfgM m hO).N) (b : Fin 32) (hb : t.val / 2 = b.val) (h : Fin 16) : (iblk m hO c 1 t : FVec Ideal S1x16x1 .f32) (ix3 0 h 0) = argW m c (ix3 b 0 h) := by
  refine Eq.trans ?_ (weights_at m c b h)
  have hi : ((cfgM m hO).win 1).index t = ![t.val / 2, 0, 0] := (row_of t).2.1
  blk_ext [iblk, hi, hb]

theorem new_keyB (t : Fin (cfgM m hO).N) (b : Fin 32) (hb : t.val / 2 = b.val) (d : Fin 64) : (iblk m hO c 2 t : FVec Ideal S1x64x1 .f32) (ix3 0 d 0) = argK m c (ix3 b 0 d) := by
  refine Eq.trans ?_ (new_key_at m c b d)
  have hi : ((cfgM m hO).win 2).index t = ![t.val / 2, 0, 0] := (row_of t).2.2.1
  blk_ext [iblk, hi, hb]

/-- The page of a window at a grid point. -/
theorem spot_at (t : Fin grid0.N) (b : Fin 32) (hb : t.val / 2 = b.val) (u : Fin 32) (x : Fin 64) (hx : 32 * (t.val % 2) + u.val = x.val) (p : Fin 2560) (hp : (argP m c (ix2 b x)).toNat = p.val) :
    spot (tbl m) u (grid0.coords t) = ![p.val, 0, 0] := by
  obtain ⟨-, -, -, -, -, h0, h1⟩ := row_of t
  rw [← hp, ← table_at m c]
  have e0 : (⟨(grid0.coords t 0).val, (grid0.coords t 0).isLt⟩ : Fin 32) = b := Fin.ext (h0.trans hb)
  unfold spot
  refine congrArg (fun n : ℕ => ![n, 0, 0]) ?_
  refine congrArg (fun i : S32x64.Idx => ((tbl m 0 : IVec S32x64 32) i).toNat) ?_
  funext a
  match a with
  | ⟨0, _⟩ => exact e0
  | ⟨1, _⟩ => exact Fin.ext (show 32 * (grid0.coords t 1).val + u.val = x.val by omega)

theorem pageB0 (t : Fin (cfgM m hO).N) (b : Fin 32) (hb : t.val / 2 = b.val) (x : Fin 64) (hx : 32 * (t.val % 2) + ((0 : Fin 32)).val = x.val) (p : Fin 2560) (hp : (argP m c (ix2 b x)).toNat = p.val) (d : Fin 64) (s : Fin 128) :
    (iblk m hO c 3 t : FVec Ideal S1x64x128 .f32) (ix3 0 d s) = argC m c (ix4 0 p s d) := by
  refine Eq.trans ?_ (pool_at m c p d s)
  have hi : ((cfgM m hO).win 3).index t = ![p.val, 0, 0] := (spot0 (tbl m) (grid0.coords t)).trans (spot_at m c t b hb 0 x hx p hp)
  blk_ext [iblk, hi]
theorem pageB1 (t : Fin (cfgM m hO).N) (b : Fin 32) (hb : t.val / 2 = b.val) (x : Fin 64) (hx : 32 * (t.val % 2) + ((1 : Fin 32)).val = x.val) (p : Fin 2560) (hp : (argP m c (ix2 b x)).toNat = p.val) (d : Fin 64) (s : Fin 128) :
    (iblk m hO c 4 t : FVec Ideal S1x64x128 .f32) (ix3 0 d s) = argC m c (ix4 0 p s d) := by
  refine Eq.trans ?_ (pool_at m c p d s)
  have hi : ((cfgM m hO).win 4).index t = ![p.val, 0, 0] := (spot1 (tbl m) (grid0.coords t)).trans (spot_at m c t b hb 1 x hx p hp)
  blk_ext [iblk, hi]
theorem pageB2 (t : Fin (cfgM m hO).N) (b : Fin 32) (hb : t.val / 2 = b.val) (x : Fin 64) (hx : 32 * (t.val % 2) + ((2 : Fin 32)).val = x.val) (p : Fin 2560) (hp : (argP m c (ix2 b x)).toNat = p.val) (d : Fin 64) (s : Fin 128) :
    (iblk m hO c 5 t : FVec Ideal S1x64x128 .f32) (ix3 0 d s) = argC m c (ix4 0 p s d) := by
  refine Eq.trans ?_ (pool_at m c p d s)
  have hi : ((cfgM m hO).win 5).index t = ![p.val, 0, 0] := (spot2 (tbl m) (grid0.coords t)).trans (spot_at m c t b hb 2 x hx p hp)
  blk_ext [iblk, hi]
theorem pageB3 (t : Fin (cfgM m hO).N) (b : Fin 32) (hb : t.val / 2 = b.val) (x : Fin 64) (hx : 32 * (t.val % 2) + ((3 : Fin 32)).val = x.val) (p : Fin 2560) (hp : (argP m c (ix2 b x)).toNat = p.val) (d : Fin 64) (s : Fin 128) :
    (iblk m hO c 6 t : FVec Ideal S1x64x128 .f32) (ix3 0 d s) = argC m c (ix4 0 p s d) := by
  refine Eq.trans ?_ (pool_at m c p d s)
  have hi : ((cfgM m hO).win 6).index t = ![p.val, 0, 0] := (spot3 (tbl m) (grid0.coords t)).trans (spot_at m c t b hb 3 x hx p hp)
  blk_ext [iblk, hi]
theorem pageB4 (t : Fin (cfgM m hO).N) (b : Fin 32) (hb : t.val / 2 = b.val) (x : Fin 64) (hx : 32 * (t.val % 2) + ((4 : Fin 32)).val = x.val) (p : Fin 2560) (hp : (argP m c (ix2 b x)).toNat = p.val) (d : Fin 64) (s : Fin 128) :
    (iblk m hO c 7 t : FVec Ideal S1x64x128 .f32) (ix3 0 d s) = argC m c (ix4 0 p s d) := by
  refine Eq.trans ?_ (pool_at m c p d s)
  have hi : ((cfgM m hO).win 7).index t = ![p.val, 0, 0] := (spot4 (tbl m) (grid0.coords t)).trans (spot_at m c t b hb 4 x hx p hp)
  blk_ext [iblk, hi]
theorem pageB5 (t : Fin (cfgM m hO).N) (b : Fin 32) (hb : t.val / 2 = b.val) (x : Fin 64) (hx : 32 * (t.val % 2) + ((5 : Fin 32)).val = x.val) (p : Fin 2560) (hp : (argP m c (ix2 b x)).toNat = p.val) (d : Fin 64) (s : Fin 128) :
    (iblk m hO c 8 t : FVec Ideal S1x64x128 .f32) (ix3 0 d s) = argC m c (ix4 0 p s d) := by
  refine Eq.trans ?_ (pool_at m c p d s)
  have hi : ((cfgM m hO).win 8).index t = ![p.val, 0, 0] := (spot5 (tbl m) (grid0.coords t)).trans (spot_at m c t b hb 5 x hx p hp)
  blk_ext [iblk, hi]
theorem pageB6 (t : Fin (cfgM m hO).N) (b : Fin 32) (hb : t.val / 2 = b.val) (x : Fin 64) (hx : 32 * (t.val % 2) + ((6 : Fin 32)).val = x.val) (p : Fin 2560) (hp : (argP m c (ix2 b x)).toNat = p.val) (d : Fin 64) (s : Fin 128) :
    (iblk m hO c 9 t : FVec Ideal S1x64x128 .f32) (ix3 0 d s) = argC m c (ix4 0 p s d) := by
  refine Eq.trans ?_ (pool_at m c p d s)
  have hi : ((cfgM m hO).win 9).index t = ![p.val, 0, 0] := (spot6 (tbl m) (grid0.coords t)).trans (spot_at m c t b hb 6 x hx p hp)
  blk_ext [iblk, hi]
theorem pageB7 (t : Fin (cfgM m hO).N) (b : Fin 32) (hb : t.val / 2 = b.val) (x : Fin 64) (hx : 32 * (t.val % 2) + ((7 : Fin 32)).val = x.val) (p : Fin 2560) (hp : (argP m c (ix2 b x)).toNat = p.val) (d : Fin 64) (s : Fin 128) :
    (iblk m hO c 10 t : FVec Ideal S1x64x128 .f32) (ix3 0 d s) = argC m c (ix4 0 p s d) := by
  refine Eq.trans ?_ (pool_at m c p d s)
  have hi : ((cfgM m hO).win 10).index t = ![p.val, 0, 0] := (spot7 (tbl m) (grid0.coords t)).trans (spot_at m c t b hb 7 x hx p hp)
  blk_ext [iblk, hi]
theorem pageB8 (t : Fin (cfgM m hO).N) (b : Fin 32) (hb : t.val / 2 = b.val) (x : Fin 64) (hx : 32 * (t.val % 2) + ((8 : Fin 32)).val = x.val) (p : Fin 2560) (hp : (argP m c (ix2 b x)).toNat = p.val) (d : Fin 64) (s : Fin 128) :
    (iblk m hO c 11 t : FVec Ideal S1x64x128 .f32) (ix3 0 d s) = argC m c (ix4 0 p s d) := by
  refine Eq.trans ?_ (pool_at m c p d s)
  have hi : ((cfgM m hO).win 11).index t = ![p.val, 0, 0] := (spot8 (tbl m) (grid0.coords t)).trans (spot_at m c t b hb 8 x hx p hp)
  blk_ext [iblk, hi]
theorem pageB9 (t : Fin (cfgM m hO).N) (b : Fin 32) (hb : t.val / 2 = b.val) (x : Fin 64) (hx : 32 * (t.val % 2) + ((9 : Fin 32)).val = x.val) (p : Fin 2560) (hp : (argP m c (ix2 b x)).toNat = p.val) (d : Fin 64) (s : Fin 128) :
    (iblk m hO c 12 t : FVec Ideal S1x64x128 .f32) (ix3 0 d s) = argC m c (ix4 0 p s d) := by
  refine Eq.trans ?_ (pool_at m c p d s)
  have hi : ((cfgM m hO).win 12).index t = ![p.val, 0, 0] := (spot9 (tbl m) (grid0.coords t)).trans (spot_at m c t b hb 9 x hx p hp)
  blk_ext [iblk, hi]
theorem pageB10 (t : Fin (cfgM m hO).N) (b : Fin 32) (hb : t.val / 2 = b.val) (x : Fin 64) (hx : 32 * (t.val % 2) + ((10 : Fin 32)).val = x.val) (p : Fin 2560) (hp : (argP m c (ix2 b x)).toNat = p.val) (d : Fin 64) (s : Fin 128) :
    (iblk m hO c 13 t : FVec Ideal S1x64x128 .f32) (ix3 0 d s) = argC m c (ix4 0 p s d) := by
  refine Eq.trans ?_ (pool_at m c p d s)
  have hi : ((cfgM m hO).win 13).index t = ![p.val, 0, 0] := (spot10 (tbl m) (grid0.coords t)).trans (spot_at m c t b hb 10 x hx p hp)
  blk_ext [iblk, hi]
theorem pageB11 (t : Fin (cfgM m hO).N) (b : Fin 32) (hb : t.val / 2 = b.val) (x : Fin 64) (hx : 32 * (t.val % 2) + ((11 : Fin 32)).val = x.val) (p : Fin 2560) (hp : (argP m c (ix2 b x)).toNat = p.val) (d : Fin 64) (s : Fin 128) :
    (iblk m hO c 14 t : FVec Ideal S1x64x128 .f32) (ix3 0 d s) = argC m c (ix4 0 p s d) := by
  refine Eq.trans ?_ (pool_at m c p d s)
  have hi : ((cfgM m hO).win 14).index t = ![p.val, 0, 0] := (spot11 (tbl m) (grid0.coords t)).trans (spot_at m c t b hb 11 x hx p hp)
  blk_ext [iblk, hi]
theorem pageB12 (t : Fin (cfgM m hO).N) (b : Fin 32) (hb : t.val / 2 = b.val) (x : Fin 64) (hx : 32 * (t.val % 2) + ((12 : Fin 32)).val = x.val) (p : Fin 2560) (hp : (argP m c (ix2 b x)).toNat = p.val) (d : Fin 64) (s : Fin 128) :
    (iblk m hO c 15 t : FVec Ideal S1x64x128 .f32) (ix3 0 d s) = argC m c (ix4 0 p s d) := by
  refine Eq.trans ?_ (pool_at m c p d s)
  have hi : ((cfgM m hO).win 15).index t = ![p.val, 0, 0] := (spot12 (tbl m) (grid0.coords t)).trans (spot_at m c t b hb 12 x hx p hp)
  blk_ext [iblk, hi]
theorem pageB13 (t : Fin (cfgM m hO).N) (b : Fin 32) (hb : t.val / 2 = b.val) (x : Fin 64) (hx : 32 * (t.val % 2) + ((13 : Fin 32)).val = x.val) (p : Fin 2560) (hp : (argP m c (ix2 b x)).toNat = p.val) (d : Fin 64) (s : Fin 128) :
    (iblk m hO c 16 t : FVec Ideal S1x64x128 .f32) (ix3 0 d s) = argC m c (ix4 0 p s d) := by
  refine Eq.trans ?_ (pool_at m c p d s)
  have hi : ((cfgM m hO).win 16).index t = ![p.val, 0, 0] := (spot13 (tbl m) (grid0.coords t)).trans (spot_at m c t b hb 13 x hx p hp)
  blk_ext [iblk, hi]
theorem pageB14 (t : Fin (cfgM m hO).N) (b : Fin 32) (hb : t.val / 2 = b.val) (x : Fin 64) (hx : 32 * (t.val % 2) + ((14 : Fin 32)).val = x.val) (p : Fin 2560) (hp : (argP m c (ix2 b x)).toNat = p.val) (d : Fin 64) (s : Fin 128) :
    (iblk m hO c 17 t : FVec Ideal S1x64x128 .f32) (ix3 0 d s) = argC m c (ix4 0 p s d) := by
  refine Eq.trans ?_ (pool_at m c p d s)
  have hi : ((cfgM m hO).win 17).index t = ![p.val, 0, 0] := (spot14 (tbl m) (grid0.coords t)).trans (spot_at m c t b hb 14 x hx p hp)
  blk_ext [iblk, hi]
theorem pageB15 (t : Fin (cfgM m hO).N) (b : Fin 32) (hb : t.val / 2 = b.val) (x : Fin 64) (hx : 32 * (t.val % 2) + ((15 : Fin 32)).val = x.val) (p : Fin 2560) (hp : (argP m c (ix2 b x)).toNat = p.val) (d : Fin 64) (s : Fin 128) :
    (iblk m hO c 18 t : FVec Ideal S1x64x128 .f32) (ix3 0 d s) = argC m c (ix4 0 p s d) := by
  refine Eq.trans ?_ (pool_at m c p d s)
  have hi : ((cfgM m hO).win 18).index t = ![p.val, 0, 0] := (spot15 (tbl m) (grid0.coords t)).trans (spot_at m c t b hb 15 x hx p hp)
  blk_ext [iblk, hi]
theorem pageB16 (t : Fin (cfgM m hO).N) (b : Fin 32) (hb : t.val / 2 = b.val) (x : Fin 64) (hx : 32 * (t.val % 2) + ((16 : Fin 32)).val = x.val) (p : Fin 2560) (hp : (argP m c (ix2 b x)).toNat = p.val) (d : Fin 64) (s : Fin 128) :
    (iblk m hO c 19 t : FVec Ideal S1x64x128 .f32) (ix3 0 d s) = argC m c (ix4 0 p s d) := by
  refine Eq.trans ?_ (pool_at m c p d s)
  have hi : ((cfgM m hO).win 19).index t = ![p.val, 0, 0] := (spot16 (tbl m) (grid0.coords t)).trans (spot_at m c t b hb 16 x hx p hp)
  blk_ext [iblk, hi]
theorem pageB17 (t : Fin (cfgM m hO).N) (b : Fin 32) (hb : t.val / 2 = b.val) (x : Fin 64) (hx : 32 * (t.val % 2) + ((17 : Fin 32)).val = x.val) (p : Fin 2560) (hp : (argP m c (ix2 b x)).toNat = p.val) (d : Fin 64) (s : Fin 128) :
    (iblk m hO c 20 t : FVec Ideal S1x64x128 .f32) (ix3 0 d s) = argC m c (ix4 0 p s d) := by
  refine Eq.trans ?_ (pool_at m c p d s)
  have hi : ((cfgM m hO).win 20).index t = ![p.val, 0, 0] := (spot17 (tbl m) (grid0.coords t)).trans (spot_at m c t b hb 17 x hx p hp)
  blk_ext [iblk, hi]
theorem pageB18 (t : Fin (cfgM m hO).N) (b : Fin 32) (hb : t.val / 2 = b.val) (x : Fin 64) (hx : 32 * (t.val % 2) + ((18 : Fin 32)).val = x.val) (p : Fin 2560) (hp : (argP m c (ix2 b x)).toNat = p.val) (d : Fin 64) (s : Fin 128) :
    (iblk m hO c 21 t : FVec Ideal S1x64x128 .f32) (ix3 0 d s) = argC m c (ix4 0 p s d) := by
  refine Eq.trans ?_ (pool_at m c p d s)
  have hi : ((cfgM m hO).win 21).index t = ![p.val, 0, 0] := (spot18 (tbl m) (grid0.coords t)).trans (spot_at m c t b hb 18 x hx p hp)
  blk_ext [iblk, hi]
theorem pageB19 (t : Fin (cfgM m hO).N) (b : Fin 32) (hb : t.val / 2 = b.val) (x : Fin 64) (hx : 32 * (t.val % 2) + ((19 : Fin 32)).val = x.val) (p : Fin 2560) (hp : (argP m c (ix2 b x)).toNat = p.val) (d : Fin 64) (s : Fin 128) :
    (iblk m hO c 22 t : FVec Ideal S1x64x128 .f32) (ix3 0 d s) = argC m c (ix4 0 p s d) := by
  refine Eq.trans ?_ (pool_at m c p d s)
  have hi : ((cfgM m hO).win 22).index t = ![p.val, 0, 0] := (spot19 (tbl m) (grid0.coords t)).trans (spot_at m c t b hb 19 x hx p hp)
  blk_ext [iblk, hi]
theorem pageB20 (t : Fin (cfgM m hO).N) (b : Fin 32) (hb : t.val / 2 = b.val) (x : Fin 64) (hx : 32 * (t.val % 2) + ((20 : Fin 32)).val = x.val) (p : Fin 2560) (hp : (argP m c (ix2 b x)).toNat = p.val) (d : Fin 64) (s : Fin 128) :
    (iblk m hO c 23 t : FVec Ideal S1x64x128 .f32) (ix3 0 d s) = argC m c (ix4 0 p s d) := by
  refine Eq.trans ?_ (pool_at m c p d s)
  have hi : ((cfgM m hO).win 23).index t = ![p.val, 0, 0] := (spot20 (tbl m) (grid0.coords t)).trans (spot_at m c t b hb 20 x hx p hp)
  blk_ext [iblk, hi]
theorem pageB21 (t : Fin (cfgM m hO).N) (b : Fin 32) (hb : t.val / 2 = b.val) (x : Fin 64) (hx : 32 * (t.val % 2) + ((21 : Fin 32)).val = x.val) (p : Fin 2560) (hp : (argP m c (ix2 b x)).toNat = p.val) (d : Fin 64) (s : Fin 128) :
    (iblk m hO c 24 t : FVec Ideal S1x64x128 .f32) (ix3 0 d s) = argC m c (ix4 0 p s d) := by
  refine Eq.trans ?_ (pool_at m c p d s)
  have hi : ((cfgM m hO).win 24).index t = ![p.val, 0, 0] := (spot21 (tbl m) (grid0.coords t)).trans (spot_at m c t b hb 21 x hx p hp)
  blk_ext [iblk, hi]
theorem pageB22 (t : Fin (cfgM m hO).N) (b : Fin 32) (hb : t.val / 2 = b.val) (x : Fin 64) (hx : 32 * (t.val % 2) + ((22 : Fin 32)).val = x.val) (p : Fin 2560) (hp : (argP m c (ix2 b x)).toNat = p.val) (d : Fin 64) (s : Fin 128) :
    (iblk m hO c 25 t : FVec Ideal S1x64x128 .f32) (ix3 0 d s) = argC m c (ix4 0 p s d) := by
  refine Eq.trans ?_ (pool_at m c p d s)
  have hi : ((cfgM m hO).win 25).index t = ![p.val, 0, 0] := (spot22 (tbl m) (grid0.coords t)).trans (spot_at m c t b hb 22 x hx p hp)
  blk_ext [iblk, hi]
theorem pageB23 (t : Fin (cfgM m hO).N) (b : Fin 32) (hb : t.val / 2 = b.val) (x : Fin 64) (hx : 32 * (t.val % 2) + ((23 : Fin 32)).val = x.val) (p : Fin 2560) (hp : (argP m c (ix2 b x)).toNat = p.val) (d : Fin 64) (s : Fin 128) :
    (iblk m hO c 26 t : FVec Ideal S1x64x128 .f32) (ix3 0 d s) = argC m c (ix4 0 p s d) := by
  refine Eq.trans ?_ (pool_at m c p d s)
  have hi : ((cfgM m hO).win 26).index t = ![p.val, 0, 0] := (spot23 (tbl m) (grid0.coords t)).trans (spot_at m c t b hb 23 x hx p hp)
  blk_ext [iblk, hi]
theorem pageB24 (t : Fin (cfgM m hO).N) (b : Fin 32) (hb : t.val / 2 = b.val) (x : Fin 64) (hx : 32 * (t.val % 2) + ((24 : Fin 32)).val = x.val) (p : Fin 2560) (hp : (argP m c (ix2 b x)).toNat = p.val) (d : Fin 64) (s : Fin 128) :
    (iblk m hO c 27 t : FVec Ideal S1x64x128 .f32) (ix3 0 d s) = argC m c (ix4 0 p s d) := by
  refine Eq.trans ?_ (pool_at m c p d s)
  have hi : ((cfgM m hO).win 27).index t = ![p.val, 0, 0] := (spot24 (tbl m) (grid0.coords t)).trans (spot_at m c t b hb 24 x hx p hp)
  blk_ext [iblk, hi]
theorem pageB25 (t : Fin (cfgM m hO).N) (b : Fin 32) (hb : t.val / 2 = b.val) (x : Fin 64) (hx : 32 * (t.val % 2) + ((25 : Fin 32)).val = x.val) (p : Fin 2560) (hp : (argP m c (ix2 b x)).toNat = p.val) (d : Fin 64) (s : Fin 128) :
    (iblk m hO c 28 t : FVec Ideal S1x64x128 .f32) (ix3 0 d s) = argC m c (ix4 0 p s d) := by
  refine Eq.trans ?_ (pool_at m c p d s)
  have hi : ((cfgM m hO).win 28).index t = ![p.val, 0, 0] := (spot25 (tbl m) (grid0.coords t)).trans (spot_at m c t b hb 25 x hx p hp)
  blk_ext [iblk, hi]
theorem pageB26 (t : Fin (cfgM m hO).N) (b : Fin 32) (hb : t.val / 2 = b.val) (x : Fin 64) (hx : 32 * (t.val % 2) + ((26 : Fin 32)).val = x.val) (p : Fin 2560) (hp : (argP m c (ix2 b x)).toNat = p.val) (d : Fin 64) (s : Fin 128) :
    (iblk m hO c 29 t : FVec Ideal S1x64x128 .f32) (ix3 0 d s) = argC m c (ix4 0 p s d) := by
  refine Eq.trans ?_ (pool_at m c p d s)
  have hi : ((cfgM m hO).win 29).index t = ![p.val, 0, 0] := (spot26 (tbl m) (grid0.coords t)).trans (spot_at m c t b hb 26 x hx p hp)
  blk_ext [iblk, hi]
theorem pageB27 (t : Fin (cfgM m hO).N) (b : Fin 32) (hb : t.val / 2 = b.val) (x : Fin 64) (hx : 32 * (t.val % 2) + ((27 : Fin 32)).val = x.val) (p : Fin 2560) (hp : (argP m c (ix2 b x)).toNat = p.val) (d : Fin 64) (s : Fin 128) :
    (iblk m hO c 30 t : FVec Ideal S1x64x128 .f32) (ix3 0 d s) = argC m c (ix4 0 p s d) := by
  refine Eq.trans ?_ (pool_at m c p d s)
  have hi : ((cfgM m hO).win 30).index t = ![p.val, 0, 0] := (spot27 (tbl m) (grid0.coords t)).trans (spot_at m c t b hb 27 x hx p hp)
  blk_ext [iblk, hi]
theorem pageB28 (t : Fin (cfgM m hO).N) (b : Fin 32) (hb : t.val / 2 = b.val) (x : Fin 64) (hx : 32 * (t.val % 2) + ((28 : Fin 32)).val = x.val) (p : Fin 2560) (hp : (argP m c (ix2 b x)).toNat = p.val) (d : Fin 64) (s : Fin 128) :
    (iblk m hO c 31 t : FVec Ideal S1x64x128 .f32) (ix3 0 d s) = argC m c (ix4 0 p s d) := by
  refine Eq.trans ?_ (pool_at m c p d s)
  have hi : ((cfgM m hO).win 31).index t = ![p.val, 0, 0] := (spot28 (tbl m) (grid0.coords t)).trans (spot_at m c t b hb 28 x hx p hp)
  blk_ext [iblk, hi]
theorem pageB29 (t : Fin (cfgM m hO).N) (b : Fin 32) (hb : t.val / 2 = b.val) (x : Fin 64) (hx : 32 * (t.val % 2) + ((29 : Fin 32)).val = x.val) (p : Fin 2560) (hp : (argP m c (ix2 b x)).toNat = p.val) (d : Fin 64) (s : Fin 128) :
    (iblk m hO c 32 t : FVec Ideal S1x64x128 .f32) (ix3 0 d s) = argC m c (ix4 0 p s d) := by
  refine Eq.trans ?_ (pool_at m c p d s)
  have hi : ((cfgM m hO).win 32).index t = ![p.val, 0, 0] := (spot29 (tbl m) (grid0.coords t)).trans (spot_at m c t b hb 29 x hx p hp)
  blk_ext [iblk, hi]
theorem pageB30 (t : Fin (cfgM m hO).N) (b : Fin 32) (hb : t.val / 2 = b.val) (x : Fin 64) (hx : 32 * (t.val % 2) + ((30 : Fin 32)).val = x.val) (p : Fin 2560) (hp : (argP m c (ix2 b x)).toNat = p.val) (d : Fin 64) (s : Fin 128) :
    (iblk m hO c 33 t : FVec Ideal S1x64x128 .f32) (ix3 0 d s) = argC m c (ix4 0 p s d) := by
  refine Eq.trans ?_ (pool_at m c p d s)
  have hi : ((cfgM m hO).win 33).index t = ![p.val, 0, 0] := (spot30 (tbl m) (grid0.coords t)).trans (spot_at m c t b hb 30 x hx p hp)
  blk_ext [iblk, hi]
theorem pageB31 (t : Fin (cfgM m hO).N) (b : Fin 32) (hb : t.val / 2 = b.val) (x : Fin 64) (hx : 32 * (t.val % 2) + ((31 : Fin 32)).val = x.val) (p : Fin 2560) (hp : (argP m c (ix2 b x)).toNat = p.val) (d : Fin 64) (s : Fin 128) :
    (iblk m hO c 34 t : FVec Ideal S1x64x128 .f32) (ix3 0 d s) = argC m c (ix4 0 p s d) := by
  refine Eq.trans ?_ (pool_at m c p d s)
  have hi : ((cfgM m hO).win 34).index t = ![p.val, 0, 0] := (spot31 (tbl m) (grid0.coords t)).trans (spot_at m c t b hb 31 x hx p hp)
  blk_ext [iblk, hi]

/-- The pages of a grid point. -/
def pagesOf (t : Fin (cfgM m hO).N) : Fin 32 → FVec Ideal S1x64x128 .f32 :=
  ![iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t, iblk m hO c 15 t, iblk m hO c 16 t, iblk m hO c 17 t, iblk m hO c 18 t, iblk m hO c 19 t, iblk m hO c 20 t, iblk m hO c 21 t, iblk m hO c 22 t, iblk m hO c 23 t, iblk m hO c 24 t, iblk m hO c 25 t, iblk m hO c 26 t, iblk m hO c 27 t, iblk m hO c 28 t, iblk m hO c 29 t, iblk m hO c 30 t, iblk m hO c 31 t, iblk m hO c 32 t, iblk m hO c 33 t, iblk m hO c 34 t]

theorem all32 {P : Fin 32 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) (h16 : P 16) (h17 : P 17) (h18 : P 18) (h19 : P 19) (h20 : P 20) (h21 : P 21) (h22 : P 22) (h23 : P 23) (h24 : P 24) (h25 : P 25) (h26 : P 26) (h27 : P 27) (h28 : P 28) (h29 : P 29) (h30 : P 30) (h31 : P 31) : ∀ u, P u := fun u => match u with
  | ⟨0, _⟩ => h0
  | ⟨1, _⟩ => h1
  | ⟨2, _⟩ => h2
  | ⟨3, _⟩ => h3
  | ⟨4, _⟩ => h4
  | ⟨5, _⟩ => h5
  | ⟨6, _⟩ => h6
  | ⟨7, _⟩ => h7
  | ⟨8, _⟩ => h8
  | ⟨9, _⟩ => h9
  | ⟨10, _⟩ => h10
  | ⟨11, _⟩ => h11
  | ⟨12, _⟩ => h12
  | ⟨13, _⟩ => h13
  | ⟨14, _⟩ => h14
  | ⟨15, _⟩ => h15
  | ⟨16, _⟩ => h16
  | ⟨17, _⟩ => h17
  | ⟨18, _⟩ => h18
  | ⟨19, _⟩ => h19
  | ⟨20, _⟩ => h20
  | ⟨21, _⟩ => h21
  | ⟨22, _⟩ => h22
  | ⟨23, _⟩ => h23
  | ⟨24, _⟩ => h24
  | ⟨25, _⟩ => h25
  | ⟨26, _⟩ => h26
  | ⟨27, _⟩ => h27
  | ⟨28, _⟩ => h28
  | ⟨29, _⟩ => h29
  | ⟨30, _⟩ => h30
  | ⟨31, _⟩ => h31
  | ⟨_ + 32, h⟩ => absurd h (Nat.not_lt.2 (Nat.le_add_left _ _))

/-- A page window's block is the page. -/
abbrev IsPage (t : Fin (cfgM m hO).N) (b : Fin 32) (u : Fin 32) (K : FVec Ideal S1x64x128 .f32) : Prop :=
  ∀ (x : Fin 64) (hx : 32 * (t.val % 2) + u.val = x.val) (p : Fin 2560) (hp : (argP m c (ix2 b x)).toNat = p.val) (d : Fin 64) (s : Fin 128), K (ix3 0 d s) = argC m c (ix4 0 p s d)

set_option maxHeartbeats 8000000 in
theorem pages_at (t : Fin (cfgM m hO).N) (b : Fin 32) (hb : t.val / 2 = b.val) : ∀ u, IsPage m hO c t b u (pagesOf m hO c t u) :=
  all32 (P := fun u => IsPage m hO c t b u (pagesOf m hO c t u))
    (pageB0 m hO c t b hb)
    (pageB1 m hO c t b hb)
    (pageB2 m hO c t b hb)
    (pageB3 m hO c t b hb)
    (pageB4 m hO c t b hb)
    (pageB5 m hO c t b hb)
    (pageB6 m hO c t b hb)
    (pageB7 m hO c t b hb)
    (pageB8 m hO c t b hb)
    (pageB9 m hO c t b hb)
    (pageB10 m hO c t b hb)
    (pageB11 m hO c t b hb)
    (pageB12 m hO c t b hb)
    (pageB13 m hO c t b hb)
    (pageB14 m hO c t b hb)
    (pageB15 m hO c t b hb)
    (pageB16 m hO c t b hb)
    (pageB17 m hO c t b hb)
    (pageB18 m hO c t b hb)
    (pageB19 m hO c t b hb)
    (pageB20 m hO c t b hb)
    (pageB21 m hO c t b hb)
    (pageB22 m hO c t b hb)
    (pageB23 m hO c t b hb)
    (pageB24 m hO c t b hb)
    (pageB25 m hO c t b hb)
    (pageB26 m hO c t b hb)
    (pageB27 m hO c t b hb)
    (pageB28 m hO c t b hb)
    (pageB29 m hO c t b hb)
    (pageB30 m hO c t b hb)
    (pageB31 m hO c t b hb)

theorem paid_of {q q' : FVec Ideal S1x16x64 .f32} {w w' : FVec Ideal S1x16x1 .f32} {K0 K1 K2 K3 K4 K5 K6 K7 K8 K9 K10 K11 K12 K13 K14 K15 K16 K17 K18 K19 K20 K21 K22 K23 K24 K25 K26 K27 K28 K29 K30 K31 L0 L1 L2 L3 L4 L5 L6 L7 L8 L9 L10 L11 L12 L13 L14 L15 L16 L17 L18 L19 L20 L21 L22 L23 L24 L25 L26 L27 L28 L29 L30 L31 : FVec Ideal S1x64x128 .f32} (hq : q = q') (hw : w = w')
    (h0 : K0 = L0) (h1 : K1 = L1) (h2 : K2 = L2) (h3 : K3 = L3) (h4 : K4 = L4) (h5 : K5 = L5) (h6 : K6 = L6) (h7 : K7 = L7) (h8 : K8 = L8) (h9 : K9 = L9) (h10 : K10 = L10) (h11 : K11 = L11) (h12 : K12 = L12) (h13 : K13 = L13) (h14 : K14 = L14) (h15 : K15 = L15) (h16 : K16 = L16) (h17 : K17 = L17) (h18 : K18 = L18) (h19 : K19 = L19) (h20 : K20 = L20) (h21 : K21 = L21) (h22 : K22 = L22) (h23 : K23 = L23) (h24 : K24 = L24) (h25 : K25 = L25) (h26 : K26 = L26) (h27 : K27 = L27) (h28 : K28 = L28) (h29 : K29 = L29) (h30 : K30 = L30) (h31 : K31 = L31) :
    k0_pay39 (F := Ideal) (k0_pay2 q) (k0_pay3 w)
      (k0_pay4 q w K0)
      (k0_pay5 q w K1)
      (k0_pay8 (k0_pay6 q K2) (k0_pay7 w))
      (k0_pay9 (k0_pay2 q) (k0_pay3 w) K3)
      (k0_pay10 (k0_pay2 q) (k0_pay3 w) K4)
      (k0_pay11 (k0_pay2 q) (k0_pay3 w) K5)
      (k0_pay13 (k0_pay3 w) (k0_pay12 (k0_pay2 q) K6))
      (k0_pay14 (k0_pay2 q) (k0_pay3 w) K7)
      (k0_pay15 (k0_pay2 q) (k0_pay3 w) K8)
      (k0_pay16 (k0_pay2 q) (k0_pay3 w) K9)
      (k0_pay17 (k0_pay2 q) (k0_pay3 w) K10)
      (k0_pay18 (k0_pay2 q) (k0_pay3 w) K11)
      (k0_pay19 (k0_pay2 q) (k0_pay3 w) K12)
      (k0_pay20 (k0_pay2 q) (k0_pay3 w) K13)
      (k0_pay21 (k0_pay2 q) (k0_pay3 w) K14)
      (k0_pay22 (k0_pay2 q) (k0_pay3 w) K15)
      (k0_pay23 (k0_pay2 q) (k0_pay3 w) K16)
      (k0_pay26 (k0_pay24 (k0_pay2 q) K17) (k0_pay25 (k0_pay3 w)))
      (k0_pay27 (k0_pay2 q) (k0_pay3 w) K18)
      (k0_pay28 (k0_pay2 q) (k0_pay3 w) K19)
      (k0_pay29 (k0_pay2 q) (k0_pay3 w) K20)
      (k0_pay31 (k0_pay3 w) (k0_pay30 (k0_pay2 q) K21))
      (k0_pay32 (k0_pay2 q) (k0_pay3 w) K22)
      (k0_pay33 (k0_pay2 q) (k0_pay3 w) K23)
      (k0_pay34 (k0_pay2 q) (k0_pay3 w) K24)
      (k0_pay35 (k0_pay2 q) (k0_pay3 w) K25)
      (k0_pay36 (k0_pay2 q) (k0_pay3 w) K26)
      (k0_pay37 (k0_pay2 q) (k0_pay3 w) K27)
      (k0_pay38 (k0_pay2 q) (k0_pay3 w) K28)
      K29
      K30
      K31
      = shapeCast S1x1x4096 (rows q' w' ![L0, L1, L2, L3, L4, L5, L6, L7, L8, L9, L10, L11, L12, L13, L14, L15, L16, L17, L18, L19, L20, L21, L22, L23, L24, L25, L26, L27, L28, L29, L30, L31]) (by decide) := by
  subst hq hw h0 h1 h2 h3 h4 h5 h6 h7 h8 h9 h10 h11 h12 h13 h14 h15 h16 h17 h18 h19 h20 h21 h22 h23 h24 h25 h26 h27 h28 h29 h30 h31
  exact paid q w K0 K1 K2 K3 K4 K5 K6 K7 K8 K9 K10 K11 K12 K13 K14 K15 K16 K17 K18 K19 K20 K21 K22 K23 K24 K25 K26 K27 K28 K29 K30 K31

theorem stored35 (t : Fin (cfgM m hO).N) :
    (outsAt0 m hO c t.val t.isLt).1 = shapeCast S1x1x4096 (rows (iblk m hO c 0 t) (iblk m hO c 1 t) (pagesOf m hO c t)) (by decide) := by
  by_cases h0 : t.val % 2 = 1
  · rw [outsAt0_B m hO c t h0]
    frame_out
    exact paid_of ((hs0_0 m hO t).read_unread _) ((hs0_1 m hO t).read_unread _)
      ((hs0_3 m hO t).read_unread _) ((hs0_4 m hO t).read_unread _) ((hs0_5 m hO t).read_unread _) ((hs0_6 m hO t).read_unread _) ((hs0_7 m hO t).read_unread _) ((hs0_8 m hO t).read_unread _) ((hs0_9 m hO t).read_unread _) ((hs0_10 m hO t).read_unread _) ((hs0_11 m hO t).read_unread _) ((hs0_12 m hO t).read_unread _) ((hs0_13 m hO t).read_unread _) ((hs0_14 m hO t).read_unread _) ((hs0_15 m hO t).read_unread _) ((hs0_16 m hO t).read_unread _) ((hs0_17 m hO t).read_unread _) ((hs0_18 m hO t).read_unread _) ((hs0_19 m hO t).read_unread _) ((hs0_20 m hO t).read_unread _) ((hs0_21 m hO t).read_unread _) ((hs0_22 m hO t).read_unread _) ((hs0_23 m hO t).read_unread _) ((hs0_24 m hO t).read_unread _) ((hs0_25 m hO t).read_unread _) ((hs0_26 m hO t).read_unread _) ((hs0_27 m hO t).read_unread _) ((hs0_28 m hO t).read_unread _) ((hs0_29 m hO t).read_unread _) ((hs0_30 m hO t).read_unread _) ((hs0_31 m hO t).read_unread _) ((hs0_32 m hO t).read_unread _) ((hs0_33 m hO t).read_unread _) ((hs0_34 m hO t).read_unread _)
  · rw [outsAt0_A m hO c t h0]
    frame_out
    exact paid_of ((hs0_0 m hO t).read_unread _) ((hs0_1 m hO t).read_unread _)
      ((hs0_3 m hO t).read_unread _) ((hs0_4 m hO t).read_unread _) ((hs0_5 m hO t).read_unread _) ((hs0_6 m hO t).read_unread _) ((hs0_7 m hO t).read_unread _) ((hs0_8 m hO t).read_unread _) ((hs0_9 m hO t).read_unread _) ((hs0_10 m hO t).read_unread _) ((hs0_11 m hO t).read_unread _) ((hs0_12 m hO t).read_unread _) ((hs0_13 m hO t).read_unread _) ((hs0_14 m hO t).read_unread _) ((hs0_15 m hO t).read_unread _) ((hs0_16 m hO t).read_unread _) ((hs0_17 m hO t).read_unread _) ((hs0_18 m hO t).read_unread _) ((hs0_19 m hO t).read_unread _) ((hs0_20 m hO t).read_unread _) ((hs0_21 m hO t).read_unread _) ((hs0_22 m hO t).read_unread _) ((hs0_23 m hO t).read_unread _) ((hs0_24 m hO t).read_unread _) ((hs0_25 m hO t).read_unread _) ((hs0_26 m hO t).read_unread _) ((hs0_27 m hO t).read_unread _) ((hs0_28 m hO t).read_unread _) ((hs0_29 m hO t).read_unread _) ((hs0_30 m hO t).read_unread _) ((hs0_31 m hO t).read_unread _) ((hs0_32 m hO t).read_unread _) ((hs0_33 m hO t).read_unread _) ((hs0_34 m hO t).read_unread _)

theorem paid_new {q q' : FVec Ideal S1x16x64 .f32} {w w' : FVec Ideal S1x16x1 .f32} {k k' : FVec Ideal S1x64x1 .f32} (hq : q = q') (hw : w = w') (hk : k = k') :
    k0_pay1 (F := Ideal) (k0_pay2 q) (k0_pay3 w) k = k0_pay1 (F := Ideal) (k0_pay2 q') (k0_pay3 w') k' := by
  subst hq hw hk
  rfl

theorem stored36 (t : Fin (cfgM m hO).N) (h0 : t.val % 2 = 1) :
    (outsAt0 m hO c t.val t.isLt).2 = k0_pay1 (F := Ideal) (k0_pay2 (iblk m hO c 0 t)) (k0_pay3 (iblk m hO c 1 t)) (iblk m hO c 2 t) := by
  rw [outsAt0_B m hO c t h0]
  frame_out
  exact paid_new ((hs0_0 m hO t).read_unread _) ((hs0_1 m hO t).read_unread _) ((hs0_2 m hO t).read_unread _)

/-- A table of zeros, at which the output windows can be looked at. -/
def zeros : pre0.Contents (Elt Ideal) := fun | 0 => (fun _ => 0#32 : S32x64.Idx → BitVec 32)

theorem zeros_ok : ok0 (F := Ideal) zeros := ok_of zeros fun _ _ => (by decide : (0#32).toNat < 2560)

theorem covers35 : ((cfg0 (F := Ideal) ⟨zeros, zeros_ok⟩).win 35).Covers := by decide +kernel
theorem covers36 : ((cfg0 (F := Ideal) ⟨zeros, zeros_ok⟩).win 36).Covers := by decide +kernel

theorem covers_pages : ((cfgM m hO).win 35).Covers := covers35
theorem covers_new : ((cfgM m hO).win 36).Covers := covers36

/-- The result of the pages. -/
def out35 : FVec Ideal S32x1x8192 .f32 := fun i => scores (argP m c) (argQ m c) (argW m c) (argK m c) (argC m c) (ix3 (i 0) 0 ⟨(i 2).val, by have h : (i 2).val < 8192 := (i 2).isLt; omega⟩)
/-- The result of the new key. -/
def out36 : FVec Ideal S32x1x128 .f32 := fun i => scores (argP m c) (argQ m c) (argW m c) (argK m c) (argC m c) (ix3 (i 0) 0 8192)

theorem piece35 (hp : ∀ b x, (argP m c (ix2 b x)).toNat < 2560) (t : Fin (cfgM m hO).N) (b : Fin 32) (hb : t.val / 2 = b.val) (k : Fin 4096) (j : Fin 8193) (hj : 4096 * (t.val % 2) + k.val = j.val) :
    @Eq EReal ((shapeCast S1x1x4096 (rows (iblk m hO c 0 t) (iblk m hO c 1 t) (pagesOf m hO c t)) (by decide) : FVec Ideal S1x1x4096 .f32) (ix3 0 0 k))
      (scores (argP m c) (argQ m c) (argW m c) (argK m c) (argC m c) (ix3 b 0 j)) := by
  have hk : k = ⟨128 * (⟨k.val / 128, by omega⟩ : Fin 32).val + (⟨k.val % 128, by omega⟩ : Fin 128).val, by dsimp only; omega⟩ := Fin.ext (by dsimp only; omega)
  have hj' : j.val < 8192 := by omega
  refine Eq.trans ?_ (scores_at _ _ _ _ _ b j).symm
  rw [hk]
  refine (all_at _ _ _ ⟨k.val / 128, by omega⟩ ⟨k.val % 128, by omega⟩).trans ?_
  have h1 : (fun h d => (iblk m hO c 0 t : FVec Ideal S1x16x64 .f32) (ix3 0 h d)) = fun (h : Fin 16) (d : Fin 64) => argQ m c (ix4 b 0 h d) := funext fun h => funext fun d => queriesB m hO c t b hb h d
  have h2 : (fun h => (iblk m hO c 1 t : FVec Ideal S1x16x1 .f32) (ix3 0 h 0)) = fun (h : Fin 16) => argW m c (ix3 b 0 h) := funext fun h => weightsB m hO c t b hb h
  have h3 : (fun d => pagesOf m hO c t ⟨k.val / 128, by omega⟩ (ix3 0 d ⟨k.val % 128, by omega⟩)) = fun (d : Fin 64) => keys (argP m c) (argK m c) (argC m c) (ix3 b j d) := funext fun d => by
    refine (pages_at m hO c t b hb ⟨k.val / 128, by omega⟩ ⟨32 * (t.val % 2) + k.val / 128, by omega⟩ rfl ⟨_, hp b _⟩ rfl d _).trans ?_
    refine Eq.trans ?_ (keys_past _ _ _ b j hj' d).symm
    refine (past_at (argP m c) (argC m c) b ⟨32 * (t.val % 2) + k.val / 128, by omega⟩ ⟨k.val % 128, by omega⟩ d (hp b _)).symm.trans ?_
    exact congrArg (fun i : Fin 8192 => past (argP m c) (argC m c) (ix3 b i d)) (Fin.ext (by dsimp only; omega))
  exact congr (congr (congrArg score h1) h2) h3

theorem piece36 (t : Fin (cfgM m hO).N) (b : Fin 32) (hb : t.val / 2 = b.val) (s : Fin 128) :
    @Eq EReal (k0_pay1 (F := Ideal) (k0_pay2 (iblk m hO c 0 t)) (k0_pay3 (iblk m hO c 1 t)) (iblk m hO c 2 t) (ix3 0 0 s))
      (scores (argP m c) (argQ m c) (argW m c) (argK m c) (argC m c) (ix3 b 0 8192)) := by
  refine Eq.trans ?_ (scores_at _ _ _ _ _ b 8192).symm
  refine (new_at _ _ _ s).trans ?_
  have h1 : (fun h d => (iblk m hO c 0 t : FVec Ideal S1x16x64 .f32) (ix3 0 h d)) = fun (h : Fin 16) (d : Fin 64) => argQ m c (ix4 b 0 h d) := funext fun h => funext fun d => queriesB m hO c t b hb h d
  have h2 : (fun h => (iblk m hO c 1 t : FVec Ideal S1x16x1 .f32) (ix3 0 h 0)) = fun (h : Fin 16) => argW m c (ix3 b 0 h) := funext fun h => weightsB m hO c t b hb h
  have h3 : (fun d => (iblk m hO c 2 t : FVec Ideal S1x64x1 .f32) (ix3 0 d 0)) = fun (d : Fin 64) => keys (argP m c) (argK m c) (argC m c) (ix3 b 8192 d) := funext fun d =>
    (new_keyB m hO c t b hb d).trans (keys_new _ _ _ b 8192 rfl d).symm
  exact congr (congr (congrArg score h1) h2) h3

theorem written35 (hp : ∀ b x, (argP m c (ix2 b x)).toNat < 2560) : (dats m hO 0 c).arrAt 35 (cfgM m hO).N = out35 m c := by
  refine (dats m hO 0 c).arrAt_eq_of_covers 35 _ (covers_pages m hO) fun t _ (y : S1x1x4096.Idx) => ?_
  have hN : t.val < 64 := t.isLt
  have hi : ((cfgM m hO).win 35).index t = ![t.val / 2, 0, t.val % 2] := (row_of t).2.2.2.1
  blk_simp
  rw [after0_35, stored35]
  idx_vars y
  obtain rfl : y0 = 0 := Subsingleton.elim _ _
  obtain rfl : y1 = 0 := Subsingleton.elim _ _
  refine (piece35 m hO c hp t ⟨t.val / 2, by omega⟩ rfl y2 ⟨4096 * (t.val % 2) + y2.val, by omega⟩ rfl).trans ?_
  unfold out35
  blk_ext [hi]

theorem written36 : (dats m hO 0 c).arrAt 36 (cfgM m hO).N = out36 m c := by
  refine (dats m hO 0 c).arrAt_eq_of_covers 36 _ (covers_new m hO) fun t hf (y : S1x1x128.Idx) => ?_
  have hN : t.val < 64 := t.isLt
  have hi : ((cfgM m hO).win 36).index t = ![t.val / 2, 0, 0] := (row_of t).2.2.2.2.1
  blk_simp
  rw [after0_36, stored36 m hO c t ((flush0_36 (adm m hO) t).1 hf)]
  idx_vars y
  obtain rfl : y0 = 0 := Subsingleton.elim _ _
  obtain rfl : y1 = 0 := Subsingleton.elim _ _
  refine (piece36 m hO c t ⟨t.val / 2, by omega⟩ rfl y2).trans ?_
  unfold out36
  blk_ext [hi]

end Cert.ScoresIdeal.Whole
-- ==== Proof.ScFrame.lean ====
/- The indexer through the page table: the run of the whole program. -/
module

public import proofs.«01_k».proof.Proof.ScOut
public import Idealize.ShloMosaic.Lib.Claim

@[expose] public section

set_option maxRecDepth 16384

noncomputable section

namespace Cert.ScoresIdeal.Whole

open Cert.ScoresIdeal Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t
    ∗ (dats m hO 0 c).leavesExact 20 t
    ∗ (dats m hO 0 c).leavesExact 21 t
    ∗ (dats m hO 0 c).leavesExact 22 t
    ∗ (dats m hO 0 c).leavesExact 23 t
    ∗ (dats m hO 0 c).leavesExact 24 t
    ∗ (dats m hO 0 c).leavesExact 25 t
    ∗ (dats m hO 0 c).leavesExact 26 t
    ∗ (dats m hO 0 c).leavesExact 27 t
    ∗ (dats m hO 0 c).leavesExact 28 t
    ∗ (dats m hO 0 c).leavesExact 29 t
    ∗ (dats m hO 0 c).leavesExact 30 t
    ∗ (dats m hO 0 c).leavesExact 31 t
    ∗ (dats m hO 0 c).leavesExact 32 t
    ∗ (dats m hO 0 c).leavesExact 33 t
    ∗ (dats m hO 0 c).leavesExact 34 t
    ∗ (dats m hO 0 c).leavesExact 35 t
    ∗ (dats m hO 0 c).leavesExact 36 t)

set_option maxHeartbeats 7200000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  have hN : t.val < 64 := lt_of_lt_of_eq t.isLt (show (cfgM m hO).N = 64 from N_0)
  by_cases h0 : t.val % 2 = 1
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    rw [show (dats m hO 0 c).leavesExact 6 t = owns (c : Thread nD τ) (ms0_6 m hO t) fullShare ((dats m hO 0 c).after 6 t) from by
      unfold Dat.leavesExact; rw [liveAt0_6 m hO t]; try rfl, after0_6]
    rw [show (dats m hO 0 c).leavesExact 7 t = owns (c : Thread nD τ) (ms0_7 m hO t) fullShare ((dats m hO 0 c).after 7 t) from by
      unfold Dat.leavesExact; rw [liveAt0_7 m hO t]; try rfl, after0_7]
    rw [show (dats m hO 0 c).leavesExact 8 t = owns (c : Thread nD τ) (ms0_8 m hO t) fullShare ((dats m hO 0 c).after 8 t) from by
      unfold Dat.leavesExact; rw [liveAt0_8 m hO t]; try rfl, after0_8]
    rw [show (dats m hO 0 c).leavesExact 9 t = owns (c : Thread nD τ) (ms0_9 m hO t) fullShare ((dats m hO 0 c).after 9 t) from by
      unfold Dat.leavesExact; rw [liveAt0_9 m hO t]; try rfl, after0_9]
    rw [show (dats m hO 0 c).leavesExact 10 t = owns (c : Thread nD τ) (ms0_10 m hO t) fullShare ((dats m hO 0 c).after 10 t) from by
      unfold Dat.leavesExact; rw [liveAt0_10 m hO t]; try rfl, after0_10]
    rw [show (dats m hO 0 c).leavesExact 11 t = owns (c : Thread nD τ) (ms0_11 m hO t) fullShare ((dats m hO 0 c).after 11 t) from by
      unfold Dat.leavesExact; rw [liveAt0_11 m hO t]; try rfl, after0_11]
    rw [show (dats m hO 0 c).leavesExact 12 t = owns (c : Thread nD τ) (ms0_12 m hO t) fullShare ((dats m hO 0 c).after 12 t) from by
      unfold Dat.leavesExact; rw [liveAt0_12 m hO t]; try rfl, after0_12]
    rw [show (dats m hO 0 c).leavesExact 13 t = owns (c : Thread nD τ) (ms0_13 m hO t) fullShare ((dats m hO 0 c).after 13 t) from by
      unfold Dat.leavesExact; rw [liveAt0_13 m hO t]; try rfl, after0_13]
    rw [show (dats m hO 0 c).leavesExact 14 t = owns (c : Thread nD τ) (ms0_14 m hO t) fullShare ((dats m hO 0 c).after 14 t) from by
      unfold Dat.leavesExact; rw [liveAt0_14 m hO t]; try rfl, after0_14]
    rw [show (dats m hO 0 c).leavesExact 15 t = owns (c : Thread nD τ) (ms0_15 m hO t) fullShare ((dats m hO 0 c).after 15 t) from by
      unfold Dat.leavesExact; rw [liveAt0_15 m hO t]; try rfl, after0_15]
    rw [show (dats m hO 0 c).leavesExact 16 t = owns (c : Thread nD τ) (ms0_16 m hO t) fullShare ((dats m hO 0 c).after 16 t) from by
      unfold Dat.leavesExact; rw [liveAt0_16 m hO t]; try rfl, after0_16]
    rw [show (dats m hO 0 c).leavesExact 17 t = owns (c : Thread nD τ) (ms0_17 m hO t) fullShare ((dats m hO 0 c).after 17 t) from by
      unfold Dat.leavesExact; rw [liveAt0_17 m hO t]; try rfl, after0_17]
    rw [show (dats m hO 0 c).leavesExact 18 t = owns (c : Thread nD τ) (ms0_18 m hO t) fullShare ((dats m hO 0 c).after 18 t) from by
      unfold Dat.leavesExact; rw [liveAt0_18 m hO t]; try rfl, after0_18]
    rw [show (dats m hO 0 c).leavesExact 19 t = owns (c : Thread nD τ) (ms0_19 m hO t) fullShare ((dats m hO 0 c).after 19 t) from by
      unfold Dat.leavesExact; rw [liveAt0_19 m hO t]; try rfl, after0_19]
    rw [show (dats m hO 0 c).leavesExact 20 t = owns (c : Thread nD τ) (ms0_20 m hO t) fullShare ((dats m hO 0 c).after 20 t) from by
      unfold Dat.leavesExact; rw [liveAt0_20 m hO t]; try rfl, after0_20]
    rw [show (dats m hO 0 c).leavesExact 21 t = owns (c : Thread nD τ) (ms0_21 m hO t) fullShare ((dats m hO 0 c).after 21 t) from by
      unfold Dat.leavesExact; rw [liveAt0_21 m hO t]; try rfl, after0_21]
    rw [show (dats m hO 0 c).leavesExact 22 t = owns (c : Thread nD τ) (ms0_22 m hO t) fullShare ((dats m hO 0 c).after 22 t) from by
      unfold Dat.leavesExact; rw [liveAt0_22 m hO t]; try rfl, after0_22]
    rw [show (dats m hO 0 c).leavesExact 23 t = owns (c : Thread nD τ) (ms0_23 m hO t) fullShare ((dats m hO 0 c).after 23 t) from by
      unfold Dat.leavesExact; rw [liveAt0_23 m hO t]; try rfl, after0_23]
    rw [show (dats m hO 0 c).leavesExact 24 t = owns (c : Thread nD τ) (ms0_24 m hO t) fullShare ((dats m hO 0 c).after 24 t) from by
      unfold Dat.leavesExact; rw [liveAt0_24 m hO t]; try rfl, after0_24]
    rw [show (dats m hO 0 c).leavesExact 25 t = owns (c : Thread nD τ) (ms0_25 m hO t) fullShare ((dats m hO 0 c).after 25 t) from by
      unfold Dat.leavesExact; rw [liveAt0_25 m hO t]; try rfl, after0_25]
    rw [show (dats m hO 0 c).leavesExact 26 t = owns (c : Thread nD τ) (ms0_26 m hO t) fullShare ((dats m hO 0 c).after 26 t) from by
      unfold Dat.leavesExact; rw [liveAt0_26 m hO t]; try rfl, after0_26]
    rw [show (dats m hO 0 c).leavesExact 27 t = owns (c : Thread nD τ) (ms0_27 m hO t) fullShare ((dats m hO 0 c).after 27 t) from by
      unfold Dat.leavesExact; rw [liveAt0_27 m hO t]; try rfl, after0_27]
    rw [show (dats m hO 0 c).leavesExact 28 t = owns (c : Thread nD τ) (ms0_28 m hO t) fullShare ((dats m hO 0 c).after 28 t) from by
      unfold Dat.leavesExact; rw [liveAt0_28 m hO t]; try rfl, after0_28]
    rw [show (dats m hO 0 c).leavesExact 29 t = owns (c : Thread nD τ) (ms0_29 m hO t) fullShare ((dats m hO 0 c).after 29 t) from by
      unfold Dat.leavesExact; rw [liveAt0_29 m hO t]; try rfl, after0_29]
    rw [show (dats m hO 0 c).leavesExact 30 t = owns (c : Thread nD τ) (ms0_30 m hO t) fullShare ((dats m hO 0 c).after 30 t) from by
      unfold Dat.leavesExact; rw [liveAt0_30 m hO t]; try rfl, after0_30]
    rw [show (dats m hO 0 c).leavesExact 31 t = owns (c : Thread nD τ) (ms0_31 m hO t) fullShare ((dats m hO 0 c).after 31 t) from by
      unfold Dat.leavesExact; rw [liveAt0_31 m hO t]; try rfl, after0_31]
    rw [show (dats m hO 0 c).leavesExact 32 t = owns (c : Thread nD τ) (ms0_32 m hO t) fullShare ((dats m hO 0 c).after 32 t) from by
      unfold Dat.leavesExact; rw [liveAt0_32 m hO t]; try rfl, after0_32]
    rw [show (dats m hO 0 c).leavesExact 33 t = owns (c : Thread nD τ) (ms0_33 m hO t) fullShare ((dats m hO 0 c).after 33 t) from by
      unfold Dat.leavesExact; rw [liveAt0_33 m hO t]; try rfl, after0_33]
    rw [show (dats m hO 0 c).leavesExact 34 t = owns (c : Thread nD τ) (ms0_34 m hO t) fullShare ((dats m hO 0 c).after 34 t) from by
      unfold Dat.leavesExact; rw [liveAt0_34 m hO t]; try rfl, after0_34]
    rw [show (dats m hO 0 c).leavesExact 35 t = owns (c : Thread nD τ) (ms0_35 m hO t) fullShare ((dats m hO 0 c).after 35 t) from by
      unfold Dat.leavesExact; rw [liveAt0_35 m hO t]; try rfl, after0_35]
    rw [show (dats m hO 0 c).leavesExact 36 t = owns (c : Thread nD τ) (ms0_36 m hO t) fullShare ((dats m hO 0 c).after 36 t) from by
      unfold Dat.leavesExact; rw [liveAt0_36_B m hO t ((hcond0_0 t).mpr h0)]; try rfl, after0_36]
    rw [outsAt0_B m hO c t h0]
    unfold out0_B_35 out0_B_36; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexists _; iexact H35
    isplitl [H36]; · iexists _; iexact H36
    isplitl [HT0]; · iexact HT0
    iintro ⟨H0, H1, H2, H3, H4, H5, H6, H7, H8, H9, H10, H11, H12, H13, H14, H15, H16, H17, H18, H19, H20, H21, H22, H23, H24, H25, H26, H27, H28, H29, H30, H31, H32, H33, H34, ⟨%e35, H35⟩, ⟨%e36, H36⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]
    · unfold owns; iexists _; isplitr
      swap; · iexact H35
      ipureintro; exact View.read_writes_of_cover _ _ _ _ _ (cover0_B_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H36
    ipureintro; exact View.read_writes_of_cover _ _ _ _ _ (cover0_B_36 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    rw [show (dats m hO 0 c).leavesExact 6 t = owns (c : Thread nD τ) (ms0_6 m hO t) fullShare ((dats m hO 0 c).after 6 t) from by
      unfold Dat.leavesExact; rw [liveAt0_6 m hO t]; try rfl, after0_6]
    rw [show (dats m hO 0 c).leavesExact 7 t = owns (c : Thread nD τ) (ms0_7 m hO t) fullShare ((dats m hO 0 c).after 7 t) from by
      unfold Dat.leavesExact; rw [liveAt0_7 m hO t]; try rfl, after0_7]
    rw [show (dats m hO 0 c).leavesExact 8 t = owns (c : Thread nD τ) (ms0_8 m hO t) fullShare ((dats m hO 0 c).after 8 t) from by
      unfold Dat.leavesExact; rw [liveAt0_8 m hO t]; try rfl, after0_8]
    rw [show (dats m hO 0 c).leavesExact 9 t = owns (c : Thread nD τ) (ms0_9 m hO t) fullShare ((dats m hO 0 c).after 9 t) from by
      unfold Dat.leavesExact; rw [liveAt0_9 m hO t]; try rfl, after0_9]
    rw [show (dats m hO 0 c).leavesExact 10 t = owns (c : Thread nD τ) (ms0_10 m hO t) fullShare ((dats m hO 0 c).after 10 t) from by
      unfold Dat.leavesExact; rw [liveAt0_10 m hO t]; try rfl, after0_10]
    rw [show (dats m hO 0 c).leavesExact 11 t = owns (c : Thread nD τ) (ms0_11 m hO t) fullShare ((dats m hO 0 c).after 11 t) from by
      unfold Dat.leavesExact; rw [liveAt0_11 m hO t]; try rfl, after0_11]
    rw [show (dats m hO 0 c).leavesExact 12 t = owns (c : Thread nD τ) (ms0_12 m hO t) fullShare ((dats m hO 0 c).after 12 t) from by
      unfold Dat.leavesExact; rw [liveAt0_12 m hO t]; try rfl, after0_12]
    rw [show (dats m hO 0 c).leavesExact 13 t = owns (c : Thread nD τ) (ms0_13 m hO t) fullShare ((dats m hO 0 c).after 13 t) from by
      unfold Dat.leavesExact; rw [liveAt0_13 m hO t]; try rfl, after0_13]
    rw [show (dats m hO 0 c).leavesExact 14 t = owns (c : Thread nD τ) (ms0_14 m hO t) fullShare ((dats m hO 0 c).after 14 t) from by
      unfold Dat.leavesExact; rw [liveAt0_14 m hO t]; try rfl, after0_14]
    rw [show (dats m hO 0 c).leavesExact 15 t = owns (c : Thread nD τ) (ms0_15 m hO t) fullShare ((dats m hO 0 c).after 15 t) from by
      unfold Dat.leavesExact; rw [liveAt0_15 m hO t]; try rfl, after0_15]
    rw [show (dats m hO 0 c).leavesExact 16 t = owns (c : Thread nD τ) (ms0_16 m hO t) fullShare ((dats m hO 0 c).after 16 t) from by
      unfold Dat.leavesExact; rw [liveAt0_16 m hO t]; try rfl, after0_16]
    rw [show (dats m hO 0 c).leavesExact 17 t = owns (c : Thread nD τ) (ms0_17 m hO t) fullShare ((dats m hO 0 c).after 17 t) from by
      unfold Dat.leavesExact; rw [liveAt0_17 m hO t]; try rfl, after0_17]
    rw [show (dats m hO 0 c).leavesExact 18 t = owns (c : Thread nD τ) (ms0_18 m hO t) fullShare ((dats m hO 0 c).after 18 t) from by
      unfold Dat.leavesExact; rw [liveAt0_18 m hO t]; try rfl, after0_18]
    rw [show (dats m hO 0 c).leavesExact 19 t = owns (c : Thread nD τ) (ms0_19 m hO t) fullShare ((dats m hO 0 c).after 19 t) from by
      unfold Dat.leavesExact; rw [liveAt0_19 m hO t]; try rfl, after0_19]
    rw [show (dats m hO 0 c).leavesExact 20 t = owns (c : Thread nD τ) (ms0_20 m hO t) fullShare ((dats m hO 0 c).after 20 t) from by
      unfold Dat.leavesExact; rw [liveAt0_20 m hO t]; try rfl, after0_20]
    rw [show (dats m hO 0 c).leavesExact 21 t = owns (c : Thread nD τ) (ms0_21 m hO t) fullShare ((dats m hO 0 c).after 21 t) from by
      unfold Dat.leavesExact; rw [liveAt0_21 m hO t]; try rfl, after0_21]
    rw [show (dats m hO 0 c).leavesExact 22 t = owns (c : Thread nD τ) (ms0_22 m hO t) fullShare ((dats m hO 0 c).after 22 t) from by
      unfold Dat.leavesExact; rw [liveAt0_22 m hO t]; try rfl, after0_22]
    rw [show (dats m hO 0 c).leavesExact 23 t = owns (c : Thread nD τ) (ms0_23 m hO t) fullShare ((dats m hO 0 c).after 23 t) from by
      unfold Dat.leavesExact; rw [liveAt0_23 m hO t]; try rfl, after0_23]
    rw [show (dats m hO 0 c).leavesExact 24 t = owns (c : Thread nD τ) (ms0_24 m hO t) fullShare ((dats m hO 0 c).after 24 t) from by
      unfold Dat.leavesExact; rw [liveAt0_24 m hO t]; try rfl, after0_24]
    rw [show (dats m hO 0 c).leavesExact 25 t = owns (c : Thread nD τ) (ms0_25 m hO t) fullShare ((dats m hO 0 c).after 25 t) from by
      unfold Dat.leavesExact; rw [liveAt0_25 m hO t]; try rfl, after0_25]
    rw [show (dats m hO 0 c).leavesExact 26 t = owns (c : Thread nD τ) (ms0_26 m hO t) fullShare ((dats m hO 0 c).after 26 t) from by
      unfold Dat.leavesExact; rw [liveAt0_26 m hO t]; try rfl, after0_26]
    rw [show (dats m hO 0 c).leavesExact 27 t = owns (c : Thread nD τ) (ms0_27 m hO t) fullShare ((dats m hO 0 c).after 27 t) from by
      unfold Dat.leavesExact; rw [liveAt0_27 m hO t]; try rfl, after0_27]
    rw [show (dats m hO 0 c).leavesExact 28 t = owns (c : Thread nD τ) (ms0_28 m hO t) fullShare ((dats m hO 0 c).after 28 t) from by
      unfold Dat.leavesExact; rw [liveAt0_28 m hO t]; try rfl, after0_28]
    rw [show (dats m hO 0 c).leavesExact 29 t = owns (c : Thread nD τ) (ms0_29 m hO t) fullShare ((dats m hO 0 c).after 29 t) from by
      unfold Dat.leavesExact; rw [liveAt0_29 m hO t]; try rfl, after0_29]
    rw [show (dats m hO 0 c).leavesExact 30 t = owns (c : Thread nD τ) (ms0_30 m hO t) fullShare ((dats m hO 0 c).after 30 t) from by
      unfold Dat.leavesExact; rw [liveAt0_30 m hO t]; try rfl, after0_30]
    rw [show (dats m hO 0 c).leavesExact 31 t = owns (c : Thread nD τ) (ms0_31 m hO t) fullShare ((dats m hO 0 c).after 31 t) from by
      unfold Dat.leavesExact; rw [liveAt0_31 m hO t]; try rfl, after0_31]
    rw [show (dats m hO 0 c).leavesExact 32 t = owns (c : Thread nD τ) (ms0_32 m hO t) fullShare ((dats m hO 0 c).after 32 t) from by
      unfold Dat.leavesExact; rw [liveAt0_32 m hO t]; try rfl, after0_32]
    rw [show (dats m hO 0 c).leavesExact 33 t = owns (c : Thread nD τ) (ms0_33 m hO t) fullShare ((dats m hO 0 c).after 33 t) from by
      unfold Dat.leavesExact; rw [liveAt0_33 m hO t]; try rfl, after0_33]
    rw [show (dats m hO 0 c).leavesExact 34 t = owns (c : Thread nD τ) (ms0_34 m hO t) fullShare ((dats m hO 0 c).after 34 t) from by
      unfold Dat.leavesExact; rw [liveAt0_34 m hO t]; try rfl, after0_34]
    rw [show (dats m hO 0 c).leavesExact 35 t = owns (c : Thread nD τ) (ms0_35 m hO t) fullShare ((dats m hO 0 c).after 35 t) from by
      unfold Dat.leavesExact; rw [liveAt0_35 m hO t]; try rfl, after0_35]
    rw [Dat.leavesExact_idle (dats m hO 0 c) 36 t (idleAt0_36_A m hO t (fun h => h0 ((hcond0_0 t).mp h))) (noFlush0_36_A m hO t (fun h => h0 ((hcond0_0 t).mp h)))]
    rw [outsAt0_A m hO c t h0]
    unfold out0_A_35; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (tbl m 0)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexists _; iexact H35
    isplitl [H36]; · iexact H36
    isplitl [HT0]; · iexact HT0
    iintro ⟨H0, H1, H2, H3, H4, H5, H6, H7, H8, H9, H10, H11, H12, H13, H14, H15, H16, H17, H18, H19, H20, H21, H22, H23, H24, H25, H26, H27, H28, H29, H30, H31, H32, H33, H34, ⟨%e35, H35⟩, H36, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]
    · unfold owns; iexists _; isplitr
      swap; · iexact H35
      ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    iexists _; iexact H36

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl
set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.ScoresIdeal.Whole

end
-- ==== Proof.ScoresResults.lean ====
/- The reference's two results at an index, and what a run leaves. -/
module

public import proofs.«01_k».proof.Proof.ScoresBlocks
public import proofs.«01_k».proof.Proof.ScFrame

@[expose] public section

set_option maxRecDepth 16384

noncomputable section

open Idealize.ShloMosaic Idealize.ShloMosaic.TcCoe Idealize.SL.Sem
open Idealize.ShloMosaic.Pipeline (Dat)

namespace Cert.ScoresRefIdeal.Spec

open Cert.ScoresRefIdeal Cert.ScoresRefIdeal.Gen

/-- The reference's two results. -/
def first (pt : IVec S32x64 32) (q : FVec Ideal S32x1x16x64 .f32) (w : FVec Ideal S32x1x16 .f32) (kn : FVec Ideal S32x1x64 .f32) (cache : FVec Ideal S1x2560x128x64 .f32) : FVec Ideal S32x1x8192 .f32 :=
  extractStridedSlice S32x1x8192 ![0, 0, 0] (scores pt q w kn cache) (by decide)
def second (pt : IVec S32x64 32) (q : FVec Ideal S32x1x16x64 .f32) (w : FVec Ideal S32x1x16 .f32) (kn : FVec Ideal S32x1x64 .f32) (cache : FVec Ideal S1x2560x128x64 .f32) : FVec Ideal S32x1x128 .f32 :=
  broadcastInDim S32x1x128 ![0, 1, 2] (by decide) (extractStridedSlice S32x1x1 ![0, 0, 8192] (scores pt q w kn cache) (by decide))

theorem first_of (pt : IVec S32x64 32) (q : FVec Ideal S32x1x16x64 .f32) (w : FVec Ideal S32x1x16 .f32) (kn : FVec Ideal S32x1x64 .f32) (cache : FVec Ideal S1x2560x128x64 .f32) (i : S32x1x8192.Idx) :
    first pt q w kn cache i = scores pt q w kn cache (ix3 (i 0) 0 ⟨(i 2).val, by have h : (i 2).val < 8192 := (i 2).isLt; omega⟩) := by
  idx_vars i
  obtain rfl : i1 = 0 := Subsingleton.elim _ _
  unfold first
  generalize scores pt q w kn cache = x
  pointwise []

theorem second_of (pt : IVec S32x64 32) (q : FVec Ideal S32x1x16x64 .f32) (w : FVec Ideal S32x1x16 .f32) (kn : FVec Ideal S32x1x64 .f32) (cache : FVec Ideal S1x2560x128x64 .f32) (i : S32x1x128.Idx) :
    second pt q w kn cache i = scores pt q w kn cache (ix3 (i 0) 0 8192) := by
  idx_vars i
  obtain rfl : i1 = 0 := Subsingleton.elim _ _
  unfold second
  generalize scores pt q w kn cache = x
  pointwise []

theorem firsts {pt pt' : IVec S32x64 32} {q q' : FVec Ideal S32x1x16x64 .f32} {w w' : FVec Ideal S32x1x16 .f32} {kn kn' : FVec Ideal S32x1x64 .f32} {cache cache' : FVec Ideal S1x2560x128x64 .f32}
    (e0 : pt' = pt) (e1 : q' = q) (e2 : w' = w) (e3 : kn' = kn) (e4 : cache' = cache) :
    first pt' q' w' kn' cache' = fun i => scores pt q w kn cache (ix3 (i 0) 0 ⟨(i 2).val, by have h : (i 2).val < 8192 := (i 2).isLt; omega⟩) := by
  subst e0 e1 e2 e3 e4
  exact funext fun i => first_of _ _ _ _ _ i

theorem seconds {pt pt' : IVec S32x64 32} {q q' : FVec Ideal S32x1x16x64 .f32} {w w' : FVec Ideal S32x1x16 .f32} {kn kn' : FVec Ideal S32x1x64 .f32} {cache cache' : FVec Ideal S1x2560x128x64 .f32}
    (e0 : pt' = pt) (e1 : q' = q) (e2 : w' = w) (e3 : kn' = kn) (e4 : cache' = cache) :
    second pt' q' w' kn' cache' = fun i => scores pt q w kn cache (ix3 (i 0) 0 8192) := by
  subst e0 e1 e2 e3 e4
  exact funext fun i => second_of _ _ _ _ _ i

end Cert.ScoresRefIdeal.Spec

namespace Cert.ScoresIdeal.Whole

open Cert.ScoresIdeal Cert.ScoresIdeal.Gen

set_option maxHeartbeats 4000000 in
/-- What a run leaves: the two results as the closed arrays, and the arguments as they were. -/
theorem results (m : (ℓ : Loc nD τ sig) → Buf (Elt Ideal) ℓ) (ρ : Dev nD → PrngReg) (hO : Ok m) (hp : ∀ c b x, (argP m c (ix2 b x)).toNat < 2560) :
    θ_run defs (onTc (τ := τ) (main (F := Ideal))) ⟨m, fun _ => 0, ρ⟩ (fun r => ∀ c : Dev nD,
      r.2.mem ((c.tc : Thread nD τ).loc main_v5_0) = out35 m c
      ∧ r.2.mem ((c.tc : Thread nD τ).loc main_v5_1) = out36 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 35).trans (written35 m hO c (hp c)), ((h c).1 36).trans (written36 m hO c),
    ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c)⟩) (run_main m ρ hO)

end Cert.ScoresIdeal.Whole
-- ==== Proof.ScoresClaims.lean ====
/- What the precondition says of the table, and the frames of both programs. -/
module

public import proofs.«01_k».proof.Proof.ScoresBlocks
public import proofs.«01_k».proof.Proof.ScFrame
public import proofs.«01_k».proof.Proof.Gen.Scores

@[expose] public section

set_option maxRecDepth 16384

noncomputable section

open Idealize.ShloMosaic Idealize.ShloMosaic.TcCoe Idealize.SL.Sem
open Idealize.ShloMosaic.Pipeline (Dat)

namespace Cert.Pre_pages_in_pool.Gen

instance facts : Cert.Pre_pages_in_pool.Facts where
  bcast_S_S32x64 := by decide
  reducesTo_S32x64_S_d0_1 := by decide
  h_S_ := by decide

end Cert.Pre_pages_in_pool.Gen

namespace Cert.ScoresClaims

/-- A conjunction of bits that is set has every bit set. -/
theorem all_set {ι : Type} [DecidableEq ι] (S : Finset ι) (f : ι → BitVec 1) (h : S.fold IntOp.andi 1#1 f = 1#1) : ∀ i ∈ S, f i = 1#1 := by
  induction S using Finset.cons_induction with
  | empty => exact fun i hi => absurd hi (Finset.notMem_empty i)
  | cons a S ha ih =>
    rw [Finset.fold_cons] at h
    have hb : ∀ x y : BitVec 1, IntOp.andi x y = 1#1 → x = 1#1 ∧ y = 1#1 := by decide
    obtain ⟨h1, h2⟩ := hb _ _ h
    intro i hi
    rcases Finset.mem_cons.1 hi with e | e
    · rw [e]; exact h1
    · exact ih h2 i e

/-- What the precondition says of the table's entries. -/
theorem entries {F : FTy → Type} [FloatOps F] (pt : IVec Cert.Pre_pages_in_pool.S32x64 32) (q w k cache)
    (h : Cert.Pre_pages_in_pool.fn (F := F) pt q w k cache = fun _ => 1#1) (b : Fin 32) (x : Fin 64) : (pt (ix2 b x)).toNat < 2560 := by
  classical
  have h0 := congrFun h (fun a => a.elim0)
  unfold Cert.Pre_pages_in_pool.fn at h0
  dsimp only at h0
  rw [Host.reduce_eq_fold] at h0
  have h1 := all_set _ _ h0 (ix2 b x) (Finset.mem_filter.2 ⟨Finset.mem_univ _, funext fun a => a.elim0⟩)
  have h2 : IntOp.andi (IntOp.cmpi .sge (pt (ix2 b x)) 0#32) (IntOp.cmpi .slt (pt (ix2 b x)) (BitVec.ofNat 32 2560)) = 1#1 := h1
  rw [WordCmp.andi_sge_zero_slt_ofNat (by decide)] at h2
  by_contra hc
  rw [decide_eq_false hc] at h2
  exact absurd h2 (by decide)

theorem table_ok {F : FTy → Type} [FloatOps F] (m : (ℓ : Loc Cert.ScoresIdeal.nD Cert.ScoresIdeal.τ Cert.ScoresIdeal.sig) → Buf (Elt F) ℓ)
    (h : ∀ (b : Fin 32) (x : Fin 64), ((m (((0 : Dev Cert.ScoresIdeal.nD) : Thread Cert.ScoresIdeal.nD Cert.ScoresIdeal.τ).loc Cert.ScoresIdeal.main_arg0) : IVec Cert.ScoresIdeal.S32x64 32) (ix2 b x)).toNat < 2560) : Cert.ScoresIdeal.Gen.Ok m :=
  Cert.ScoresIdeal.Whole.ok_of _ fun b x => by
    have e : (Cert.ScoresIdeal.Gen.tbl m 0 : IVec Cert.ScoresIdeal.S32x64 32) = m (((0 : Dev Cert.ScoresIdeal.nD) : Thread Cert.ScoresIdeal.nD Cert.ScoresIdeal.τ).loc Cert.ScoresIdeal.main_arg0) := Cert.ScoresIdeal.Gen.V_main_arg0 m 0
    exact lt_of_eq_of_lt (congrArg (fun f : IVec Cert.ScoresIdeal.S32x64 32 => (f (ix2 b x)).toNat) e) (h b x)

theorem ideal : Cert.quiescent_ScoresIdeal := fun m ρ hpre =>
  Cert.ScoresIdeal.Whole.frame m ρ (table_ok m fun b x => entries _ _ _ _ _ (hpre 0) b x)

set_option maxHeartbeats 40000000 in
/-- The two programs' body tables are one text. -/
theorem bodies : (Cert.Scores.defs₀ (F := Bits)) = Cert.ScoresIdeal.defs₀ (F := Bits) := by
  unfold Cert.Scores.defs₀ Cert.ScoresIdeal.defs₀
  congr 1
  funext x y
  match x, y with
  | 0, (t, s) => rfl
  | ⟨_ + 1, h⟩, _ => exact absurd h (Nat.not_lt.2 (Nat.le_add_left _ _))

set_option maxHeartbeats 40000000 in
theorem tables : (Cert.Scores.defs (F := Bits)) = Cert.ScoresIdeal.defs (F := Bits) := by
  unfold Cert.Scores.defs Cert.ScoresIdeal.defs
  exact congrArg (Pipeline.defs _) bodies

set_option maxHeartbeats 40000000 in
theorem kernel : Cert.quiescent_Scores := fun m ρ hpre => by
  rw [tables]
  exact Cert.ScoresIdeal.Whole.frame (F := Bits) m ρ (table_ok m fun b x => entries _ _ _ _ _ (hpre 0) b x)

end Cert.ScoresClaims
-- ==== Proof.ScoresValue.lean ====
/- The value of the indexer's scores: the kernel's results are the reference's. -/
module

public import proofs.«01_k».proof.Proof.ScoresResults
public import proofs.«01_k».proof.Proof.ScoresClaims
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ScoresClaims

set_option maxHeartbeats 4000000 in
theorem algebraic : Cert.algebraic_ScoresIdeal_ScoresRefIdeal := by
  pair_intro
  · have hp : ∀ c b x, (Cert.ScoresIdeal.Whole.argP m c (ix2 b x)).toNat < 2560 := fun c b x => entries _ _ _ _ _ (hpre c) b x
    exact Cert.ScoresIdeal.Whole.results m g (table_ok m (hp 0)) hp
  · run_from Cert.ScoresRefIdeal.Value.run m' g'
    all_goals obtain ⟨e0, e1, e2, e3, e4⟩ := hagree c
    · refine Cert.ScoresRefIdeal.Spec.firsts ?_ ?_ ?_ ?_ ?_
      all_goals first | exact e0 | exact e1 | exact e2 | exact e3 | exact e4 | rfl
    · refine Cert.ScoresRefIdeal.Spec.seconds ?_ ?_ ?_ ?_ ?_
      all_goals first | exact e0 | exact e1 | exact e2 | exact e3 | exact e4 | rfl

theorem reference : Cert.quiescent_ScoresRefIdeal := by
  intro m g _
  run_from Cert.ScoresRefIdeal.Value.run m g
  · exact fun _ => by repeat' constructor
  · exact sem_eq_zero_of_no_sems rfl _

end Cert.ScoresClaims
-- ==== Proof.lean ====
/-
  The certificate: every claim of the programs in Defs.lean, collected from the modules that prove them.
-/
module

public import proofs.«01_k».proof.Defs
public import proofs.«01_k».proof.Proof.Frames
public import proofs.«01_k».proof.Proof.InValue
public import proofs.«01_k».proof.Proof.InSValue
public import proofs.«01_k».proof.Proof.OutValue
public import proofs.«01_k».proof.Proof.MemKvValue
public import proofs.«01_k».proof.Proof.XqValue
public import proofs.«01_k».proof.Proof.CrossValue
public import proofs.«01_k».proof.Proof.GateSValue
public import proofs.«01_k».proof.Proof.GateValue
public import proofs.«01_k».proof.Proof.ScoresValue

@[expose] public section

noncomputable section

namespace Cert.Proof

open Idealize.ShloMosaic Idealize.SL.Sem

theorem claim : Cert.Claim := ⟨Cert.In.Gen.facts,
    Cert.InIdeal.Gen.facts,
    Cert.InRefIdeal.Gen.facts,
    Cert.InS.Gen.facts,
    Cert.InSIdeal.Gen.facts,
    Cert.InSRefIdeal.Gen.facts,
    Cert.Out.Gen.facts,
    Cert.OutIdeal.Gen.facts,
    Cert.OutRefIdeal.Gen.facts,
    Cert.MemKv.Gen.facts,
    Cert.MemKvIdeal.Gen.facts,
    Cert.MemKvRefIdeal.Gen.facts,
    Cert.Xq.Gen.facts,
    Cert.XqIdeal.Gen.facts,
    Cert.XqRefIdeal.Gen.facts,
    Cert.Cross.Gen.facts,
    Cert.CrossIdeal.Gen.facts,
    Cert.CrossRefIdeal.Gen.facts,
    Cert.GateS.Gen.facts,
    Cert.GateSIdeal.Gen.facts,
    Cert.GateSRefIdeal.Gen.facts,
    Cert.Gate.Gen.facts,
    Cert.GateIdeal.Gen.facts,
    Cert.GateRefIdeal.Gen.facts,
    Cert.Scores.Gen.facts,
    Cert.ScoresIdeal.Gen.facts,
    Cert.ScoresRefIdeal.Gen.facts,
    Cert.Pre_pages_in_pool.Gen.facts,
    Cert.InClaims.kernel,
    Cert.InClaims.ideal,
    Cert.Frames.inRef,
    Cert.InSClaims.kernel,
    Cert.InSClaims.ideal,
    Cert.Frames.inSRef,
    Cert.Frames.out,
    Cert.Frames.outIdeal,
    Cert.Frames.outRef,
    Cert.Frames.memKv,
    Cert.Frames.memKvIdeal,
    Cert.Frames.memKvRef,
    Cert.Frames.xq,
    Cert.Frames.xqIdeal,
    Cert.Frames.xqRef,
    Cert.Frames.cross,
    Cert.Frames.crossIdeal,
    Cert.Frames.crossRef,
    Cert.Frames.gateS,
    Cert.Frames.gateSIdeal,
    Cert.Frames.gateSRef,
    Cert.Frames.gate,
    Cert.Frames.gateIdeal,
    Cert.Frames.gateRef,
    Cert.ScoresClaims.kernel,
    Cert.ScoresClaims.ideal,
    Cert.ScoresClaims.reference,
    trivial,
    Cert.InClaims.algebraic,
    trivial,
    Cert.InSClaims.algebraic,
    trivial,
    Cert.OutClaims.algebraic,
    trivial,
    Cert.MemKvClaims.algebraic,
    trivial,
    Cert.XqClaims.algebraic,
    trivial,
    Cert.CrossClaims.algebraic,
    trivial,
    Cert.GateSClaims.algebraic,
    trivial,
    Cert.GateClaims.algebraic,
    trivial,
    Cert.ScoresClaims.algebraic⟩

end Cert.Proof

end
